-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.sign_bit.Statement Cert.KernelIdeal.S16x16x2048 .f32

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v285) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2048x2048 : Shape := ⟨2, ![2048, 2048]⟩
abbrev S8x2048x4096 : Shape := ⟨3, ![8, 2048, 4096]⟩
abbrev S8x4096 : Shape := ⟨2, ![8, 4096]⟩
abbrev S8x2048x2048 : Shape := ⟨3, ![8, 2048, 2048]⟩
abbrev S8x2048 : Shape := ⟨2, ![8, 2048]⟩
abbrev S2048x2 : Shape := ⟨2, ![2048, 2]⟩
abbrev S2048x8 : Shape := ⟨2, ![2048, 8]⟩
abbrev S_ : Shape := ⟨0, ![]⟩

class Facts : Prop where
  bcast_S_S2048x2048 : S_.BroadcastsInDim S2048x2048 (![] : Fin 0 → Fin S2048x2048.rank)
  bcast_S_S8x2048x4096 : S_.BroadcastsInDim S8x2048x4096 (![] : Fin 0 → Fin S8x2048x4096.rank)
  bcast_S_S8x2048x2048 : S_.BroadcastsInDim S8x2048x2048 (![] : Fin 0 → Fin S8x2048x2048.rank)
  bcast_S_S2048x8 : S_.BroadcastsInDim S2048x8 (![] : Fin 0 → Fin S2048x8.rank)

variable [Facts]

def fn {F : FTy → Type} [FloatOps F] (main_arg0 : FVec F S2048x2048 .f32) (main_arg1 : FVec F S8x2048x4096 .f32) (main_arg2 : FVec F S8x4096 .f32) (main_arg3 : FVec F S8x2048x2048 .f32) (main_arg4 : FVec F S8x2048 .f32) (main_arg5 : IVec S2048x2 32) (main_arg6 : FVec F S2048x8 .f32) : IVec S2048x2048 1 × IVec S8x2048x4096 1 × IVec S8x2048x2048 1 × IVec S2048x8 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_v3 : FVec F S8x2048x4096 .f32 := Host.absf main_arg1
  let main_cst_0 : FVec F S_ .f32 := constant S_ .f32 0x7F800000#32
  let main_v4 : FVec F S8x2048x4096 .f32 := broadcastInDim S8x2048x4096 ![] bcast_S_S8x2048x4096 main_cst_0
  let main_v5 : IVec S8x2048x4096 1 := cmpf .olt main_v3 main_v4
  let main_v6 : FVec F S8x2048x2048 .f32 := Host.absf main_arg3
  let main_cst_1 : FVec F S_ .f32 := constant S_ .f32 0x7F800000#32
  let main_v7 : FVec F S8x2048x2048 .f32 := broadcastInDim S8x2048x2048 ![] bcast_S_S8x2048x2048 main_cst_1
  let main_v8 : IVec S8x2048x2048 1 := cmpf .olt main_v6 main_v7
  let main_v9 : FVec F S2048x8 .f32 := Host.absf main_arg6
  let main_cst_2 : FVec F S_ .f32 := constant S_ .f32 0x7F800000#32
  let main_v10 : FVec F S2048x8 .f32 := broadcastInDim S2048x8 ![] bcast_S_S2048x8 main_cst_2
  let main_v11 : IVec S2048x8 1 := cmpf .olt main_v9 main_v10
  (main_v2, main_v5, main_v8, main_v11)
-- ==== Kernel.lean ====
abbrev S2048x2048 : Shape := ⟨2, ![2048, 2048]⟩
abbrev S8x2048x4096 : Shape := ⟨3, ![8, 2048, 4096]⟩
abbrev S8x4096 : Shape := ⟨2, ![8, 4096]⟩
abbrev S8x2048x2048 : Shape := ⟨3, ![8, 2048, 2048]⟩
abbrev S8x2048 : Shape := ⟨2, ![8, 2048]⟩
abbrev S2048x2 : Shape := ⟨2, ![2048, 2]⟩
abbrev S2048x8 : Shape := ⟨2, ![2048, 8]⟩
abbrev S8x8x128 : Shape := ⟨3, ![8, 8, 128]⟩
abbrev S1x256x4096 : Shape := ⟨3, ![1, 256, 4096]⟩
abbrev S1x8x128 : Shape := ⟨3, ![1, 8, 128]⟩
abbrev S1x1x256x4096 : Shape := ⟨4, ![1, 1, 256, 4096]⟩
abbrev S1 : Shape := ⟨1, ![1]⟩
abbrev S1x1x1x1 : Shape := ⟨4, ![1, 1, 1, 1]⟩
abbrev S1x256x2048 : Shape := ⟨3, ![1, 256, 2048]⟩
abbrev S1x1x256x2048 : Shape := ⟨4, ![1, 1, 256, 2048]⟩
abbrev S1x2048x2048 : Shape := ⟨3, ![1, 2048, 2048]⟩
abbrev S256x2048 : Shape := ⟨2, ![256, 2048]⟩
abbrev S1x1x8x128 : Shape := ⟨4, ![1, 1, 8, 128]⟩
abbrev S16x16x2048 : Shape := ⟨3, ![16, 16, 2048]⟩
abbrev S16x2048 : Shape := ⟨2, ![16, 2048]⟩
abbrev S16x1x2048 : Shape := ⟨3, ![16, 1, 2048]⟩
abbrev S8x1x2048 : Shape := ⟨3, ![8, 1, 2048]⟩
abbrev S1x2048x512 : Shape := ⟨3, ![1, 2048, 512]⟩
abbrev S1x512x2048 : Shape := ⟨3, ![1, 512, 2048]⟩
abbrev S1x1x512 : Shape := ⟨3, ![1, 1, 512]⟩
abbrev S1x1x2048 : Shape := ⟨3, ![1, 1, 2048]⟩
abbrev S256x2 : Shape := ⟨2, ![256, 2]⟩
abbrev S256x8 : Shape := ⟨2, ![256, 8]⟩
abbrev S2048x512 : Shape := ⟨2, ![2048, 512]⟩
abbrev S256x512 : Shape := ⟨2, ![256, 512]⟩
abbrev S1x512 : Shape := ⟨2, ![1, 512]⟩
abbrev S512x2048 : Shape := ⟨2, ![512, 2048]⟩
abbrev S1x2048 : Shape := ⟨2, ![1, 2048]⟩
abbrev S256x1 : Shape := ⟨2, ![256, 1]⟩
abbrev S256 : Shape := ⟨1, ![256]⟩

abbrev nBuf : Space → Nat
  | .hbm => 27
  | .vmem => 55
  | .smem => 0
  | _ => 0

abbrev bufTy : (tb : Table) → Fin (tcTables nBuf tb) → BufTy
  | .hbm, ⟨0, _⟩ => ⟨S2048x2048, .f32⟩
  | .hbm, ⟨1, _⟩ => ⟨S8x2048x4096, .f32⟩
  | .hbm, ⟨2, _⟩ => ⟨S8x4096, .f32⟩
  | .hbm, ⟨3, _⟩ => ⟨S8x2048x2048, .f32⟩
  | .hbm, ⟨4, _⟩ => ⟨S8x2048, .f32⟩
  | .hbm, ⟨5, _⟩ => ⟨S2048x2, .i32⟩
  | .hbm, ⟨6, _⟩ => ⟨S2048x8, .f32⟩
  | .hbm, ⟨7, _⟩ => ⟨S8x8x128, .f32⟩
  | .hbm, ⟨8, _⟩ => ⟨S8x8x128, .f32⟩
  | .hbm, ⟨9, _⟩ => ⟨S2048x2048, .f32⟩
  | .hbm, ⟨10, _⟩ => ⟨S1x2048x2048, .f32⟩
  | .hbm, ⟨11, _⟩ => ⟨S1x8x128, .f32⟩
  | .hbm, ⟨12, _⟩ => ⟨S8x2048x2048, .f32⟩
  | .hbm, ⟨13, _⟩ => ⟨S8x2048x2048, .f32⟩
  | .hbm, ⟨14, _⟩ => ⟨S8x2048x2048, .bf16⟩
  | .hbm, ⟨15, _⟩ => ⟨S8x2048x2048, .bf16⟩
  | .hbm, ⟨16, _⟩ => ⟨S8x2048x2048, .bf16⟩
  | .hbm, ⟨17, _⟩ => ⟨S1x2048x2048, .f32⟩
  | .hbm, ⟨18, _⟩ => ⟨S1x2048x2048, .bf16⟩
  | .hbm, ⟨19, _⟩ => ⟨S2048x2048, .bf16⟩
  | .hbm, ⟨20, _⟩ => ⟨S2048x2048, .bf16⟩
  | .hbm, ⟨21, _⟩ => ⟨S8x2048, .f32⟩
  | .hbm, ⟨22, _⟩ => ⟨S8x1x2048, .f32⟩
  | .hbm, ⟨23, _⟩ => ⟨S8x2048, .f32⟩
  | .hbm, ⟨24, _⟩ => ⟨S8x1x2048, .f32⟩
  | .hbm, ⟨25, _⟩ => ⟨S8x1x2048, .f32⟩
  | .hbm, ⟨26, _⟩ => ⟨S2048x2048, .f32⟩
  | .local _ .vmem, ⟨0, _⟩ => ⟨S1x256x4096, .f32⟩
  | .local _ .vmem, ⟨1, _⟩ => ⟨S1x256x4096, .f32⟩
  | .local _ .vmem, ⟨2, _⟩ => ⟨S1x8x128, .f32⟩
  | .local _ .vmem, ⟨3, _⟩ => ⟨S1x8x128, .f32⟩
  | .local _ .vmem, ⟨4, _⟩ => ⟨S1x256x2048, .f32⟩
  | .local _ .vmem, ⟨5, _⟩ => ⟨S1x256x2048, .f32⟩
  | .local _ .vmem, ⟨6, _⟩ => ⟨S1x8x128, .f32⟩
  | .local _ .vmem, ⟨7, _⟩ => ⟨S1x8x128, .f32⟩
  | .local _ .vmem, ⟨8, _⟩ => ⟨S1x256x2048, .f32⟩
  | .local _ .vmem, ⟨9, _⟩ => ⟨S1x256x2048, .f32⟩
  | .local _ .vmem, ⟨10, _⟩ => ⟨S1x8x128, .f32⟩
  | .local _ .vmem, ⟨11, _⟩ => ⟨S1x256x2048, .f32⟩
  | .local _ .vmem, ⟨12, _⟩ => ⟨S1x256x2048, .f32⟩
  | .local _ .vmem, ⟨13, _⟩ => ⟨S1x8x128, .f32⟩
  | .local _ .vmem, ⟨14, _⟩ => ⟨S1x8x128, .f32⟩
  | .local _ .vmem, ⟨15, _⟩ => ⟨S1x256x2048, .bf16⟩
  | .local _ .vmem, ⟨16, _⟩ => ⟨S1x256x2048, .bf16⟩
  | .local _ .vmem, ⟨17, _⟩ => ⟨S1x256x2048, .f32⟩
  | .local _ .vmem, ⟨18, _⟩ => ⟨S1x256x2048, .f32⟩
  | .local _ .vmem, ⟨19, _⟩ => ⟨S1x8x128, .f32⟩
  | .local _ .vmem, ⟨20, _⟩ => ⟨S1x8x128, .f32⟩
  | .local _ .vmem, ⟨21, _⟩ => ⟨S1x256x2048, .bf16⟩
  | .local _ .vmem, ⟨22, _⟩ => ⟨S1x256x2048, .bf16⟩
  | .local _ .vmem, ⟨23, _⟩ => ⟨S1x256x2048, .f32⟩
  | .local _ .vmem, ⟨24, _⟩ => ⟨S1x256x2048, .f32⟩
  | .local _ .vmem, ⟨25, _⟩ => ⟨S1x8x128, .f32⟩
  | .local _ .vmem, ⟨26, _⟩ => ⟨S1x8x128, .f32⟩
  | .local _ .vmem, ⟨27, _⟩ => ⟨S1x256x2048, .bf16⟩
  | .local _ .vmem, ⟨28, _⟩ => ⟨S1x256x2048, .bf16⟩
  | .local _ .vmem, ⟨29, _⟩ => ⟨S1x256x2048, .f32⟩
  | .local _ .vmem, ⟨30, _⟩ => ⟨S1x256x2048, .f32⟩
  | .local _ .vmem, ⟨31, _⟩ => ⟨S1x8x128, .f32⟩
  | .local _ .vmem, ⟨32, _⟩ => ⟨S1x256x2048, .bf16⟩
  | .local _ .vmem, ⟨33, _⟩ => ⟨S1x256x2048, .bf16⟩
  | .local _ .vmem, ⟨34, _⟩ => ⟨S256x2048, .bf16⟩
  | .local _ .vmem, ⟨35, _⟩ => ⟨S256x2048, .bf16⟩
  | .local _ .vmem, ⟨36, _⟩ => ⟨S1x2048x512, .bf16⟩
  | .local _ .vmem, ⟨37, _⟩ => ⟨S1x2048x512, .bf16⟩
  | .local _ .vmem, ⟨38, _⟩ => ⟨S1x2048x512, .bf16⟩
  | .local _ .vmem, ⟨39, _⟩ => ⟨S1x2048x512, .bf16⟩
  | .local _ .vmem, ⟨40, _⟩ => ⟨S1x512x2048, .bf16⟩
  | .local _ .vmem, ⟨41, _⟩ => ⟨S1x512x2048, .bf16⟩
  | .local _ .vmem, ⟨42, _⟩ => ⟨S1x1x512, .f32⟩
  | .local _ .vmem, ⟨43, _⟩ => ⟨S1x1x512, .f32⟩
  | .local _ .vmem, ⟨44, _⟩ => ⟨S1x1x512, .f32⟩
  | .local _ .vmem, ⟨45, _⟩ => ⟨S1x1x512, .f32⟩
  | .local _ .vmem, ⟨46, _⟩ => ⟨S1x1x2048, .f32⟩
  | .local _ .vmem, ⟨47, _⟩ => ⟨S1x1x2048, .f32⟩
  | .local _ .vmem, ⟨48, _⟩ => ⟨S256x2, .i32⟩
  | .local _ .vmem, ⟨49, _⟩ => ⟨S256x2, .i32⟩
  | .local _ .vmem, ⟨50, _⟩ => ⟨S256x8, .f32⟩
  | .local _ .vmem, ⟨51, _⟩ => ⟨S256x8, .f32⟩
  | .local _ .vmem, ⟨52, _⟩ => ⟨S256x2048, .f32⟩
  | .local _ .vmem, ⟨53, _⟩ => ⟨S256x2048, .f32⟩
  | .local _ .vmem, ⟨54, _⟩ => ⟨S2048x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | _, _ => false

abbrev semScoped : Fin 0 → Bool
  | ⟨_, h⟩ => absurd h (Nat.not_lt_zero _)

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  ofTc nBuf bufTy 0 54 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc3_stg0_0 : Ref sig .tc := ⟨.vmem, 11, rfl⟩
abbrev cc3_stg0_1 : Ref sig .tc := ⟨.vmem, 12, rfl⟩
abbrev cc3_stg1_0 : Ref sig .tc := ⟨.vmem, 13, rfl⟩
abbrev cc3_stg1_1 : Ref sig .tc := ⟨.vmem, 14, rfl⟩
abbrev cc3_stg2_0 : Ref sig .tc := ⟨.vmem, 15, rfl⟩
abbrev cc3_stg2_1 : Ref sig .tc := ⟨.vmem, 16, rfl⟩
abbrev cc4_stg0_0 : Ref sig .tc := ⟨.vmem, 17, rfl⟩
abbrev cc4_stg0_1 : Ref sig .tc := ⟨.vmem, 18, rfl⟩
abbrev cc4_stg1_0 : Ref sig .tc := ⟨.vmem, 19, rfl⟩
abbrev cc4_stg1_1 : Ref sig .tc := ⟨.vmem, 20, rfl⟩
abbrev cc4_stg2_0 : Ref sig .tc := ⟨.vmem, 21, rfl⟩
abbrev cc4_stg2_1 : Ref sig .tc := ⟨.vmem, 22, rfl⟩
abbrev cc5_stg0_0 : Ref sig .tc := ⟨.vmem, 23, rfl⟩
abbrev cc5_stg0_1 : Ref sig .tc := ⟨.vmem, 24, rfl⟩
abbrev cc5_stg1_0 : Ref sig .tc := ⟨.vmem, 25, rfl⟩
abbrev cc5_stg1_1 : Ref sig .tc := ⟨.vmem, 26, rfl⟩
abbrev cc5_stg2_0 : Ref sig .tc := ⟨.vmem, 27, rfl⟩
abbrev cc5_stg2_1 : Ref sig .tc := ⟨.vmem, 28, rfl⟩
abbrev cc6_stg0_0 : Ref sig .tc := ⟨.vmem, 29, rfl⟩
abbrev cc6_stg0_1 : Ref sig .tc := ⟨.vmem, 30, rfl⟩
abbrev cc6_stg1_0 : Ref sig .tc := ⟨.vmem, 31, rfl⟩
abbrev cc6_stg2_0 : Ref sig .tc := ⟨.vmem, 32, rfl⟩
abbrev cc6_stg2_1 : Ref sig .tc := ⟨.vmem, 33, rfl⟩
abbrev cc7_stg0_0 : Ref sig .tc := ⟨.vmem, 34, rfl⟩
abbrev cc7_stg0_1 : Ref sig .tc := ⟨.vmem, 35, rfl⟩
abbrev cc7_stg1_0 : Ref sig .tc := ⟨.vmem, 36, rfl⟩
abbrev cc7_stg1_1 : Ref sig .tc := ⟨.vmem, 37, rfl⟩
abbrev cc7_stg2_0 : Ref sig .tc := ⟨.vmem, 38, rfl⟩
abbrev cc7_stg2_1 : Ref sig .tc := ⟨.vmem, 39, rfl⟩
abbrev cc7_stg3_0 : Ref sig .tc := ⟨.vmem, 40, rfl⟩
abbrev cc7_stg3_1 : Ref sig .tc := ⟨.vmem, 41, rfl⟩
abbrev cc7_stg4_0 : Ref sig .tc := ⟨.vmem, 42, rfl⟩
abbrev cc7_stg4_1 : Ref sig .tc := ⟨.vmem, 43, rfl⟩
abbrev cc7_stg5_0 : Ref sig .tc := ⟨.vmem, 44, rfl⟩
abbrev cc7_stg5_1 : Ref sig .tc := ⟨.vmem, 45, rfl⟩
abbrev cc7_stg6_0 : Ref sig .tc := ⟨.vmem, 46, rfl⟩
abbrev cc7_stg6_1 : Ref sig .tc := ⟨.vmem, 47, rfl⟩
abbrev cc7_stg7_0 : Ref sig .tc := ⟨.vmem, 48, rfl⟩
abbrev cc7_stg7_1 : Ref sig .tc := ⟨.vmem, 49, rfl⟩
abbrev cc7_stg8_0 : Ref sig .tc := ⟨.vmem, 50, rfl⟩
abbrev cc7_stg8_1 : Ref sig .tc := ⟨.vmem, 51, rfl⟩
abbrev cc7_stg9_0 : Ref sig .tc := ⟨.vmem, 52, rfl⟩
abbrev cc7_stg9_1 : Ref sig .tc := ⟨.vmem, 53, rfl⟩
abbrev cc7_scratch0 : Ref sig .tc := ⟨.vmem, 54, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc2_sem0_0 : DmaSem sig := 8
abbrev cc2_sem0_1 : DmaSem sig := 9
abbrev cc2_sem1_0 : DmaSem sig := 10
abbrev cc3_sem0_0 : DmaSem sig := 11
abbrev cc3_sem0_1 : DmaSem sig := 12
abbrev cc3_sem1_0 : DmaSem sig := 13
abbrev cc3_sem1_1 : DmaSem sig := 14
abbrev cc3_sem2_0 : DmaSem sig := 15
abbrev cc3_sem2_1 : DmaSem sig := 16
abbrev cc4_sem0_0 : DmaSem sig := 17
abbrev cc4_sem0_1 : DmaSem sig := 18
abbrev cc4_sem1_0 : DmaSem sig := 19
abbrev cc4_sem1_1 : DmaSem sig := 20
abbrev cc4_sem2_0 : DmaSem sig := 21
abbrev cc4_sem2_1 : DmaSem sig := 22
abbrev cc5_sem0_0 : DmaSem sig := 23
abbrev cc5_sem0_1 : DmaSem sig := 24
abbrev cc5_sem1_0 : DmaSem sig := 25
abbrev cc5_sem1_1 : DmaSem sig := 26
abbrev cc5_sem2_0 : DmaSem sig := 27
abbrev cc5_sem2_1 : DmaSem sig := 28
abbrev cc6_sem0_0 : DmaSem sig := 29
abbrev cc6_sem0_1 : DmaSem sig := 30
abbrev cc6_sem1_0 : DmaSem sig := 31
abbrev cc6_sem2_0 : DmaSem sig := 32
abbrev cc6_sem2_1 : DmaSem sig := 33
abbrev cc7_sem0_0 : DmaSem sig := 34
abbrev cc7_sem0_1 : DmaSem sig := 35
abbrev cc7_sem1_0 : DmaSem sig := 36
abbrev cc7_sem1_1 : DmaSem sig := 37
abbrev cc7_sem2_0 : DmaSem sig := 38
abbrev cc7_sem2_1 : DmaSem sig := 39
abbrev cc7_sem3_0 : DmaSem sig := 40
abbrev cc7_sem3_1 : DmaSem sig := 41
abbrev cc7_sem4_0 : DmaSem sig := 42
abbrev cc7_sem4_1 : DmaSem sig := 43
abbrev cc7_sem5_0 : DmaSem sig := 44
abbrev cc7_sem5_1 : DmaSem sig := 45
abbrev cc7_sem6_0 : DmaSem sig := 46
abbrev cc7_sem6_1 : DmaSem sig := 47
abbrev cc7_sem7_0 : DmaSem sig := 48
abbrev cc7_sem7_1 : DmaSem sig := 49
abbrev cc7_sem8_0 : DmaSem sig := 50
abbrev cc7_sem8_1 : DmaSem sig := 51
abbrev cc7_sem9_0 : DmaSem sig := 52
abbrev cc7_sem9_1 : DmaSem sig := 53

abbrev nD : Nat := 1
abbrev τ : Topo := Topo.v7x

variable {F : FTy → Type} [BitOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨2, ![8, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x256x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x8x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev grid2 : Pipeline.Grid := ⟨2, ![1, 8], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x256x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S1x8x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![true, false]

abbrev grid3 : Pipeline.Grid := ⟨2, ![8, 8], ![false, false]⟩

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage3_0 : Fin 2 → Memref sig .tc .vmem S1x256x2048 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1x8x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S1x256x2048 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev grid4 : Pipeline.Grid := ⟨2, ![8, 8], ![false, false]⟩

def cc4_transform_0 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc4_transform_1 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc4_transform_2 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage4_0 : Fin 2 → Memref sig .tc .vmem S1x256x2048 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S1x8x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, false]

abbrev stage4_2 : Fin 2 → Memref sig .tc .vmem S1x256x2048 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev grid5 : Pipeline.Grid := ⟨2, ![8, 8], ![false, false]⟩

def cc5_transform_0 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc5_transform_1 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc5_transform_2 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage5_0 : Fin 2 → Memref sig .tc .vmem S1x256x2048 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, true]

abbrev stage5_1 : Fin 2 → Memref sig .tc .vmem S1x8x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true, false]

abbrev stage5_2 : Fin 2 → Memref sig .tc .vmem S1x256x2048 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]

abbrev grid6 : Pipeline.Grid := ⟨2, ![1, 8], ![false, false]⟩

def cc6_transform_0 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc6_transform_1 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc6_transform_2 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage6_0 : Fin 2 → Memref sig .tc .vmem S1x256x2048 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, true]

abbrev stage6_1 : Fin 1 → Memref sig .tc .vmem S1x8x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![true, false]

abbrev stage6_2 : Fin 2 → Memref sig .tc .vmem S1x256x2048 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true]

abbrev grid7 : Pipeline.Grid := ⟨3, ![8, 4, 8], ![false, false, false]⟩

def k7_cond1 (i : grid7.Coords) : BitVec 1 :=
  let arg0 : BitVec 32 := BitVec.ofNat 32 (i 0).val
  let c0_i32_39 : BitVec 32 := 0#32
  let v86 : BitVec 1 := Scalar.cmpi .eq arg0 c0_i32_39
  let arg1 : BitVec 32 := BitVec.ofNat 32 (i 1).val
  let c0_i32_40 : BitVec 32 := 0#32
  let v87 : BitVec 1 := Scalar.cmpi .eq arg1 c0_i32_40
  let v88 : BitVec 1 := Scalar.andi v86 v87
  let v89 : BitVec 32 := Scalar.extui v88
  let c0_i32_41 : BitVec 32 := 0#32
  let v90 : BitVec 1 := Scalar.cmpi .ne v89 c0_i32_41
  v90

def k7_off1 (i : grid7.Coords) : Fin 2 → Nat :=
  let arg2 : BitVec 32 := BitVec.ofNat 32 (i 2).val
  let c256_i32 : BitVec 32 := 256#32
  let v85 : BitVec 32 := Scalar.muli arg2 c256_i32
  let v99 : Index := Scalar.indexCast v85
  let c0_48 : Index := 0#32
  ![v99.toNat, 0]
def k7_cond2 (i : grid7.Coords) : BitVec 1 :=
  let arg0 : BitVec 32 := BitVec.ofNat 32 (i 0).val
  let c0_i32_42 : BitVec 32 := 0#32
  let v91 : BitVec 1 := Scalar.cmpi .sgt arg0 c0_i32_42
  let arg1 : BitVec 32 := BitVec.ofNat 32 (i 1).val
  let c0_i32_43 : BitVec 32 := 0#32
  let v92 : BitVec 1 := Scalar.cmpi .sgt arg1 c0_i32_43
  let v93 : BitVec 1 := Scalar.ori v91 v92
  let v94 : BitVec 32 := Scalar.extui v93
  let c0_i32_44 : BitVec 32 := 0#32
  let v95 : BitVec 1 := Scalar.cmpi .ne v94 c0_i32_44
  v95

def k7_off2 (i : grid7.Coords) : Fin 2 → Nat :=
  let arg2 : BitVec 32 := BitVec.ofNat 32 (i 2).val
  let c256_i32 : BitVec 32 := 256#32
  let v85 : BitVec 32 := Scalar.muli arg2 c256_i32
  let v99 : Index := Scalar.indexCast v85
  let c0_48 : Index := 0#32
  ![v99.toNat, 0]
def k7_off3 (i : grid7.Coords) : Fin 2 → Nat :=
  let arg2 : BitVec 32 := BitVec.ofNat 32 (i 2).val
  let c256_i32 : BitVec 32 := 256#32
  let v85 : BitVec 32 := Scalar.muli arg2 c256_i32
  let v96 : Index := Scalar.indexCast v85
  let c0_45 : Index := 0#32
  ![v96.toNat, 0]
def cc7_transform_0 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc7_transform_1 (i : grid7.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc7_transform_2 (i : grid7.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc7_transform_3 (i : grid7.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc7_transform_4 (i : grid7.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc7_transform_5 (i : grid7.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc7_transform_6 (i : grid7.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc7_transform_7 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc7_transform_8 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc7_transform_9 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

abbrev stage7_0 : Fin 2 → Memref sig .tc .vmem S256x2048 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![false, false, true]

abbrev stage7_1 : Fin 2 → Memref sig .tc .vmem S1x2048x512 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true, true, false]

abbrev stage7_2 : Fin 2 → Memref sig .tc .vmem S1x2048x512 .bf16 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true, false]

abbrev stage7_3 : Fin 2 → Memref sig .tc .vmem S1x512x2048 .bf16 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true, true, false]

abbrev stage7_4 : Fin 2 → Memref sig .tc .vmem S1x1x512 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true, true, false]

abbrev stage7_5 : Fin 2 → Memref sig .tc .vmem S1x1x512 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true, true, false]

abbrev stage7_6 : Fin 2 → Memref sig .tc .vmem S1x1x2048 .f32 := fun | 0 => Memref.whole cc7_stg6_0 | 1 => Memref.whole cc7_stg6_1 | ⟨_ + 2, h⟩ => absurd h (Nat.not_lt.2 (Nat.le_add_left _ _))
abbrev sem7_6 : Fin 2 → DmaSem sig := fun | 0 => cc7_sem6_0 | 1 => cc7_sem6_1 | ⟨_ + 2, h⟩ => absurd h (Nat.not_lt.2 (Nat.le_add_left _ _))
abbrev reads7_6 : Fin grid7.rank → Bool := ![true, false, false]

abbrev stage7_7 : Fin 2 → Memref sig .tc .vmem S256x2 .i32 := fun | 0 => Memref.whole cc7_stg7_0 | 1 => Memref.whole cc7_stg7_1 | ⟨_ + 2, h⟩ => absurd h (Nat.not_lt.2 (Nat.le_add_left _ _))
abbrev sem7_7 : Fin 2 → DmaSem sig := fun | 0 => cc7_sem7_0 | 1 => cc7_sem7_1 | ⟨_ + 2, h⟩ => absurd h (Nat.not_lt.2 (Nat.le_add_left _ _))
abbrev reads7_7 : Fin grid7.rank → Bool := ![false, false, true]

abbrev stage7_8 : Fin 2 → Memref sig .tc .vmem S256x8 .f32 := fun | 0 => Memref.whole cc7_stg8_0 | 1 => Memref.whole cc7_stg8_1 | ⟨_ + 2, h⟩ => absurd h (Nat.not_lt.2 (Nat.le_add_left _ _))
abbrev sem7_8 : Fin 2 → DmaSem sig := fun | 0 => cc7_sem8_0 | 1 => cc7_sem8_1 | ⟨_ + 2, h⟩ => absurd h (Nat.not_lt.2 (Nat.le_add_left _ _))
abbrev reads7_8 : Fin grid7.rank → Bool := ![false, false, true]

abbrev stage7_9 : Fin 2 → Memref sig .tc .vmem S256x2048 .f32 := fun | 0 => Memref.whole cc7_stg9_0 | 1 => Memref.whole cc7_stg9_1 | ⟨_ + 2, h⟩ => absurd h (Nat.not_lt.2 (Nat.le_add_left _ _))
abbrev sem7_9 : Fin 2 → DmaSem sig := fun | 0 => cc7_sem9_0 | 1 => cc7_sem9_1 | ⟨_ + 2, h⟩ => absurd h (Nat.not_lt.2 (Nat.le_add_left _ _))
abbrev reads7_9 : Fin grid7.rank → Bool := ![false, false, true]
-- ==== KernelIdeal.lean ====
variable {F : FTy → Type} [FloatOps F]
-- ==== ReferenceIdeal.lean ====
abbrev S2048x2048 : Shape := ⟨2, ![2048, 2048]⟩
abbrev S8x2048x4096 : Shape := ⟨3, ![8, 2048, 4096]⟩
abbrev S8x4096 : Shape := ⟨2, ![8, 4096]⟩
abbrev S8x2048x2048 : Shape := ⟨3, ![8, 2048, 2048]⟩
abbrev S8x2048 : Shape := ⟨2, ![8, 2048]⟩
abbrev S2048x2 : Shape := ⟨2, ![2048, 2]⟩
abbrev S2048x8 : Shape := ⟨2, ![2048, 8]⟩
abbrev S8x4096x2048 : Shape := ⟨3, ![8, 4096, 2048]⟩
abbrev S1x2048x2048 : Shape := ⟨3, ![1, 2048, 2048]⟩
abbrev S_ : Shape := ⟨0, ![]⟩
abbrev S8 : Shape := ⟨1, ![8]⟩
abbrev S8x1x1 : Shape := ⟨3, ![8, 1, 1]⟩
abbrev S1 : Shape := ⟨1, ![1]⟩
abbrev S1x1x1 : Shape := ⟨3, ![1, 1, 1]⟩
abbrev S8x4096x128x16 : Shape := ⟨4, ![8, 4096, 128, 16]⟩
abbrev S8x4096x128 : Shape := ⟨3, ![8, 4096, 128]⟩
abbrev S8x2048x128x16 : Shape := ⟨4, ![8, 2048, 128, 16]⟩
abbrev S8x2048x128 : Shape := ⟨3, ![8, 2048, 128]⟩
abbrev S1x2048x128x16 : Shape := ⟨4, ![1, 2048, 128, 16]⟩
abbrev S1x2048x128 : Shape := ⟨3, ![1, 2048, 128]⟩
abbrev S8x1x1x1 : Shape := ⟨4, ![8, 1, 1, 1]⟩
abbrev S8x4096x128x1 : Shape := ⟨4, ![8, 4096, 128, 1]⟩
abbrev S8x2048x128x1 : Shape := ⟨4, ![8, 2048, 128, 1]⟩
abbrev S1x1x1x1 : Shape := ⟨4, ![1, 1, 1, 1]⟩
abbrev S1x2048x128x1 : Shape := ⟨4, ![1, 2048, 128, 1]⟩
abbrev S2048x2x1 : Shape := ⟨3, ![2048, 2, 1]⟩
abbrev S2048 : Shape := ⟨1, ![2048]⟩
abbrev S2048x1 : Shape := ⟨2, ![2048, 1]⟩
abbrev S2048x2x2 : Shape := ⟨3, ![2048, 2, 2]⟩
abbrev S8x1x2048 : Shape := ⟨3, ![8, 1, 2048]⟩
abbrev S8x2048x1 : Shape := ⟨3, ![8, 2048, 1]⟩

abbrev nBuf : Space → Nat
  | .hbm => 407
  | .vmem => 9
  | .smem => 0
  | _ => 0

abbrev hbmTy0_0 (i : Nat) : BufTy := match i % 128 with
  | 0 => ⟨S2048x2048, .f32⟩
  | 1 => ⟨S8x2048x4096, .f32⟩
  | 2 => ⟨S8x4096, .f32⟩
  | 3 => ⟨S8x2048x2048, .f32⟩
  | 4 => ⟨S8x2048, .f32⟩
  | 5 => ⟨S2048x2, .i32⟩
  | 6 => ⟨S2048x8, .f32⟩
  | 7 => ⟨S8x2048x2048, .f32⟩
  | 8 => ⟨S8x2048x2048, .f32⟩
  | 9 => ⟨S8x2048x4096, .f32⟩
  | 10 => ⟨S8x4096x2048, .f32⟩
  | 11 => ⟨S8x2048x2048, .f32⟩
  | 12 => ⟨S1x2048x2048, .f32⟩
  | 13 => ⟨S8x4096x2048, .f32⟩
  | 14 => ⟨S_, .f32⟩
  | 15 => ⟨S8, .f32⟩
  | 16 => ⟨S8x1x1, .f32⟩
  | 17 => ⟨S_, .f32⟩
  | 18 => ⟨S8x1x1, .f32⟩
  | 19 => ⟨S8x1x1, .f32⟩
  | 20 => ⟨S_, .f32⟩
  | 21 => ⟨S8x1x1, .f32⟩
  | 22 => ⟨S8x1x1, .f32⟩
  | 23 => ⟨S8x2048x2048, .f32⟩
  | 24 => ⟨S_, .f32⟩
  | 25 => ⟨S8, .f32⟩
  | 26 => ⟨S8x1x1, .f32⟩
  | 27 => ⟨S_, .f32⟩
  | 28 => ⟨S8x1x1, .f32⟩
  | 29 => ⟨S8x1x1, .f32⟩
  | 30 => ⟨S_, .f32⟩
  | 31 => ⟨S8x1x1, .f32⟩
  | 32 => ⟨S8x1x1, .f32⟩
  | 33 => ⟨S1x2048x2048, .f32⟩
  | 34 => ⟨S_, .f32⟩
  | 35 => ⟨S1, .f32⟩
  | 36 => ⟨S1x1x1, .f32⟩
  | 37 => ⟨S_, .f32⟩
  | 38 => ⟨S1x1x1, .f32⟩
  | 39 => ⟨S1x1x1, .f32⟩
  | 40 => ⟨S_, .f32⟩
  | 41 => ⟨S1x1x1, .f32⟩
  | 42 => ⟨S1x1x1, .f32⟩
  | 43 => ⟨S8x4096x128x16, .f32⟩
  | 44 => ⟨S8x4096x128x16, .f32⟩
  | 45 => ⟨S_, .f32⟩
  | 46 => ⟨S8x4096x128, .f32⟩
  | 47 => ⟨S8x2048x128x16, .f32⟩
  | 48 => ⟨S8x2048x128x16, .f32⟩
  | 49 => ⟨S_, .f32⟩
  | 50 => ⟨S8x2048x128, .f32⟩
  | 51 => ⟨S1x2048x128x16, .f32⟩
  | 52 => ⟨S1x2048x128x16, .f32⟩
  | 53 => ⟨S_, .f32⟩
  | 54 => ⟨S1x2048x128, .f32⟩
  | 55 => ⟨S8x4096x128, .f32⟩
  | 56 => ⟨S8x2048x128, .f32⟩
  | 57 => ⟨S1x2048x128, .f32⟩
  | 58 => ⟨S8x4096x128x16, .f32⟩
  | 59 => ⟨S8x1x1x1, .f32⟩
  | 60 => ⟨S_, .f32⟩
  | 61 => ⟨S8x4096x128, .f32⟩
  | 62 => ⟨S8x4096x128, .i1⟩
  | 63 => ⟨S_, .f32⟩
  | 64 => ⟨S8x4096x128, .f32⟩
  | 65 => ⟨S8x4096x128, .f32⟩
  | 66 => ⟨S8x4096x128x1, .f32⟩
  | 67 => ⟨S8x4096x128x16, .f32⟩
  | 68 => ⟨S8x4096x128x16, .f32⟩
  | 69 => ⟨S8x4096x128x16, .f32⟩
  | 70 => ⟨S8x4096x128x16, .f32⟩
  | 71 => ⟨S8x4096x128x16, .f32⟩
  | 72 => ⟨S8x4096x128x16, .f32⟩
  | 73 => ⟨S_, .f32⟩
  | 74 => ⟨S8x4096x128x16, .f32⟩
  | 75 => ⟨S8x4096x128x16, .f32⟩
  | 76 => ⟨S_, .f32⟩
  | 77 => ⟨S8x4096x128x16, .f32⟩
  | 78 => ⟨S8x4096x128x16, .f32⟩
  | 79 => ⟨S_, .f32⟩
  | 80 => ⟨S8x4096x128x16, .f32⟩
  | 81 => ⟨S_, .f32⟩
  | 82 => ⟨S8x4096x128x16, .f32⟩
  | 83 => ⟨S8x4096x128x16, .i1⟩
  | 84 => ⟨S_, .f32⟩
  | 85 => ⟨S8x4096x128x16, .f32⟩
  | 86 => ⟨S8x4096x128x16, .f32⟩
  | 87 => ⟨S_, .f32⟩
  | 88 => ⟨S8x4096x128x16, .f32⟩
  | 89 => ⟨S8x4096x128x16, .i1⟩
  | 90 => ⟨S_, .f32⟩
  | 91 => ⟨S8x4096x128x16, .f32⟩
  | 92 => ⟨S8x4096x128x16, .f32⟩
  | 93 => ⟨S_, .f32⟩
  | 94 => ⟨S8x4096x128x16, .f32⟩
  | 95 => ⟨S8x4096x128x16, .i1⟩
  | 96 => ⟨S_, .f32⟩
  | 97 => ⟨S8x4096x128x16, .f32⟩
  | 98 => ⟨S8x4096x128x16, .f32⟩
  | 99 => ⟨S_, .f32⟩
  | 100 => ⟨S8x4096x128x16, .f32⟩
  | 101 => ⟨S8x4096x128x16, .i1⟩
  | 102 => ⟨S_, .f32⟩
  | 103 => ⟨S8x4096x128x16, .f32⟩
  | 104 => ⟨S8x4096x128x16, .f32⟩
  | 105 => ⟨S_, .f32⟩
  | 106 => ⟨S8x4096x128x16, .f32⟩
  | 107 => ⟨S8x4096x128x16, .i1⟩
  | 108 => ⟨S_, .f32⟩
  | 109 => ⟨S8x4096x128x16, .f32⟩
  | 110 => ⟨S8x4096x128x16, .f32⟩
  | 111 => ⟨S_, .f32⟩
  | 112 => ⟨S8x4096x128x16, .f32⟩
  | 113 => ⟨S8x4096x128x16, .i1⟩
  | 114 => ⟨S_, .f32⟩
  | 115 => ⟨S8x4096x128x16, .f32⟩
  | 116 => ⟨S8x4096x128x16, .f32⟩
  | 117 => ⟨S_, .f32⟩
  | 118 => ⟨S8x4096x128x16, .f32⟩
  | 119 => ⟨S8x4096x128x16, .i1⟩
  | 120 => ⟨S_, .f32⟩
  | 121 => ⟨S8x4096x128x16, .f32⟩
  | 122 => ⟨S8x4096x128x16, .f32⟩
  | 123 => ⟨S8x4096x128x16, .f32⟩
  | 124 => ⟨S8x4096x128x16, .f32⟩
  | 125 => ⟨S8x4096x128x16, .f32⟩
  | 126 => ⟨S8x4096x128x16, .f32⟩
  | 127 => ⟨S8x4096x128x16, .f32⟩
  | _ => ⟨S2048x2048, .f32⟩

abbrev hbmTy0_1 (i : Nat) : BufTy := match i % 128 with
  | 0 => ⟨S8x4096x128x1, .f32⟩
  | 1 => ⟨S_, .f32⟩
  | 2 => ⟨S8x4096x128x1, .f32⟩
  | 3 => ⟨S8x4096x128x1, .i1⟩
  | 4 => ⟨S8x4096x128x16, .i1⟩
  | 5 => ⟨S_, .f32⟩
  | 6 => ⟨S8x4096x128x16, .f32⟩
  | 7 => ⟨S8x4096x128x16, .f32⟩
  | 8 => ⟨S8x4096x2048, .f32⟩
  | 9 => ⟨S8x4096x2048, .f32⟩
  | 10 => ⟨S8x4096x2048, .f32⟩
  | 11 => ⟨S8x2048x128x16, .f32⟩
  | 12 => ⟨S8x1x1x1, .f32⟩
  | 13 => ⟨S_, .f32⟩
  | 14 => ⟨S8x2048x128, .f32⟩
  | 15 => ⟨S8x2048x128, .i1⟩
  | 16 => ⟨S_, .f32⟩
  | 17 => ⟨S8x2048x128, .f32⟩
  | 18 => ⟨S8x2048x128, .f32⟩
  | 19 => ⟨S8x2048x128x1, .f32⟩
  | 20 => ⟨S8x2048x128x16, .f32⟩
  | 21 => ⟨S8x2048x128x16, .f32⟩
  | 22 => ⟨S8x2048x128x16, .f32⟩
  | 23 => ⟨S8x2048x128x16, .f32⟩
  | 24 => ⟨S8x2048x128x16, .f32⟩
  | 25 => ⟨S8x2048x128x16, .f32⟩
  | 26 => ⟨S_, .f32⟩
  | 27 => ⟨S8x2048x128x16, .f32⟩
  | 28 => ⟨S8x2048x128x16, .f32⟩
  | 29 => ⟨S_, .f32⟩
  | 30 => ⟨S8x2048x128x16, .f32⟩
  | 31 => ⟨S8x2048x128x16, .f32⟩
  | 32 => ⟨S_, .f32⟩
  | 33 => ⟨S8x2048x128x16, .f32⟩
  | 34 => ⟨S_, .f32⟩
  | 35 => ⟨S8x2048x128x16, .f32⟩
  | 36 => ⟨S8x2048x128x16, .i1⟩
  | 37 => ⟨S_, .f32⟩
  | 38 => ⟨S8x2048x128x16, .f32⟩
  | 39 => ⟨S8x2048x128x16, .f32⟩
  | 40 => ⟨S_, .f32⟩
  | 41 => ⟨S8x2048x128x16, .f32⟩
  | 42 => ⟨S8x2048x128x16, .i1⟩
  | 43 => ⟨S_, .f32⟩
  | 44 => ⟨S8x2048x128x16, .f32⟩
  | 45 => ⟨S8x2048x128x16, .f32⟩
  | 46 => ⟨S_, .f32⟩
  | 47 => ⟨S8x2048x128x16, .f32⟩
  | 48 => ⟨S8x2048x128x16, .i1⟩
  | 49 => ⟨S_, .f32⟩
  | 50 => ⟨S8x2048x128x16, .f32⟩
  | 51 => ⟨S8x2048x128x16, .f32⟩
  | 52 => ⟨S_, .f32⟩
  | 53 => ⟨S8x2048x128x16, .f32⟩
  | 54 => ⟨S8x2048x128x16, .i1⟩
  | 55 => ⟨S_, .f32⟩
  | 56 => ⟨S8x2048x128x16, .f32⟩
  | 57 => ⟨S8x2048x128x16, .f32⟩
  | 58 => ⟨S_, .f32⟩
  | 59 => ⟨S8x2048x128x16, .f32⟩
  | 60 => ⟨S8x2048x128x16, .i1⟩
  | 61 => ⟨S_, .f32⟩
  | 62 => ⟨S8x2048x128x16, .f32⟩
  | 63 => ⟨S8x2048x128x16, .f32⟩
  | 64 => ⟨S_, .f32⟩
  | 65 => ⟨S8x2048x128x16, .f32⟩
  | 66 => ⟨S8x2048x128x16, .i1⟩
  | 67 => ⟨S_, .f32⟩
  | 68 => ⟨S8x2048x128x16, .f32⟩
  | 69 => ⟨S8x2048x128x16, .f32⟩
  | 70 => ⟨S_, .f32⟩
  | 71 => ⟨S8x2048x128x16, .f32⟩
  | 72 => ⟨S8x2048x128x16, .i1⟩
  | 73 => ⟨S_, .f32⟩
  | 74 => ⟨S8x2048x128x16, .f32⟩
  | 75 => ⟨S8x2048x128x16, .f32⟩
  | 76 => ⟨S8x2048x128x16, .f32⟩
  | 77 => ⟨S8x2048x128x16, .f32⟩
  | 78 => ⟨S8x2048x128x16, .f32⟩
  | 79 => ⟨S8x2048x128x16, .f32⟩
  | 80 => ⟨S8x2048x128x16, .f32⟩
  | 81 => ⟨S8x2048x128x1, .f32⟩
  | 82 => ⟨S_, .f32⟩
  | 83 => ⟨S8x2048x128x1, .f32⟩
  | 84 => ⟨S8x2048x128x1, .i1⟩
  | 85 => ⟨S8x2048x128x16, .i1⟩
  | 86 => ⟨S_, .f32⟩
  | 87 => ⟨S8x2048x128x16, .f32⟩
  | 88 => ⟨S8x2048x128x16, .f32⟩
  | 89 => ⟨S8x2048x2048, .f32⟩
  | 90 => ⟨S8x2048x2048, .f32⟩
  | 91 => ⟨S8x2048x2048, .f32⟩
  | 92 => ⟨S1x2048x128x16, .f32⟩
  | 93 => ⟨S1x1x1x1, .f32⟩
  | 94 => ⟨S_, .f32⟩
  | 95 => ⟨S1x2048x128, .f32⟩
  | 96 => ⟨S1x2048x128, .i1⟩
  | 97 => ⟨S_, .f32⟩
  | 98 => ⟨S1x2048x128, .f32⟩
  | 99 => ⟨S1x2048x128, .f32⟩
  | 100 => ⟨S1x2048x128x1, .f32⟩
  | 101 => ⟨S1x2048x128x16, .f32⟩
  | 102 => ⟨S1x2048x128x16, .f32⟩
  | 103 => ⟨S1x2048x128x16, .f32⟩
  | 104 => ⟨S1x2048x128x16, .f32⟩
  | 105 => ⟨S1x2048x128x16, .f32⟩
  | 106 => ⟨S1x2048x128x16, .f32⟩
  | 107 => ⟨S_, .f32⟩
  | 108 => ⟨S1x2048x128x16, .f32⟩
  | 109 => ⟨S1x2048x128x16, .f32⟩
  | 110 => ⟨S_, .f32⟩
  | 111 => ⟨S1x2048x128x16, .f32⟩
  | 112 => ⟨S1x2048x128x16, .f32⟩
  | 113 => ⟨S_, .f32⟩
  | 114 => ⟨S1x2048x128x16, .f32⟩
  | 115 => ⟨S_, .f32⟩
  | 116 => ⟨S1x2048x128x16, .f32⟩
  | 117 => ⟨S1x2048x128x16, .i1⟩
  | 118 => ⟨S_, .f32⟩
  | 119 => ⟨S1x2048x128x16, .f32⟩
  | 120 => ⟨S1x2048x128x16, .f32⟩
  | 121 => ⟨S_, .f32⟩
  | 122 => ⟨S1x2048x128x16, .f32⟩
  | 123 => ⟨S1x2048x128x16, .i1⟩
  | 124 => ⟨S_, .f32⟩
  | 125 => ⟨S1x2048x128x16, .f32⟩
  | 126 => ⟨S1x2048x128x16, .f32⟩
  | 127 => ⟨S_, .f32⟩
  | _ => ⟨S2048x2048, .f32⟩

abbrev hbmTy0_2 (i : Nat) : BufTy := match i % 128 with
  | 0 => ⟨S1x2048x128x16, .f32⟩
  | 1 => ⟨S1x2048x128x16, .i1⟩
  | 2 => ⟨S_, .f32⟩
  | 3 => ⟨S1x2048x128x16, .f32⟩
  | 4 => ⟨S1x2048x128x16, .f32⟩
  | 5 => ⟨S_, .f32⟩
  | 6 => ⟨S1x2048x128x16, .f32⟩
  | 7 => ⟨S1x2048x128x16, .i1⟩
  | 8 => ⟨S_, .f32⟩
  | 9 => ⟨S1x2048x128x16, .f32⟩
  | 10 => ⟨S1x2048x128x16, .f32⟩
  | 11 => ⟨S_, .f32⟩
  | 12 => ⟨S1x2048x128x16, .f32⟩
  | 13 => ⟨S1x2048x128x16, .i1⟩
  | 14 => ⟨S_, .f32⟩
  | 15 => ⟨S1x2048x128x16, .f32⟩
  | 16 => ⟨S1x2048x128x16, .f32⟩
  | 17 => ⟨S_, .f32⟩
  | 18 => ⟨S1x2048x128x16, .f32⟩
  | 19 => ⟨S1x2048x128x16, .i1⟩
  | 20 => ⟨S_, .f32⟩
  | 21 => ⟨S1x2048x128x16, .f32⟩
  | 22 => ⟨S1x2048x128x16, .f32⟩
  | 23 => ⟨S_, .f32⟩
  | 24 => ⟨S1x2048x128x16, .f32⟩
  | 25 => ⟨S1x2048x128x16, .i1⟩
  | 26 => ⟨S_, .f32⟩
  | 27 => ⟨S1x2048x128x16, .f32⟩
  | 28 => ⟨S1x2048x128x16, .f32⟩
  | 29 => ⟨S1x2048x128x16, .f32⟩
  | 30 => ⟨S1x2048x128x16, .f32⟩
  | 31 => ⟨S1x2048x128x16, .f32⟩
  | 32 => ⟨S1x2048x128x16, .f32⟩
  | 33 => ⟨S1x2048x128x16, .f32⟩
  | 34 => ⟨S1x2048x128x1, .f32⟩
  | 35 => ⟨S_, .f32⟩
  | 36 => ⟨S1x2048x128x1, .f32⟩
  | 37 => ⟨S1x2048x128x1, .i1⟩
  | 38 => ⟨S1x2048x128x16, .i1⟩
  | 39 => ⟨S_, .f32⟩
  | 40 => ⟨S1x2048x128x16, .f32⟩
  | 41 => ⟨S1x2048x128x16, .f32⟩
  | 42 => ⟨S1x2048x2048, .f32⟩
  | 43 => ⟨S1x2048x2048, .f32⟩
  | 44 => ⟨S1x2048x2048, .f32⟩
  | 45 => ⟨S2048x2048, .f32⟩
  | 46 => ⟨S8x2048, .f32⟩
  | 47 => ⟨S8x2048, .f32⟩
  | 48 => ⟨S8x2048x2048, .f32⟩
  | 49 => ⟨S8x2048x2048, .f32⟩
  | 50 => ⟨S_, .i32⟩
  | 51 => ⟨S2048x2, .i32⟩
  | 52 => ⟨S2048x2, .i1⟩
  | 53 => ⟨S_, .i32⟩
  | 54 => ⟨S2048x2, .i32⟩
  | 55 => ⟨S2048x2, .i32⟩
  | 56 => ⟨S_, .i32⟩
  | 57 => ⟨S2048x2, .i32⟩
  | 58 => ⟨S2048x2, .i32⟩
  | 59 => ⟨S_, .i32⟩
  | 60 => ⟨S2048x2, .i32⟩
  | 61 => ⟨S2048x2, .i1⟩
  | 62 => ⟨S_, .i32⟩
  | 63 => ⟨S2048x2, .i32⟩
  | 64 => ⟨S2048x2, .i32⟩
  | 65 => ⟨S2048x2, .i32⟩
  | 66 => ⟨S2048x2x1, .i32⟩
  | 67 => ⟨S1, .i32⟩
  | 68 => ⟨S_, .i32⟩
  | 69 => ⟨S2048x2x1, .i32⟩
  | 70 => ⟨S2048x2x1, .i1⟩
  | 71 => ⟨S1x1x1, .i32⟩
  | 72 => ⟨S2048x2x1, .i32⟩
  | 73 => ⟨S2048x2x1, .i1⟩
  | 74 => ⟨S2048x2x1, .i1⟩
  | 75 => ⟨S_, .i1⟩
  | 76 => ⟨S2048x2, .i1⟩
  | 77 => ⟨S2048x2, .f32⟩
  | 78 => ⟨S_, .f32⟩
  | 79 => ⟨S2048x2, .f32⟩
  | 80 => ⟨S2048x2, .f32⟩
  | 81 => ⟨S2048x2, .f32⟩
  | 82 => ⟨S2048x2, .f32⟩
  | 83 => ⟨S_, .f32⟩
  | 84 => ⟨S2048x8, .f32⟩
  | 85 => ⟨S2048, .i32⟩
  | 86 => ⟨S2048x1, .i32⟩
  | 87 => ⟨S_, .i32⟩
  | 88 => ⟨S2048x1, .i32⟩
  | 89 => ⟨S2048x1, .i1⟩
  | 90 => ⟨S_, .i32⟩
  | 91 => ⟨S2048x1, .i32⟩
  | 92 => ⟨S2048x1, .i32⟩
  | 93 => ⟨S2048x1, .i32⟩
  | 94 => ⟨S_, .i32⟩
  | 95 => ⟨S2048x2, .i32⟩
  | 96 => ⟨S2048x2, .i1⟩
  | 97 => ⟨S_, .i32⟩
  | 98 => ⟨S2048x2, .i32⟩
  | 99 => ⟨S2048x2, .i32⟩
  | 100 => ⟨S2048x2, .i32⟩
  | 101 => ⟨S2048x2, .i32⟩
  | 102 => ⟨S2048x2x1, .i32⟩
  | 103 => ⟨S2048x2x1, .i32⟩
  | 104 => ⟨S2048x2x2, .i32⟩
  | 105 => ⟨S2048x8, .f32⟩
  | 106 => ⟨S8x2048x2048, .f32⟩
  | 107 => ⟨S8x2048x2048, .f32⟩
  | 108 => ⟨S8x1x2048, .f32⟩
  | 109 => ⟨S8x2048x2048, .f32⟩
  | 110 => ⟨S8x2048x2048, .f32⟩
  | 111 => ⟨S8x2048x2048, .f32⟩
  | 112 => ⟨S8x2048x2048, .f32⟩
  | 113 => ⟨S8x1x2048, .f32⟩
  | 114 => ⟨S8x2048x2048, .f32⟩
  | 115 => ⟨S8x2048x2048, .f32⟩
  | 116 => ⟨S_, .f32⟩
  | 117 => ⟨S8x2048x2048, .f32⟩
  | 118 => ⟨S8x2048x2048, .f32⟩
  | 119 => ⟨S_, .f32⟩
  | 120 => ⟨S8x2048x2048, .f32⟩
  | 121 => ⟨S8x2048x2048, .f32⟩
  | 122 => ⟨S_, .f32⟩
  | 123 => ⟨S8x2048x2048, .f32⟩
  | 124 => ⟨S8x2048x2048, .f32⟩
  | 125 => ⟨S_, .f32⟩
  | 126 => ⟨S8x2048x2048, .f32⟩
  | 127 => ⟨S8x2048x2048, .f32⟩
  | _ => ⟨S2048x2048, .f32⟩

abbrev hbmTy0_3 (i : Nat) : BufTy := match i % 128 with
  | 0 => ⟨S8x2048x2048, .f32⟩
  | 1 => ⟨S8x2048x2048, .f32⟩
  | 2 => ⟨S_, .f32⟩
  | 3 => ⟨S8x2048x2048, .f32⟩
  | 4 => ⟨S8x2048x2048, .f32⟩
  | 5 => ⟨S_, .f32⟩
  | 6 => ⟨S8x2048x2048, .f32⟩
  | 7 => ⟨S8x2048x2048, .f32⟩
  | 8 => ⟨S8x2048x2048, .f32⟩
  | 9 => ⟨S_, .f32⟩
  | 10 => ⟨S8x2048x2048, .f32⟩
  | 11 => ⟨S8x2048x2048, .f32⟩
  | 12 => ⟨S8x2048x2048, .f32⟩
  | 13 => ⟨S8x2048x2048, .f32⟩
  | 14 => ⟨S8x1x2048, .f32⟩
  | 15 => ⟨S8x2048x2048, .f32⟩
  | 16 => ⟨S8x2048x2048, .f32⟩
  | 17 => ⟨S8x2048, .f32⟩
  | 18 => ⟨S8x2048x1, .f32⟩
  | 19 => ⟨S8x2048x2048, .f32⟩
  | 20 => ⟨S8x2048x2048, .f32⟩
  | 21 => ⟨S_, .f32⟩
  | 22 => ⟨S2048x2048, .f32⟩
  | _ => ⟨S2048x2048, .f32⟩

abbrev hbmTy (i : Nat) : BufTy := match i / 128 with
  | 0 => hbmTy0_0 i
  | 1 => hbmTy0_1 i
  | 2 => hbmTy0_2 i
  | 3 => hbmTy0_3 i
  | _ => ⟨S2048x2048, .f32⟩

abbrev bufTy : (tb : Table) → Fin (tcTables nBuf tb) → BufTy
  | .hbm, ⟨i, _⟩ => hbmTy i
  | .local _ .vmem, ⟨0, _⟩ => ⟨S8x4096x128, .f32⟩
  | .local _ .vmem, ⟨1, _⟩ => ⟨S8x1x1, .f32⟩
  | .local _ .vmem, ⟨2, _⟩ => ⟨S8x2048x128, .f32⟩
  | .local _ .vmem, ⟨3, _⟩ => ⟨S8x1x1, .f32⟩
  | .local _ .vmem, ⟨4, _⟩ => ⟨S1x2048x128, .f32⟩
  | .local _ .vmem, ⟨5, _⟩ => ⟨S1x1x1, .f32⟩
  | .local _ .vmem, ⟨6, _⟩ => ⟨S8x4096x128, .f32⟩
  | .local _ .vmem, ⟨7, _⟩ => ⟨S8x2048x128, .f32⟩
  | .local _ .vmem, ⟨8, _⟩ => ⟨S1x2048x128, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_cst_6 : Ref sig .tc := ⟨.hbm, 37, rfl⟩
abbrev main_v23 : Ref sig .tc := ⟨.hbm, 38, rfl⟩
abbrev main_v24 : Ref sig .tc := ⟨.hbm, 39, rfl⟩
abbrev main_cst_7 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_8 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_9 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_10 : Ref sig .tc := ⟨.hbm, 53, rfl⟩
abbrev main_v35 : Ref sig .tc := ⟨.hbm, 54, rfl⟩
abbrev main_v36_0 : Ref sig .tc := ⟨.hbm, 55, rfl⟩
abbrev main_v36_1 : Ref sig .tc := ⟨.hbm, 56, rfl⟩
abbrev main_v36_2 : Ref sig .tc := ⟨.hbm, 57, rfl⟩
abbrev main_v37 : Ref sig .tc := ⟨.hbm, 58, rfl⟩
abbrev main_v38 : Ref sig .tc := ⟨.hbm, 59, rfl⟩
abbrev main_cst_11 : Ref sig .tc := ⟨.hbm, 60, rfl⟩
abbrev main_v39 : Ref sig .tc := ⟨.hbm, 61, rfl⟩
abbrev main_v40 : Ref sig .tc := ⟨.hbm, 62, rfl⟩
abbrev main_cst_12 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_13 : Ref sig .tc := ⟨.hbm, 73, rfl⟩
abbrev main_v50 : Ref sig .tc := ⟨.hbm, 74, rfl⟩
abbrev main_v51 : Ref sig .tc := ⟨.hbm, 75, rfl⟩
abbrev main_cst_14 : Ref sig .tc := ⟨.hbm, 76, rfl⟩
abbrev main_v52 : Ref sig .tc := ⟨.hbm, 77, rfl⟩
abbrev main_v53 : Ref sig .tc := ⟨.hbm, 78, rfl⟩
abbrev main_cst_15 : Ref sig .tc := ⟨.hbm, 79, rfl⟩
abbrev main_v54 : Ref sig .tc := ⟨.hbm, 80, rfl⟩
abbrev main_cst_16 : Ref sig .tc := ⟨.hbm, 81, rfl⟩
abbrev main_v55 : Ref sig .tc := ⟨.hbm, 82, rfl⟩
abbrev main_v56 : Ref sig .tc := ⟨.hbm, 83, rfl⟩
abbrev main_cst_17 : Ref sig .tc := ⟨.hbm, 84, rfl⟩
abbrev main_v57 : Ref sig .tc := ⟨.hbm, 85, rfl⟩
abbrev main_v58 : Ref sig .tc := ⟨.hbm, 86, rfl⟩
abbrev main_cst_18 : Ref sig .tc := ⟨.hbm, 87, rfl⟩
abbrev main_v59 : Ref sig .tc := ⟨.hbm, 88, rfl⟩
abbrev main_v60 : Ref sig .tc := ⟨.hbm, 89, rfl⟩
abbrev main_cst_19 : Ref sig .tc := ⟨.hbm, 90, rfl⟩
abbrev main_v61 : Ref sig .tc := ⟨.hbm, 91, rfl⟩
abbrev main_v62 : Ref sig .tc := ⟨.hbm, 92, rfl⟩
abbrev main_cst_20 : Ref sig .tc := ⟨.hbm, 93, rfl⟩
abbrev main_v63 : Ref sig .tc := ⟨.hbm, 94, rfl⟩
abbrev main_v64 : Ref sig .tc := ⟨.hbm, 95, rfl⟩
abbrev main_cst_21 : Ref sig .tc := ⟨.hbm, 96, rfl⟩
abbrev main_v65 : Ref sig .tc := ⟨.hbm, 97, rfl⟩
abbrev main_v66 : Ref sig .tc := ⟨.hbm, 98, rfl⟩
abbrev main_cst_22 : Ref sig .tc := ⟨.hbm, 99, rfl⟩
abbrev main_v67 : Ref sig .tc := ⟨.hbm, 100, rfl⟩
abbrev main_v68 : Ref sig .tc := ⟨.hbm, 101, rfl⟩
abbrev main_cst_23 : Ref sig .tc := ⟨.hbm, 102, rfl⟩
abbrev main_v69 : Ref sig .tc := ⟨.hbm, 103, rfl⟩
abbrev main_v70 : Ref sig .tc := ⟨.hbm, 104, rfl⟩
abbrev main_cst_24 : Ref sig .tc := ⟨.hbm, 105, rfl⟩
abbrev main_v71 : Ref sig .tc := ⟨.hbm, 106, rfl⟩
abbrev main_v72 : Ref sig .tc := ⟨.hbm, 107, rfl⟩
abbrev main_cst_25 : Ref sig .tc := ⟨.hbm, 108, rfl⟩
abbrev main_v73 : Ref sig .tc := ⟨.hbm, 109, rfl⟩
abbrev main_v74 : Ref sig .tc := ⟨.hbm, 110, rfl⟩
abbrev main_cst_26 : Ref sig .tc := ⟨.hbm, 111, rfl⟩
abbrev main_v75 : Ref sig .tc := ⟨.hbm, 112, rfl⟩
abbrev main_v76 : Ref sig .tc := ⟨.hbm, 113, rfl⟩
abbrev main_cst_27 : Ref sig .tc := ⟨.hbm, 114, rfl⟩
abbrev main_v77 : Ref sig .tc := ⟨.hbm, 115, rfl⟩
abbrev main_v78 : Ref sig .tc := ⟨.hbm, 116, rfl⟩
abbrev main_cst_28 : Ref sig .tc := ⟨.hbm, 117, rfl⟩
abbrev main_v79 : Ref sig .tc := ⟨.hbm, 118, rfl⟩
abbrev main_v80 : Ref sig .tc := ⟨.hbm, 119, rfl⟩
abbrev main_cst_29 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_cst_30 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_cst_31 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_cst_32 : Ref sig .tc := ⟨.hbm, 141, rfl⟩
abbrev main_v99 : Ref sig .tc := ⟨.hbm, 142, rfl⟩
abbrev main_v100 : Ref sig .tc := ⟨.hbm, 143, rfl⟩
abbrev main_cst_33 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_cst_34 : Ref sig .tc := ⟨.hbm, 154, rfl⟩
abbrev main_v110 : Ref sig .tc := ⟨.hbm, 155, rfl⟩
abbrev main_v111 : Ref sig .tc := ⟨.hbm, 156, rfl⟩
abbrev main_cst_35 : Ref sig .tc := ⟨.hbm, 157, rfl⟩
abbrev main_v112 : Ref sig .tc := ⟨.hbm, 158, rfl⟩
abbrev main_v113 : Ref sig .tc := ⟨.hbm, 159, rfl⟩
abbrev main_cst_36 : Ref sig .tc := ⟨.hbm, 160, rfl⟩
abbrev main_v114 : Ref sig .tc := ⟨.hbm, 161, rfl⟩
abbrev main_cst_37 : Ref sig .tc := ⟨.hbm, 162, rfl⟩
abbrev main_v115 : Ref sig .tc := ⟨.hbm, 163, rfl⟩
abbrev main_v116 : Ref sig .tc := ⟨.hbm, 164, rfl⟩
abbrev main_cst_38 : Ref sig .tc := ⟨.hbm, 165, rfl⟩
abbrev main_v117 : Ref sig .tc := ⟨.hbm, 166, rfl⟩
abbrev main_v118 : Ref sig .tc := ⟨.hbm, 167, rfl⟩
abbrev main_cst_39 : Ref sig .tc := ⟨.hbm, 168, rfl⟩
abbrev main_v119 : Ref sig .tc := ⟨.hbm, 169, rfl⟩
abbrev main_v120 : Ref sig .tc := ⟨.hbm, 170, rfl⟩
abbrev main_cst_40 : Ref sig .tc := ⟨.hbm, 171, rfl⟩
abbrev main_v121 : Ref sig .tc := ⟨.hbm, 172, rfl⟩
abbrev main_v122 : Ref sig .tc := ⟨.hbm, 173, rfl⟩
abbrev main_cst_41 : Ref sig .tc := ⟨.hbm, 174, rfl⟩
abbrev main_v123 : Ref sig .tc := ⟨.hbm, 175, rfl⟩
abbrev main_v124 : Ref sig .tc := ⟨.hbm, 176, rfl⟩
abbrev main_cst_42 : Ref sig .tc := ⟨.hbm, 177, rfl⟩
abbrev main_v125 : Ref sig .tc := ⟨.hbm, 178, rfl⟩
abbrev main_v126 : Ref sig .tc := ⟨.hbm, 179, rfl⟩
abbrev main_cst_43 : Ref sig .tc := ⟨.hbm, 180, rfl⟩
abbrev main_v127 : Ref sig .tc := ⟨.hbm, 181, rfl⟩
abbrev main_v128 : Ref sig .tc := ⟨.hbm, 182, rfl⟩
abbrev main_cst_44 : Ref sig .tc := ⟨.hbm, 183, rfl⟩
abbrev main_v129 : Ref sig .tc := ⟨.hbm, 184, rfl⟩
abbrev main_v130 : Ref sig .tc := ⟨.hbm, 185, rfl⟩
abbrev main_cst_45 : Ref sig .tc := ⟨.hbm, 186, rfl⟩
abbrev main_v131 : Ref sig .tc := ⟨.hbm, 187, rfl⟩
abbrev main_v132 : Ref sig .tc := ⟨.hbm, 188, rfl⟩
abbrev main_cst_46 : Ref sig .tc := ⟨.hbm, 189, rfl⟩
abbrev main_v133 : Ref sig .tc := ⟨.hbm, 190, rfl⟩
abbrev main_v134 : Ref sig .tc := ⟨.hbm, 191, rfl⟩
abbrev main_cst_47 : Ref sig .tc := ⟨.hbm, 192, rfl⟩
abbrev main_v135 : Ref sig .tc := ⟨.hbm, 193, rfl⟩
abbrev main_v136 : Ref sig .tc := ⟨.hbm, 194, rfl⟩
abbrev main_cst_48 : Ref sig .tc := ⟨.hbm, 195, rfl⟩
abbrev main_v137 : Ref sig .tc := ⟨.hbm, 196, rfl⟩
abbrev main_v138 : Ref sig .tc := ⟨.hbm, 197, rfl⟩
abbrev main_cst_49 : Ref sig .tc := ⟨.hbm, 198, rfl⟩
abbrev main_v139 : Ref sig .tc := ⟨.hbm, 199, rfl⟩
abbrev main_v140 : Ref sig .tc := ⟨.hbm, 200, rfl⟩
abbrev main_cst_50 : Ref sig .tc := ⟨.hbm, 201, rfl⟩
abbrev main_v141 : Ref sig .tc := ⟨.hbm, 202, rfl⟩
abbrev main_v142 : Ref sig .tc := ⟨.hbm, 203, rfl⟩
abbrev main_v143 : Ref sig .tc := ⟨.hbm, 204, rfl⟩
abbrev main_v144 : Ref sig .tc := ⟨.hbm, 205, rfl⟩
abbrev main_v145 : Ref sig .tc := ⟨.hbm, 206, rfl⟩
abbrev main_v146 : Ref sig .tc := ⟨.hbm, 207, rfl⟩
abbrev main_v147 : Ref sig .tc := ⟨.hbm, 208, rfl⟩
abbrev main_v148 : Ref sig .tc := ⟨.hbm, 209, rfl⟩
abbrev main_cst_51 : Ref sig .tc := ⟨.hbm, 210, rfl⟩
abbrev main_v149 : Ref sig .tc := ⟨.hbm, 211, rfl⟩
abbrev main_v150 : Ref sig .tc := ⟨.hbm, 212, rfl⟩
abbrev main_v151 : Ref sig .tc := ⟨.hbm, 213, rfl⟩
abbrev main_cst_52 : Ref sig .tc := ⟨.hbm, 214, rfl⟩
abbrev main_v152 : Ref sig .tc := ⟨.hbm, 215, rfl⟩
abbrev main_v153 : Ref sig .tc := ⟨.hbm, 216, rfl⟩
abbrev main_v154 : Ref sig .tc := ⟨.hbm, 217, rfl⟩
abbrev main_v155 : Ref sig .tc := ⟨.hbm, 218, rfl⟩
abbrev main_v156 : Ref sig .tc := ⟨.hbm, 219, rfl⟩
abbrev main_v157 : Ref sig .tc := ⟨.hbm, 220, rfl⟩
abbrev main_v158 : Ref sig .tc := ⟨.hbm, 221, rfl⟩
abbrev main_cst_53 : Ref sig .tc := ⟨.hbm, 222, rfl⟩
abbrev main_v159 : Ref sig .tc := ⟨.hbm, 223, rfl⟩
abbrev main_v160 : Ref sig .tc := ⟨.hbm, 224, rfl⟩
abbrev main_cst_54 : Ref sig .tc := ⟨.hbm, 225, rfl⟩
abbrev main_v161 : Ref sig .tc := ⟨.hbm, 226, rfl⟩
abbrev main_v162 : Ref sig .tc := ⟨.hbm, 227, rfl⟩
abbrev main_v163 : Ref sig .tc := ⟨.hbm, 228, rfl⟩
abbrev main_v164 : Ref sig .tc := ⟨.hbm, 229, rfl⟩
abbrev main_v165 : Ref sig .tc := ⟨.hbm, 230, rfl⟩
abbrev main_v166 : Ref sig .tc := ⟨.hbm, 231, rfl⟩
abbrev main_v167 : Ref sig .tc := ⟨.hbm, 232, rfl⟩
abbrev main_v168 : Ref sig .tc := ⟨.hbm, 233, rfl⟩
abbrev main_v169 : Ref sig .tc := ⟨.hbm, 234, rfl⟩
abbrev main_cst_55 : Ref sig .tc := ⟨.hbm, 235, rfl⟩
abbrev main_v170 : Ref sig .tc := ⟨.hbm, 236, rfl⟩
abbrev main_v171 : Ref sig .tc := ⟨.hbm, 237, rfl⟩
abbrev main_cst_56 : Ref sig .tc := ⟨.hbm, 238, rfl⟩
abbrev main_v172 : Ref sig .tc := ⟨.hbm, 239, rfl⟩
abbrev main_v173 : Ref sig .tc := ⟨.hbm, 240, rfl⟩
abbrev main_cst_57 : Ref sig .tc := ⟨.hbm, 241, rfl⟩
abbrev main_v174 : Ref sig .tc := ⟨.hbm, 242, rfl⟩
abbrev main_cst_58 : Ref sig .tc := ⟨.hbm, 243, rfl⟩
abbrev main_v175 : Ref sig .tc := ⟨.hbm, 244, rfl⟩
abbrev main_v176 : Ref sig .tc := ⟨.hbm, 245, rfl⟩
abbrev main_cst_59 : Ref sig .tc := ⟨.hbm, 246, rfl⟩
abbrev main_v177 : Ref sig .tc := ⟨.hbm, 247, rfl⟩
abbrev main_v178 : Ref sig .tc := ⟨.hbm, 248, rfl⟩
abbrev main_cst_60 : Ref sig .tc := ⟨.hbm, 249, rfl⟩
abbrev main_v179 : Ref sig .tc := ⟨.hbm, 250, rfl⟩
abbrev main_v180 : Ref sig .tc := ⟨.hbm, 251, rfl⟩
abbrev main_cst_61 : Ref sig .tc := ⟨.hbm, 252, rfl⟩
abbrev main_v181 : Ref sig .tc := ⟨.hbm, 253, rfl⟩
abbrev main_v182 : Ref sig .tc := ⟨.hbm, 254, rfl⟩
abbrev main_cst_62 : Ref sig .tc := ⟨.hbm, 255, rfl⟩
abbrev main_v183 : Ref sig .tc := ⟨.hbm, 256, rfl⟩
abbrev main_v184 : Ref sig .tc := ⟨.hbm, 257, rfl⟩
abbrev main_cst_63 : Ref sig .tc := ⟨.hbm, 258, rfl⟩
abbrev main_v185 : Ref sig .tc := ⟨.hbm, 259, rfl⟩
abbrev main_v186 : Ref sig .tc := ⟨.hbm, 260, rfl⟩
abbrev main_cst_64 : Ref sig .tc := ⟨.hbm, 261, rfl⟩
abbrev main_v187 : Ref sig .tc := ⟨.hbm, 262, rfl⟩
abbrev main_v188 : Ref sig .tc := ⟨.hbm, 263, rfl⟩
abbrev main_cst_65 : Ref sig .tc := ⟨.hbm, 264, rfl⟩
abbrev main_v189 : Ref sig .tc := ⟨.hbm, 265, rfl⟩
abbrev main_v190 : Ref sig .tc := ⟨.hbm, 266, rfl⟩
abbrev main_cst_66 : Ref sig .tc := ⟨.hbm, 267, rfl⟩
abbrev main_v191 : Ref sig .tc := ⟨.hbm, 268, rfl⟩
abbrev main_v192 : Ref sig .tc := ⟨.hbm, 269, rfl⟩
abbrev main_cst_67 : Ref sig .tc := ⟨.hbm, 270, rfl⟩
abbrev main_v193 : Ref sig .tc := ⟨.hbm, 271, rfl⟩
abbrev main_v194 : Ref sig .tc := ⟨.hbm, 272, rfl⟩
abbrev main_cst_68 : Ref sig .tc := ⟨.hbm, 273, rfl⟩
abbrev main_v195 : Ref sig .tc := ⟨.hbm, 274, rfl⟩
abbrev main_v196 : Ref sig .tc := ⟨.hbm, 275, rfl⟩
abbrev main_cst_69 : Ref sig .tc := ⟨.hbm, 276, rfl⟩
abbrev main_v197 : Ref sig .tc := ⟨.hbm, 277, rfl⟩
abbrev main_v198 : Ref sig .tc := ⟨.hbm, 278, rfl⟩
abbrev main_cst_70 : Ref sig .tc := ⟨.hbm, 279, rfl⟩
abbrev main_v199 : Ref sig .tc := ⟨.hbm, 280, rfl⟩
abbrev main_v200 : Ref sig .tc := ⟨.hbm, 281, rfl⟩
abbrev main_cst_71 : Ref sig .tc := ⟨.hbm, 282, rfl⟩
abbrev main_v201 : Ref sig .tc := ⟨.hbm, 283, rfl⟩
abbrev main_v202 : Ref sig .tc := ⟨.hbm, 284, rfl⟩
abbrev main_v203 : Ref sig .tc := ⟨.hbm, 285, rfl⟩
abbrev main_v204 : Ref sig .tc := ⟨.hbm, 286, rfl⟩
abbrev main_v205 : Ref sig .tc := ⟨.hbm, 287, rfl⟩
abbrev main_v206 : Ref sig .tc := ⟨.hbm, 288, rfl⟩
abbrev main_v207 : Ref sig .tc := ⟨.hbm, 289, rfl⟩
abbrev main_v208 : Ref sig .tc := ⟨.hbm, 290, rfl⟩
abbrev main_cst_72 : Ref sig .tc := ⟨.hbm, 291, rfl⟩
abbrev main_v209 : Ref sig .tc := ⟨.hbm, 292, rfl⟩
abbrev main_v210 : Ref sig .tc := ⟨.hbm, 293, rfl⟩
abbrev main_v211 : Ref sig .tc := ⟨.hbm, 294, rfl⟩
abbrev main_cst_73 : Ref sig .tc := ⟨.hbm, 295, rfl⟩
abbrev main_v212 : Ref sig .tc := ⟨.hbm, 296, rfl⟩
abbrev main_v213 : Ref sig .tc := ⟨.hbm, 297, rfl⟩
abbrev main_v214 : Ref sig .tc := ⟨.hbm, 298, rfl⟩
abbrev main_v215 : Ref sig .tc := ⟨.hbm, 299, rfl⟩
abbrev main_v216 : Ref sig .tc := ⟨.hbm, 300, rfl⟩
abbrev main_v217 : Ref sig .tc := ⟨.hbm, 301, rfl⟩
abbrev main_v218 : Ref sig .tc := ⟨.hbm, 302, rfl⟩
abbrev main_v219 : Ref sig .tc := ⟨.hbm, 303, rfl⟩
abbrev main_v220 : Ref sig .tc := ⟨.hbm, 304, rfl⟩
abbrev main_v221 : Ref sig .tc := ⟨.hbm, 305, rfl⟩
abbrev main_c : Ref sig .tc := ⟨.hbm, 306, rfl⟩
abbrev main_v222 : Ref sig .tc := ⟨.hbm, 307, rfl⟩
abbrev main_v223 : Ref sig .tc := ⟨.hbm, 308, rfl⟩
abbrev main_c_74 : Ref sig .tc := ⟨.hbm, 309, rfl⟩
abbrev main_v224 : Ref sig .tc := ⟨.hbm, 310, rfl⟩
abbrev main_v225 : Ref sig .tc := ⟨.hbm, 311, rfl⟩
abbrev main_c_75 : Ref sig .tc := ⟨.hbm, 312, rfl⟩
abbrev main_v226 : Ref sig .tc := ⟨.hbm, 313, rfl⟩
abbrev main_v227 : Ref sig .tc := ⟨.hbm, 314, rfl⟩
abbrev main_call0_c : Ref sig .tc := ⟨.hbm, 315, rfl⟩
abbrev main_call0_v0 : Ref sig .tc := ⟨.hbm, 316, rfl⟩
abbrev main_call0_v1 : Ref sig .tc := ⟨.hbm, 317, rfl⟩
abbrev main_call0_c_0 : Ref sig .tc := ⟨.hbm, 318, rfl⟩
abbrev main_call0_v2 : Ref sig .tc := ⟨.hbm, 319, rfl⟩
abbrev main_call0_v3 : Ref sig .tc := ⟨.hbm, 320, rfl⟩
abbrev main_call0_v4 : Ref sig .tc := ⟨.hbm, 321, rfl⟩
abbrev main_call0_v5 : Ref sig .tc := ⟨.hbm, 322, rfl⟩
abbrev main_call0_c_1 : Ref sig .tc := ⟨.hbm, 323, rfl⟩
abbrev main_call0_c_2 : Ref sig .tc := ⟨.hbm, 324, rfl⟩
abbrev main_call0_v6 : Ref sig .tc := ⟨.hbm, 325, rfl⟩
abbrev main_call0_v7 : Ref sig .tc := ⟨.hbm, 326, rfl⟩
abbrev main_call0_v8 : Ref sig .tc := ⟨.hbm, 327, rfl⟩
abbrev main_call0_v9 : Ref sig .tc := ⟨.hbm, 328, rfl⟩
abbrev main_call0_v10 : Ref sig .tc := ⟨.hbm, 329, rfl⟩
abbrev main_call0_v11 : Ref sig .tc := ⟨.hbm, 330, rfl⟩
abbrev main_call0_c_3 : Ref sig .tc := ⟨.hbm, 331, rfl⟩
abbrev main_call0_v12 : Ref sig .tc := ⟨.hbm, 332, rfl⟩
abbrev main_call0_v13 : Ref sig .tc := ⟨.hbm, 333, rfl⟩
abbrev main_call0_cst : Ref sig .tc := ⟨.hbm, 334, rfl⟩
abbrev main_call0_v14 : Ref sig .tc := ⟨.hbm, 335, rfl⟩
abbrev main_v228 : Ref sig .tc := ⟨.hbm, 336, rfl⟩
abbrev main_v229 : Ref sig .tc := ⟨.hbm, 337, rfl⟩
abbrev main_v230 : Ref sig .tc := ⟨.hbm, 338, rfl⟩
abbrev main_cst_76 : Ref sig .tc := ⟨.hbm, 339, rfl⟩
abbrev main_v231 : Ref sig .tc := ⟨.hbm, 340, rfl⟩
abbrev main_v232 : Ref sig .tc := ⟨.hbm, 341, rfl⟩
abbrev main_v233 : Ref sig .tc := ⟨.hbm, 342, rfl⟩
abbrev main_c_77 : Ref sig .tc := ⟨.hbm, 343, rfl⟩
abbrev main_v234 : Ref sig .tc := ⟨.hbm, 344, rfl⟩
abbrev main_v235 : Ref sig .tc := ⟨.hbm, 345, rfl⟩
abbrev main_c_78 : Ref sig .tc := ⟨.hbm, 346, rfl⟩
abbrev main_v236 : Ref sig .tc := ⟨.hbm, 347, rfl⟩
abbrev main_v237 : Ref sig .tc := ⟨.hbm, 348, rfl⟩
abbrev main_v238 : Ref sig .tc := ⟨.hbm, 349, rfl⟩
abbrev main_c_79 : Ref sig .tc := ⟨.hbm, 350, rfl⟩
abbrev main_v239 : Ref sig .tc := ⟨.hbm, 351, rfl⟩
abbrev main_v240 : Ref sig .tc := ⟨.hbm, 352, rfl⟩
abbrev main_c_80 : Ref sig .tc := ⟨.hbm, 353, rfl⟩
abbrev main_v241 : Ref sig .tc := ⟨.hbm, 354, rfl⟩
abbrev main_v242 : Ref sig .tc := ⟨.hbm, 355, rfl⟩
abbrev main_v243 : Ref sig .tc := ⟨.hbm, 356, rfl⟩
abbrev main_v244 : Ref sig .tc := ⟨.hbm, 357, rfl⟩
abbrev main_v245 : Ref sig .tc := ⟨.hbm, 358, rfl⟩
abbrev main_v246 : Ref sig .tc := ⟨.hbm, 359, rfl⟩
abbrev main_v247 : Ref sig .tc := ⟨.hbm, 360, rfl⟩
abbrev main_v248 : Ref sig .tc := ⟨.hbm, 361, rfl⟩
abbrev main_v249 : Ref sig .tc := ⟨.hbm, 362, rfl⟩
abbrev main_v250 : Ref sig .tc := ⟨.hbm, 363, rfl⟩
abbrev main_v251 : Ref sig .tc := ⟨.hbm, 364, rfl⟩
abbrev main_v252 : Ref sig .tc := ⟨.hbm, 365, rfl⟩
abbrev main_v253 : Ref sig .tc := ⟨.hbm, 366, rfl⟩
abbrev main_v254 : Ref sig .tc := ⟨.hbm, 367, rfl⟩
abbrev main_v255 : Ref sig .tc := ⟨.hbm, 368, rfl⟩
abbrev main_v256 : Ref sig .tc := ⟨.hbm, 369, rfl⟩
abbrev main_v257 : Ref sig .tc := ⟨.hbm, 370, rfl⟩
abbrev main_v258 : Ref sig .tc := ⟨.hbm, 371, rfl⟩
abbrev main_cst_81 : Ref sig .tc := ⟨.hbm, 372, rfl⟩
abbrev main_v259 : Ref sig .tc := ⟨.hbm, 373, rfl⟩
abbrev main_v260 : Ref sig .tc := ⟨.hbm, 374, rfl⟩
abbrev main_cst_82 : Ref sig .tc := ⟨.hbm, 375, rfl⟩
abbrev main_v261 : Ref sig .tc := ⟨.hbm, 376, rfl⟩
abbrev main_v262 : Ref sig .tc := ⟨.hbm, 377, rfl⟩
abbrev main_cst_83 : Ref sig .tc := ⟨.hbm, 378, rfl⟩
abbrev main_v263 : Ref sig .tc := ⟨.hbm, 379, rfl⟩
abbrev main_v264 : Ref sig .tc := ⟨.hbm, 380, rfl⟩
abbrev main_cst_84 : Ref sig .tc := ⟨.hbm, 381, rfl⟩
abbrev main_v265 : Ref sig .tc := ⟨.hbm, 382, rfl⟩
abbrev main_v266 : Ref sig .tc := ⟨.hbm, 383, rfl⟩
abbrev main_v267 : Ref sig .tc := ⟨.hbm, 384, rfl⟩
abbrev main_v268 : Ref sig .tc := ⟨.hbm, 385, rfl⟩
abbrev main_cst_85 : Ref sig .tc := ⟨.hbm, 386, rfl⟩
abbrev main_v269 : Ref sig .tc := ⟨.hbm, 387, rfl⟩
abbrev main_v270 : Ref sig .tc := ⟨.hbm, 388, rfl⟩
abbrev main_cst_86 : Ref sig .tc := ⟨.hbm, 389, rfl⟩
abbrev main_v271 : Ref sig .tc := ⟨.hbm, 390, rfl⟩
abbrev main_v272 : Ref sig .tc := ⟨.hbm, 391, rfl⟩
abbrev main_v273 : Ref sig .tc := ⟨.hbm, 392, rfl⟩
abbrev main_cst_87 : Ref sig .tc := ⟨.hbm, 393, rfl⟩
abbrev main_v274 : Ref sig .tc := ⟨.hbm, 394, rfl⟩
abbrev main_v275 : Ref sig .tc := ⟨.hbm, 395, rfl⟩
abbrev main_v276 : Ref sig .tc := ⟨.hbm, 396, rfl⟩
abbrev main_v277 : Ref sig .tc := ⟨.hbm, 397, rfl⟩
abbrev main_v278 : Ref sig .tc := ⟨.hbm, 398, rfl⟩
abbrev main_v279 : Ref sig .tc := ⟨.hbm, 399, rfl⟩
abbrev main_v280 : Ref sig .tc := ⟨.hbm, 400, rfl⟩
abbrev main_v281 : Ref sig .tc := ⟨.hbm, 401, rfl⟩
abbrev main_v282 : Ref sig .tc := ⟨.hbm, 402, rfl⟩
abbrev main_v283 : Ref sig .tc := ⟨.hbm, 403, rfl⟩
abbrev main_v284 : Ref sig .tc := ⟨.hbm, 404, rfl⟩
abbrev main_cst_88 : Ref sig .tc := ⟨.hbm, 405, rfl⟩
abbrev main_v285 : Ref sig .tc := ⟨.hbm, 406, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S8x4096x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x2048x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x2048x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x4096x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x2048x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x2048x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.Bodies.lean ====
/- The three kinds of kernel body of this problem — a running maximum, a block-scaled quantiser, a gathered matrix product
   added into a scratch buffer — as programs over any payload functions, and what each leaves in memory. Every call of both
   printed kernels is an instance. -/
module

public import Idealize.ShloMosaic.Lib.Pipeline.FrameBody
public import Idealize.ShloMosaic.Lib.Pipeline.Value
public import Idealize.ShloMosaic.Lib.Tactic

@[expose] public section

noncomputable section

namespace Cert.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg)

variable {nD : Nat} {τ : Topo} {sig : RefSig} {Val : EltTy → Type} [∀ e, Nonempty (Val e)]
variable {Λ₀ : Idealize.SL.Sem.Labels} (defs₀ : Defs nD τ sig Val Λ₀)

local notation "𝕄" => MT nD τ sig Unit Val ℕ (UR sig nD τ) ℕ

variable {A B D : Shape} {eA eB eD : EltTy}

/-! ## The running maximum -/

/-- Load a block; at the first step store the start value; fold the block into what the output holds. -/
def foldProg (cond : Prop) [Decidable cond] (a : Memref sig .tc .vmem A eA) (o : Memref sig .tc .vmem B eB)
    (rA : Rect A) (rB : Rect B) (hA : 0 < rA.shape.numel) (hB : 0 < rB.shape.numel) (hs : eB.bits = 32)
    (z : rB.shape.Idx → Val eB) (p : (rA.shape.Idx → Val eA) → (rB.shape.Idx → Val eB) → rB.shape.Idx → Val eB) :
    Prog (TpuEff nD τ sig Val Λ₀ .tc) PUnit := do
  let v0 ← Prog.lift (.load a rA.toLoadRect (View.loadsAt_vmem hA))
  if cond then do
    let _ ← Prog.lift (.load o rB.toLoadRect (View.loadsAt_vmem hB))
    Prog.lift (.store o rB z Finset.univ (View.stores_vmem_bits_univ hB hs) (.inl rfl))
    pure ⟨⟩
  else pure ⟨⟩
  let v9 ← Prog.lift (.load o rB.toLoadRect (View.loadsAt_vmem hB))
  let _ ← Prog.lift (.load o rB.toLoadRect (View.loadsAt_vmem hB))
  Prog.lift (.store o rB (p v0 v9) Finset.univ (View.stores_vmem_bits_univ hB hs) (.inl rfl))
  pure ⟨⟩

/-- A store through the whole of a block, last, leaves its payload. -/
theorem read_whole_store {sp : Space} (o : View sig .tc sp B eB) (off : Fin B.rank → Nat) (iB : ∀ i, off i + B.size i ≤ B.size i)
    (zB : off = fun _ => 0) (f : o.ty.Contents Val) (w : B.Idx → Val eB) (L : List (View.Piece Val B eB)) :
    o.read Val (o.writes Val f ((⟨Rect.unit off B.size iB, w⟩ : View.Piece Val B eB) :: L)) = w := by
  rw [View.read_writes_eq_canon o f _ fun y => ⟨_, List.mem_cons_self, View.mem_set_unit_zero zB iB y⟩]
  exact View.canon_cons_unit_zero zB iB w L

/-- A load through the whole of a block reads its contents. -/
theorem readAt_whole {sp : Space} (o : View sig .tc sp B eB) (off : Fin B.rank → Nat) (iB : ∀ i, off i + B.size i ≤ B.size i)
    (zB : off = fun _ => 0) (f : o.ty.Contents Val) :
    o.readAt Val (Rect.unit off B.size iB).toLoadRect f = o.read Val f :=
  (show _ = View.ld (o.read Val f) (Rect.unit off B.size iB) from rfl).trans (View.ld_unit_zero zB iB _)

/-- At the first step the output ends at the block folded into the start value, whatever it held. -/
theorem fold_first (c : Dev nD) (E : Set ℕ) (cond : Prop) [Decidable cond] (hc : cond)
    (a : Memref sig .tc .vmem A eA) (o : Memref sig .tc .vmem B eB)
    (offA : Fin A.rank → Nat) (offB : Fin B.rank → Nat) (iA : ∀ i, offA i + A.size i ≤ A.size i) (iB : ∀ i, offB i + B.size i ≤ B.size i)
    (zA : offA = fun _ => 0) (zB : offB = fun _ => 0)
    (hA : 0 < (Rect.unit offA A.size iA).shape.numel) (hB : 0 < (Rect.unit offB B.size iB).shape.numel) (hs : eB.bits = 32)
    (z : B.Idx → Val eB) (p : (A.Idx → Val eA) → (B.Idx → Val eB) → B.Idx → Val eB)
    (x : A.Idx → Val eA) (K : PUnit → sProp 𝕄) :
    iprop(owns (c : Thread nD τ) a fullShare x ∗ (∃ d, owns (c : Thread nD τ) o fullShare d)
        ∗ (iprop(owns (c : Thread nD τ) a fullShare x ∗ owns (c : Thread nD τ) o fullShare (p x z)) -∗ K ⟨⟩))
      ⊢ wp frame (wpE defs₀ Variants.none c none) E
          (foldProg cond a o (Rect.unit offA A.size iA) (Rect.unit offB B.size iB) hA hB hs z p) K := by
  unfold foldProg owns
  iintro ⟨⟨%f0, %hf0, H0⟩, ⟨%d1, %f1, -, H1⟩, Hk⟩
  subst hf0
  sl_exec (disch := first | sl_exact hc)
  sl_step
  iapply Hk
  isplitl [H0]
  · iexists f0; isplitr; · ipureintro; rfl
    iexact H0
  iexists _; isplitr
  swap; · iexact H1
  ipureintro
  refine (read_whole_store _ _ _ zB _ _ _).trans ?_
  rw [readAt_whole _ _ _ zA, readAt_whole _ _ _ zB]
  exact congrArg _ (read_whole_store _ _ _ zB _ _ _)

/-- At any later step the output ends at the block folded into what it held. -/
theorem fold_next (c : Dev nD) (E : Set ℕ) (cond : Prop) [Decidable cond] (hc : ¬ cond)
    (a : Memref sig .tc .vmem A eA) (o : Memref sig .tc .vmem B eB)
    (offA : Fin A.rank → Nat) (offB : Fin B.rank → Nat) (iA : ∀ i, offA i + A.size i ≤ A.size i) (iB : ∀ i, offB i + B.size i ≤ B.size i)
    (zA : offA = fun _ => 0) (zB : offB = fun _ => 0)
    (hA : 0 < (Rect.unit offA A.size iA).shape.numel) (hB : 0 < (Rect.unit offB B.size iB).shape.numel) (hs : eB.bits = 32)
    (z : B.Idx → Val eB) (p : (A.Idx → Val eA) → (B.Idx → Val eB) → B.Idx → Val eB)
    (x : A.Idx → Val eA) (y : B.Idx → Val eB) (K : PUnit → sProp 𝕄) :
    iprop(owns (c : Thread nD τ) a fullShare x ∗ owns (c : Thread nD τ) o fullShare y
        ∗ (iprop(owns (c : Thread nD τ) a fullShare x ∗ owns (c : Thread nD τ) o fullShare (p x y)) -∗ K ⟨⟩))
      ⊢ wp frame (wpE defs₀ Variants.none c none) E
          (foldProg cond a o (Rect.unit offA A.size iA) (Rect.unit offB B.size iB) hA hB hs z p) K := by
  unfold foldProg owns
  iintro ⟨⟨%f0, %hf0, H0⟩, ⟨%f1, %hf1, H1⟩, Hk⟩
  subst hf0 hf1
  sl_exec (disch := first | sl_exact hc)
  sl_step
  iapply Hk
  isplitl [H0]
  · iexists f0; isplitr; · ipureintro; rfl
    iexact H0
  iexists _; isplitr
  swap; · iexact H1
  ipureintro
  refine (read_whole_store _ _ _ zB _ _ _).trans ?_
  rw [readAt_whole _ _ _ zA, readAt_whole _ _ _ zB]

/-! ## The quantiser -/

/-- Load a block and its scale, store what the payload makes of them. -/
def mapProg (a : Memref sig .tc .vmem A eA) (b : Memref sig .tc .vmem B eB) (o : Memref sig .tc .vmem D eD)
    (rA : Rect A) (rB : Rect B) (rD : Rect D) (hA : 0 < rA.shape.numel) (hB : 0 < rB.shape.numel) (hD : 0 < rD.shape.numel)
    (hst : (o.access rD).Stores Finset.univ)
    (p : (rA.shape.Idx → Val eA) → (rB.shape.Idx → Val eB) → rD.shape.Idx → Val eD) :
    Prog (TpuEff nD τ sig Val Λ₀ .tc) PUnit := do
  let v0 ← Prog.lift (.load a rA.toLoadRect (View.loadsAt_vmem hA))
  let v2 ← Prog.lift (.load b rB.toLoadRect (View.loadsAt_vmem hB))
  let _ ← Prog.lift (.load o rD.toLoadRect (View.loadsAt_vmem hD))
  Prog.lift (.store o rD (p v0 v2) Finset.univ hst (.inl rfl))
  pure ⟨⟩

theorem map_step (c : Dev nD) (E : Set ℕ)
    (a : Memref sig .tc .vmem A eA) (b : Memref sig .tc .vmem B eB) (o : Memref sig .tc .vmem D eD)
    (offA : Fin A.rank → Nat) (offB : Fin B.rank → Nat) (offD : Fin D.rank → Nat) (iA : ∀ i, offA i + A.size i ≤ A.size i)
    (iB : ∀ i, offB i + B.size i ≤ B.size i) (iD : ∀ i, offD i + D.size i ≤ D.size i)
    (zA : offA = fun _ => 0) (zB : offB = fun _ => 0) (zD : offD = fun _ => 0)
    (hA : 0 < (Rect.unit offA A.size iA).shape.numel) (hB : 0 < (Rect.unit offB B.size iB).shape.numel)
    (hD : 0 < (Rect.unit offD D.size iD).shape.numel) (hst : (o.access (Rect.unit offD D.size iD)).Stores Finset.univ)
    (p : (A.Idx → Val eA) → (B.Idx → Val eB) → D.Idx → Val eD)
    (x : A.Idx → Val eA) (y : B.Idx → Val eB) (K : PUnit → sProp 𝕄) :
    iprop(owns (c : Thread nD τ) a fullShare x ∗ owns (c : Thread nD τ) b fullShare y ∗ (∃ d, owns (c : Thread nD τ) o fullShare d)
        ∗ (iprop(owns (c : Thread nD τ) a fullShare x ∗ owns (c : Thread nD τ) b fullShare y ∗ owns (c : Thread nD τ) o fullShare (p x y)) -∗ K ⟨⟩))
      ⊢ wp frame (wpE defs₀ Variants.none c none) E
          (mapProg a b o (Rect.unit offA A.size iA) (Rect.unit offB B.size iB) (Rect.unit offD D.size iD) hA hB hD hst p) K := by
  unfold mapProg owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  refine (read_whole_store _ _ _ zD _ _ _).trans ?_
  rw [readAt_whole _ _ _ zA, readAt_whole _ _ _ zB]

/-! ## One grid point of each -/

/-- A family over the points of a grid, continued at a default past its last point. -/
def atPoint {N : ℕ} {S : Shape} {e : EltTy} (f : Fin N → S.Idx → Val e) (n : ℕ) : S.Idx → Val e :=
  if h : n < N then f ⟨n, h⟩ else fun _ => Classical.arbitrary _

theorem atPoint_fin {N : ℕ} {S : Shape} {e : EltTy} (f : Fin N → S.Idx → Val e) (t : Fin N) : atPoint f t.val = f t := dif_pos t.isLt

/-- A value restarted at the first eight positions and continued from eight positions before at every other. -/
def stacked {β : Type} (f : ℕ → β) (g : ℕ → β → β) (n : ℕ) : β := if h : n < 8 then f n else g n (stacked f g (n - 8))
termination_by n
decreasing_by omega

theorem stacked_start {β : Type} (f : ℕ → β) (g : ℕ → β → β) (n : ℕ) (h : n < 8) : stacked f g n = f n := by
  rw [stacked, dif_pos h]
theorem stacked_next {β : Type} (f : ℕ → β) (g : ℕ → β → β) (n : ℕ) (h : ¬ n < 8) : stacked f g n = g n (stacked f g (n - 8)) := by
  rw [stacked, dif_neg h]

/-- A value folded over the points of a row of eight, restarted at each row's first point. -/
def folded {α β : Type} (z : β) (p : α → β → β) (x : ℕ → α) : ℕ → β
  | 0 => p (x 0) z
  | n + 1 => if (n + 1) % 8 = 0 then p (x (n + 1)) z else p (x (n + 1)) (folded z p x n)

theorem folded_start {α β : Type} (z : β) (p : α → β → β) (x : ℕ → α) (n : ℕ) (h : n % 8 = 0) : folded z p x n = p (x n) z := by
  cases n with
  | zero => rfl
  | succ n => exact if_pos h
theorem folded_next {α β : Type} (z : β) (p : α → β → β) (x : ℕ → α) (n : ℕ) (h : n % 8 ≠ 0) :
    folded z p x n = p (x n) (folded z p x (n - 1)) := by
  cases n with
  | zero => exact absurd rfl h
  | succ n => exact if_neg h

/-- The running maximum's body at a point: what rides along is kept, the output ends at the fold up to the point. -/
theorem fold_point (c : Dev nD) (E : Set ℕ) (cond : Prop) [Decidable cond] (n : ℕ) (hc : cond ↔ n % 8 = 0)
    (a : Memref sig .tc .vmem A eA) (o : Memref sig .tc .vmem B eB)
    (offA : Fin A.rank → Nat) (offB : Fin B.rank → Nat) (iA : ∀ i, offA i + A.size i ≤ A.size i) (iB : ∀ i, offB i + B.size i ≤ B.size i)
    (zA : offA = fun _ => 0) (zB : offB = fun _ => 0)
    (hA : 0 < (Rect.unit offA A.size iA).shape.numel) (hB : 0 < (Rect.unit offB B.size iB).shape.numel) (hs : eB.bits = 32)
    (z : B.Idx → Val eB) (p : (A.Idx → Val eA) → (B.Idx → Val eB) → B.Idx → Val eB) (xs : ℕ → A.Idx → Val eA)
    {ι κ : Type} (fx : ι → A.Idx → Val eA) (fy : κ → B.Idx → Val eB) (hx : ∀ d, fx d = xs n)
    (hy : n % 8 ≠ 0 → ∀ d, fy d = folded z p xs (n - 1)) (P Q : sProp 𝕄) :
    iprop(P ∗ Q ∗ (∃ d, owns (c : Thread nD τ) a fullShare (fx d)) ∗ (∃ d, owns (c : Thread nD τ) o fullShare (fy d)))
      ⊢ wp frame (wpE defs₀ Variants.none c none) E
          (foldProg cond a o (Rect.unit offA A.size iA) (Rect.unit offB B.size iB) hA hB hs z p) fun _ =>
        iprop(P ∗ Q ∗ owns (c : Thread nD τ) a fullShare (xs n) ∗ owns (c : Thread nD τ) o fullShare (folded z p xs n)) := by
  simp only [hx]
  by_cases h0 : n % 8 = 0
  · rw [folded_start _ _ _ _ h0]
    iintro ⟨HP, HQ, ⟨%d0, H0⟩, ⟨%d1, H1⟩⟩
    iapply (fold_first defs₀ c E cond (hc.mpr h0) a o offA offB iA iB zA zB hA hB hs z p (xs n) _)
    isplitl [H0]; · iexact H0
    isplitl [H1]; · iexists _; iexact H1
    iintro ⟨H0, H1⟩
    isplitl [HP]; · iexact HP
    isplitl [HQ]; · iexact HQ
    isplitl [H0]; · iexact H0
    iexact H1
  · rw [folded_next _ _ _ _ h0]
    simp only [hy h0]
    iintro ⟨HP, HQ, ⟨%d0, H0⟩, ⟨%d1, H1⟩⟩
    iapply (fold_next defs₀ c E cond (fun h => h0 (hc.mp h)) a o offA offB iA iB zA zB hA hB hs z p (xs n) _ _)
    isplitl [H0]; · iexact H0
    isplitl [H1]; · iexact H1
    iintro ⟨H0, H1⟩
    isplitl [HP]; · iexact HP
    isplitl [HQ]; · iexact HQ
    isplitl [H0]; · iexact H0
    iexact H1

/-- The quantiser's body at a point. -/
theorem map_point (c : Dev nD) (E : Set ℕ)
    (a : Memref sig .tc .vmem A eA) (b : Memref sig .tc .vmem B eB) (o : Memref sig .tc .vmem D eD)
    (offA : Fin A.rank → Nat) (offB : Fin B.rank → Nat) (offD : Fin D.rank → Nat) (iA : ∀ i, offA i + A.size i ≤ A.size i)
    (iB : ∀ i, offB i + B.size i ≤ B.size i) (iD : ∀ i, offD i + D.size i ≤ D.size i)
    (zA : offA = fun _ => 0) (zB : offB = fun _ => 0) (zD : offD = fun _ => 0)
    (hA : 0 < (Rect.unit offA A.size iA).shape.numel) (hB : 0 < (Rect.unit offB B.size iB).shape.numel)
    (hD : 0 < (Rect.unit offD D.size iD).shape.numel) (hst : (o.access (Rect.unit offD D.size iD)).Stores Finset.univ)
    (p : (A.Idx → Val eA) → (B.Idx → Val eB) → D.Idx → Val eD)
    {ι κ μ : Type} (fx : ι → A.Idx → Val eA) (fy : κ → B.Idx → Val eB) (fo : μ → D.Idx → Val eD)
    (x : A.Idx → Val eA) (y : B.Idx → Val eB) (hx : ∀ d, fx d = x) (hy : ∀ d, fy d = y) (P Q : sProp 𝕄) :
    iprop(P ∗ Q ∗ (∃ d, owns (c : Thread nD τ) a fullShare (fx d)) ∗ (∃ d, owns (c : Thread nD τ) b fullShare (fy d))
        ∗ (∃ d, owns (c : Thread nD τ) o fullShare (fo d)))
      ⊢ wp frame (wpE defs₀ Variants.none c none) E
          (mapProg a b o (Rect.unit offA A.size iA) (Rect.unit offB B.size iB) (Rect.unit offD D.size iD) hA hB hD hst p) fun _ =>
        iprop(P ∗ Q ∗ owns (c : Thread nD τ) a fullShare x ∗ owns (c : Thread nD τ) b fullShare y ∗ owns (c : Thread nD τ) o fullShare (p x y)) := by
  simp only [hx, hy]
  iintro ⟨HP, HQ, ⟨%d0, H0⟩, ⟨%d1, H1⟩, ⟨%d2, H2⟩⟩
  iapply (map_step defs₀ c E a b o offA offB offD iA iB iD zA zB zD hA hB hD hst p x y _)
  isplitl [H0]; · iexact H0
  isplitl [H1]; · iexact H1
  isplitl [H2]; · iexists _; iexact H2
  iintro ⟨H0, H1, H2⟩
  isplitl [HP]; · iexact HP
  isplitl [HQ]; · iexact HQ
  isplitl [H0]; · iexact H0
  isplitl [H1]; · iexact H1
  iexact H2

/-! ## The product added into the scratch buffer -/

variable {A3 A4 A5 A6 A7 A8 A9 A10 A11 S : Shape} {e3 e4 e5 e6 e7 e8 e9 e10 e11 eS : EltTy}

/-- Load nine operand blocks; write what the payloads make of them into the scratch buffer's rows, overwriting on the first
    visit and adding to what the rows hold on a later one; copy the rows to the output block. -/
def rowsProg (c1 c2 : Prop) [Decidable c1] [Decidable c2]
    (a3 : Memref sig .tc .vmem A3 e3) (a4 : Memref sig .tc .vmem A4 e4) (a5 : Memref sig .tc .vmem A5 e5) (a6 : Memref sig .tc .vmem A6 e6) (a7 : Memref sig .tc .vmem A7 e7) (a8 : Memref sig .tc .vmem A8 e8) (a9 : Memref sig .tc .vmem A9 e9) (a10 : Memref sig .tc .vmem A10 e10) (a11 : Memref sig .tc .vmem A11 e11)
    (s : Memref sig .tc .vmem S eS) (rS : Rect S) (o : Memref sig .tc .vmem rS.shape eS)
    (r3 : Rect A3) (r4 : Rect A4) (r5 : Rect A5) (r6 : Rect A6) (r7 : Rect A7) (r8 : Rect A8) (r9 : Rect A9) (r10 : Rect A10) (r11 : Rect A11)
    (h3 : 0 < r3.shape.numel) (h4 : 0 < r4.shape.numel) (h5 : 0 < r5.shape.numel) (h6 : 0 < r6.shape.numel) (h7 : 0 < r7.shape.numel) (h8 : 0 < r8.shape.numel) (h9 : 0 < r9.shape.numel) (h10 : 0 < r10.shape.numel) (h11 : 0 < r11.shape.numel)
    (hS : 0 < rS.shape.numel) (offG : Fin rS.shape.rank → Nat) (iG : ∀ i, offG i + rS.shape.size i ≤ rS.shape.size i)
    (hG : 0 < (Rect.unit offG rS.shape.size iG).shape.numel) (hs : eS.bits = 32)
    (first : (r3.shape.Idx → Val e3) → (r4.shape.Idx → Val e4) → (r5.shape.Idx → Val e5) → (r6.shape.Idx → Val e6) → (r7.shape.Idx → Val e7) → (r8.shape.Idx → Val e8) → (r9.shape.Idx → Val e9) → (r10.shape.Idx → Val e10) → (r11.shape.Idx → Val e11) → rS.shape.Idx → Val eS)
    (next : (r3.shape.Idx → Val e3) → (r4.shape.Idx → Val e4) → (r5.shape.Idx → Val e5) → (r6.shape.Idx → Val e6) → (r7.shape.Idx → Val e7) → (r8.shape.Idx → Val e8) → (r9.shape.Idx → Val e9) → (r10.shape.Idx → Val e10) → (r11.shape.Idx → Val e11) → (rS.shape.Idx → Val eS) → rS.shape.Idx → Val eS) :
    Prog (TpuEff nD τ sig Val Λ₀ .tc) PUnit := do
  let v3 ← Prog.lift (.load a3 r3.toLoadRect (View.loadsAt_vmem h3))
  let v4 ← Prog.lift (.load a4 r4.toLoadRect (View.loadsAt_vmem h4))
  let v7 ← Prog.lift (.load a7 r7.toLoadRect (View.loadsAt_vmem h7))
  let v5 ← Prog.lift (.load a5 r5.toLoadRect (View.loadsAt_vmem h5))
  let v8 ← Prog.lift (.load a8 r8.toLoadRect (View.loadsAt_vmem h8))
  let v6 ← Prog.lift (.load a6 r6.toLoadRect (View.loadsAt_vmem h6))
  let v9 ← Prog.lift (.load a9 r9.toLoadRect (View.loadsAt_vmem h9))
  let v10 ← Prog.lift (.load a10 r10.toLoadRect (View.loadsAt_vmem h10))
  let v11 ← Prog.lift (.load a11 r11.toLoadRect (View.loadsAt_vmem h11))
  if c1 then do
    let _ ← Prog.lift (.load s rS.toLoadRect (View.loadsAt_vmem hS))
    Prog.lift (.store s rS (first v3 v4 v5 v6 v7 v8 v9 v10 v11) Finset.univ (View.stores_vmem_bits_univ hS hs) (.inl rfl))
    pure ⟨⟩
  else pure ⟨⟩
  if c2 then do
    let w ← Prog.lift (.load s rS.toLoadRect (View.loadsAt_vmem hS))
    let _ ← Prog.lift (.load s rS.toLoadRect (View.loadsAt_vmem hS))
    Prog.lift (.store s rS (next v3 v4 v5 v6 v7 v8 v9 v10 v11 w) Finset.univ (View.stores_vmem_bits_univ hS hs) (.inl rfl))
    pure ⟨⟩
  else pure ⟨⟩
  let w ← Prog.lift (.load s rS.toLoadRect (View.loadsAt_vmem hS))
  let _ ← Prog.lift (.load o (Rect.unit offG rS.shape.size iG).toLoadRect (View.loadsAt_vmem hG))
  Prog.lift (.store o (Rect.unit offG rS.shape.size iG) w Finset.univ (View.stores_vmem_bits_univ hG hs) (.inl rfl))
  pure ⟨⟩

set_option maxHeartbeats 1600000 in
/-- On the first visit the rows and the output block end at the first payload, on a later one at the later payload of what
    the rows held. -/
theorem rows_visit (c : Dev nD) (E : Set ℕ) (c1 c2 : Prop) [Decidable c1] [Decidable c2]
    (a3 : Memref sig .tc .vmem A3 e3) (a4 : Memref sig .tc .vmem A4 e4) (a5 : Memref sig .tc .vmem A5 e5) (a6 : Memref sig .tc .vmem A6 e6) (a7 : Memref sig .tc .vmem A7 e7) (a8 : Memref sig .tc .vmem A8 e8) (a9 : Memref sig .tc .vmem A9 e9) (a10 : Memref sig .tc .vmem A10 e10) (a11 : Memref sig .tc .vmem A11 e11)
    (s : Memref sig .tc .vmem S eS) (rS : Rect S) (o : Memref sig .tc .vmem rS.shape eS)
    (r3 : Rect A3) (r4 : Rect A4) (r5 : Rect A5) (r6 : Rect A6) (r7 : Rect A7) (r8 : Rect A8) (r9 : Rect A9) (r10 : Rect A10) (r11 : Rect A11)
    (h3 : 0 < r3.shape.numel) (h4 : 0 < r4.shape.numel) (h5 : 0 < r5.shape.numel) (h6 : 0 < r6.shape.numel) (h7 : 0 < r7.shape.numel) (h8 : 0 < r8.shape.numel) (h9 : 0 < r9.shape.numel) (h10 : 0 < r10.shape.numel) (h11 : 0 < r11.shape.numel)
    (hS : 0 < rS.shape.numel) (offG : Fin rS.shape.rank → Nat) (iG : ∀ i, offG i + rS.shape.size i ≤ rS.shape.size i)
    (hG : 0 < (Rect.unit offG rS.shape.size iG).shape.numel) (hs : eS.bits = 32)
    (first : (r3.shape.Idx → Val e3) → (r4.shape.Idx → Val e4) → (r5.shape.Idx → Val e5) → (r6.shape.Idx → Val e6) → (r7.shape.Idx → Val e7) → (r8.shape.Idx → Val e8) → (r9.shape.Idx → Val e9) → (r10.shape.Idx → Val e10) → (r11.shape.Idx → Val e11) → rS.shape.Idx → Val eS)
    (next : (r3.shape.Idx → Val e3) → (r4.shape.Idx → Val e4) → (r5.shape.Idx → Val e5) → (r6.shape.Idx → Val e6) → (r7.shape.Idx → Val e7) → (r8.shape.Idx → Val e8) → (r9.shape.Idx → Val e9) → (r10.shape.Idx → Val e10) → (r11.shape.Idx → Val e11) → (rS.shape.Idx → Val eS) → rS.shape.Idx → Val eS) (zG : offG = fun _ => 0)
    (x3 : A3.Idx → Val e3) (x4 : A4.Idx → Val e4) (x5 : A5.Idx → Val e5) (x6 : A6.Idx → Val e6) (x7 : A7.Idx → Val e7) (x8 : A8.Idx → Val e8) (x9 : A9.Idx → Val e9) (x10 : A10.Idx → Val e10) (x11 : A11.Idx → Val e11)
    (g : S.Idx → Val eS) (v : rS.shape.Idx → Val eS)
    (hv : (c1 ∧ ¬ c2 ∧ v = first (View.ld x3 r3) (View.ld x4 r4) (View.ld x5 r5) (View.ld x6 r6) (View.ld x7 r7) (View.ld x8 r8) (View.ld x9 r9) (View.ld x10 r10) (View.ld x11 r11)) ∨ (¬ c1 ∧ c2 ∧ v = next (View.ld x3 r3) (View.ld x4 r4) (View.ld x5 r5) (View.ld x6 r6) (View.ld x7 r7) (View.ld x8 r8) (View.ld x9 r9) (View.ld x10 r10) (View.ld x11 r11) (View.ld g rS)))
    (K : PUnit → sProp 𝕄) :
    iprop((owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11)
        ∗ (∃ d, owns (c : Thread nD τ) o fullShare d) ∗ owns (c : Thread nD τ) s fullShare g
        ∗ (iprop((owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11)
            ∗ owns (c : Thread nD τ) o fullShare v
            ∗ (∃ g' : S.Idx → Val eS, ⌜View.ld g' rS = v ∧ ∀ y, y ∉ rS.set → g' y = g y⌝ ∗ owns (c : Thread nD τ) s fullShare g')) -∗ K ⟨⟩))
      ⊢ wp frame (wpE defs₀ Variants.none c none) E
          (rowsProg c1 c2 a3 a4 a5 a6 a7 a8 a9 a10 a11 s rS o r3 r4 r5 r6 r7 r8 r9 r10 r11 h3 h4 h5 h6 h7 h8 h9 h10 h11 hS offG iG hG hs first next) K := by
  unfold rowsProg owns
  iintro ⟨⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩⟩, ⟨%d, %fo, -, Ho⟩, ⟨%fs, %hfs, Hs⟩, Hk⟩
  subst hf3 hf4 hf5 hf6 hf7 hf8 hf9 hf10 hf11 hfs
  rcases hv with ⟨hc1, hc2, rfl⟩ | ⟨hc1, hc2, rfl⟩ <;> (
    sl_exec (disch := first | sl_exact hc1 | sl_exact hc2)
    sl_step
    iapply Hk
    isplitl [H3 H4 H5 H6 H7 H8 H9 H10 H11]
    · isplitl [H3]
      · iexists _; isplitr; · ipureintro; rfl
        iexact H3
      isplitl [H4]
      · iexists _; isplitr; · ipureintro; rfl
        iexact H4
      isplitl [H5]
      · iexists _; isplitr; · ipureintro; rfl
        iexact H5
      isplitl [H6]
      · iexists _; isplitr; · ipureintro; rfl
        iexact H6
      isplitl [H7]
      · iexists _; isplitr; · ipureintro; rfl
        iexact H7
      isplitl [H8]
      · iexists _; isplitr; · ipureintro; rfl
        iexact H8
      isplitl [H9]
      · iexists _; isplitr; · ipureintro; rfl
        iexact H9
      isplitl [H10]
      · iexists _; isplitr; · ipureintro; rfl
        iexact H10
      iexists _; isplitr; · ipureintro; rfl
      iexact H11
    isplitl [Ho]
    · iexists _; isplitr
      swap; · iexact Ho
      ipureintro
      refine (read_whole_store _ _ _ zG _ _ _).trans ?_
      funext x
      exact View.read_writes_cons_emb _ _ rS _ [] x
    iexists (s.view.read Val (s.view.writes Val fs [⟨rS, _⟩]))
    isplitr
    · ipureintro
      exact ⟨funext fun x => View.read_writes_cons_emb _ _ rS _ [] x, fun y hy => View.read_writes_cons_miss _ _ _ [] y hy⟩
    iexists _; isplitr
    swap; · iexact Hs
    ipureintro; rfl)

/-- Between points, the scratch rows of each of the last eight points hold what that point left. -/
def RowsHold {N : ℕ} {sz : Fin S.rank → Nat} (off : Fin N → Fin S.rank → Nat) (inb : ∀ t i, off t i + sz i ≤ S.size i)
    (sums : ℕ → (⟨S.rank, sz⟩ : Shape).Idx → Val eS) (g : S.Idx → Val eS) (n : ℕ) : Prop :=
  ∀ j : Fin N, j.val < n → n ≤ j.val + 8 → View.ld g (Rect.unit (off j) sz (inb j)) = sums j.val

theorem rows_step {N : ℕ} {sz : Fin S.rank → Nat} (off : Fin N → Fin S.rank → Nat) (inb : ∀ t i, off t i + sz i ≤ S.size i)
    (sums : ℕ → (⟨S.rank, sz⟩ : Shape).Idx → Val eS) (g g' : S.Idx → Val eS) (t : Fin N)
    (hmiss : ∀ j : Fin N, j.val % 8 ≠ t.val % 8 → ∀ x, (Rect.unit (off j) sz (inb j)).emb x ∉ (Rect.unit (off t) sz (inb t)).set)
    (hg : RowsHold off inb sums g t.val) (hnew : View.ld g' (Rect.unit (off t) sz (inb t)) = sums t.val)
    (hold : ∀ y, y ∉ (Rect.unit (off t) sz (inb t)).set → g' y = g y) : RowsHold off inb sums g' (t.val + 1) := by
  intro j hj hj'
  by_cases e : j = t
  · subst e; exact hnew
  · have hne : j.val ≠ t.val := fun h => e (Fin.ext h)
    have hlt : j.val < t.val := by omega
    rw [← hg j hlt (by omega)]
    funext x
    exact hold _ (hmiss j (by omega) x)

theorem ld_off {sz : Fin S.rank → Nat} {o o' : Fin S.rank → Nat} (h : ∀ i, o i + sz i ≤ S.size i) (h' : ∀ i, o' i + sz i ≤ S.size i)
    (e : o = o') (g : S.Idx → Val eS) :
    (View.ld g (Rect.unit o sz h) : (⟨S.rank, sz⟩ : Shape).Idx → Val eS) = View.ld g (Rect.unit o' sz h') := by subst e; rfl

set_option maxHeartbeats 1600000 in
/-- The product's body at a point: the scratch rows and the output block end at the point's sum. -/
theorem rows_point (c : Dev nD) (E : Set ℕ) (c1 c2 : Prop) [Decidable c1] [Decidable c2] {N : ℕ} (t : Fin N)
    (hc1 : c1 ↔ t.val < 8) (hc2 : c2 ↔ ¬ t.val < 8)
    (a3 : Memref sig .tc .vmem A3 e3) (a4 : Memref sig .tc .vmem A4 e4) (a5 : Memref sig .tc .vmem A5 e5) (a6 : Memref sig .tc .vmem A6 e6) (a7 : Memref sig .tc .vmem A7 e7) (a8 : Memref sig .tc .vmem A8 e8) (a9 : Memref sig .tc .vmem A9 e9) (a10 : Memref sig .tc .vmem A10 e10) (a11 : Memref sig .tc .vmem A11 e11)
    (s : Memref sig .tc .vmem S eS) {sz : Fin S.rank → Nat} (off : Fin N → Fin S.rank → Nat) (inb : ∀ t i, off t i + sz i ≤ S.size i)
    (o : Memref sig .tc .vmem (⟨S.rank, sz⟩ : Shape) eS)
    (r3 : Rect A3) (r4 : Rect A4) (r5 : Rect A5) (r6 : Rect A6) (r7 : Rect A7) (r8 : Rect A8) (r9 : Rect A9) (r10 : Rect A10) (r11 : Rect A11)
    (h3 : 0 < r3.shape.numel) (h4 : 0 < r4.shape.numel) (h5 : 0 < r5.shape.numel) (h6 : 0 < r6.shape.numel) (h7 : 0 < r7.shape.numel) (h8 : 0 < r8.shape.numel) (h9 : 0 < r9.shape.numel) (h10 : 0 < r10.shape.numel) (h11 : 0 < r11.shape.numel)
    (hS : 0 < (⟨S.rank, sz⟩ : Shape).numel) (offG : Fin S.rank → Nat) (iG : ∀ i, offG i + sz i ≤ sz i)
    (hG : 0 < (⟨S.rank, sz⟩ : Shape).numel) (hs : eS.bits = 32)
    (first : (r3.shape.Idx → Val e3) → (r4.shape.Idx → Val e4) → (r5.shape.Idx → Val e5) → (r6.shape.Idx → Val e6) → (r7.shape.Idx → Val e7) → (r8.shape.Idx → Val e8) → (r9.shape.Idx → Val e9) → (r10.shape.Idx → Val e10) → (r11.shape.Idx → Val e11) → (⟨S.rank, sz⟩ : Shape).Idx → Val eS)
    (next : (r3.shape.Idx → Val e3) → (r4.shape.Idx → Val e4) → (r5.shape.Idx → Val e5) → (r6.shape.Idx → Val e6) → (r7.shape.Idx → Val e7) → (r8.shape.Idx → Val e8) → (r9.shape.Idx → Val e9) → (r10.shape.Idx → Val e10) → (r11.shape.Idx → Val e11) → ((⟨S.rank, sz⟩ : Shape).Idx → Val eS) → (⟨S.rank, sz⟩ : Shape).Idx → Val eS) (zG : offG = fun _ => 0)
    (hmiss : ∀ j : Fin N, j.val % 8 ≠ t.val % 8 → ∀ x, (Rect.unit (off j) sz (inb j)).emb x ∉ (Rect.unit (off t) sz (inb t)).set)
    (hsame : ∀ j : Fin N, j.val % 8 = t.val % 8 → off j = off t)
    (x3 : A3.Idx → Val e3) (x4 : A4.Idx → Val e4) (x5 : A5.Idx → Val e5) (x6 : A6.Idx → Val e6) (x7 : A7.Idx → Val e7) (x8 : A8.Idx → Val e8) (x9 : A9.Idx → Val e9) (x10 : A10.Idx → Val e10) (x11 : A11.Idx → Val e11)
    {ι3 ι4 ι5 ι6 ι7 ι8 ι9 ι10 ι11 μ : Type}
    (f3 : ι3 → A3.Idx → Val e3) (f4 : ι4 → A4.Idx → Val e4) (f5 : ι5 → A5.Idx → Val e5) (f6 : ι6 → A6.Idx → Val e6) (f7 : ι7 → A7.Idx → Val e7) (f8 : ι8 → A8.Idx → Val e8) (f9 : ι9 → A9.Idx → Val e9) (f10 : ι10 → A10.Idx → Val e10) (f11 : ι11 → A11.Idx → Val e11) (fo : μ → (⟨S.rank, sz⟩ : Shape).Idx → Val eS)
    (hx3 : ∀ d, f3 d = x3) (hx4 : ∀ d, f4 d = x4) (hx5 : ∀ d, f5 d = x5) (hx6 : ∀ d, f6 d = x6) (hx7 : ∀ d, f7 d = x7) (hx8 : ∀ d, f8 d = x8) (hx9 : ∀ d, f9 d = x9) (hx10 : ∀ d, f10 d = x10) (hx11 : ∀ d, f11 d = x11)
    (F : ℕ → (⟨S.rank, sz⟩ : Shape).Idx → Val eS) (G : ℕ → ((⟨S.rank, sz⟩ : Shape).Idx → Val eS) → (⟨S.rank, sz⟩ : Shape).Idx → Val eS)
    (hF : F t.val = first (View.ld x3 r3) (View.ld x4 r4) (View.ld x5 r5) (View.ld x6 r6) (View.ld x7 r7) (View.ld x8 r8) (View.ld x9 r9) (View.ld x10 r10) (View.ld x11 r11)) (hGn : G t.val = next (View.ld x3 r3) (View.ld x4 r4) (View.ld x5 r5) (View.ld x6 r6) (View.ld x7 r7) (View.ld x8 r8) (View.ld x9 r9) (View.ld x10 r10) (View.ld x11 r11)) (Q R : sProp 𝕄) :
    iprop((∃ g, ⌜RowsHold off inb (stacked F G) g t.val⌝ ∗ owns (c : Thread nD τ) s fullShare g ∗ R) ∗ Q
        ∗ (∃ d, owns (c : Thread nD τ) a3 fullShare (f3 d)) ∗ (∃ d, owns (c : Thread nD τ) a4 fullShare (f4 d)) ∗ (∃ d, owns (c : Thread nD τ) a5 fullShare (f5 d)) ∗ (∃ d, owns (c : Thread nD τ) a6 fullShare (f6 d)) ∗ (∃ d, owns (c : Thread nD τ) a7 fullShare (f7 d)) ∗ (∃ d, owns (c : Thread nD τ) a8 fullShare (f8 d)) ∗ (∃ d, owns (c : Thread nD τ) a9 fullShare (f9 d)) ∗ (∃ d, owns (c : Thread nD τ) a10 fullShare (f10 d)) ∗ (∃ d, owns (c : Thread nD τ) a11 fullShare (f11 d))
        ∗ (∃ d, owns (c : Thread nD τ) o fullShare (fo d)))
      ⊢ wp frame (wpE defs₀ Variants.none c none) E
          (rowsProg c1 c2 a3 a4 a5 a6 a7 a8 a9 a10 a11 s (Rect.unit (off t) sz (inb t)) o r3 r4 r5 r6 r7 r8 r9 r10 r11 h3 h4 h5 h6 h7 h8 h9 h10 h11 hS offG iG hG hs first next) fun _ =>
        iprop((∃ g, ⌜RowsHold off inb (stacked F G) g (t.val + 1)⌝ ∗ owns (c : Thread nD τ) s fullShare g ∗ R) ∗ Q
          ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11
          ∗ owns (c : Thread nD τ) o fullShare (stacked F G t.val)) := by
  simp only [hx3, hx4, hx5, hx6, hx7, hx8, hx9, hx10, hx11]
  iintro ⟨⟨%g, %hg, Hs, HR⟩, HQ, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%do', Ho⟩⟩
  have hv : (c1 ∧ ¬ c2 ∧ stacked F G t.val = first (View.ld x3 r3) (View.ld x4 r4) (View.ld x5 r5) (View.ld x6 r6) (View.ld x7 r7) (View.ld x8 r8) (View.ld x9 r9) (View.ld x10 r10) (View.ld x11 r11))
      ∨ (¬ c1 ∧ c2 ∧ stacked F G t.val = next (View.ld x3 r3) (View.ld x4 r4) (View.ld x5 r5) (View.ld x6 r6) (View.ld x7 r7) (View.ld x8 r8) (View.ld x9 r9) (View.ld x10 r10) (View.ld x11 r11) (View.ld g (Rect.unit (off t) sz (inb t)))) := by
    by_cases h0 : t.val < 8
    · exact .inl ⟨hc1.mpr h0, fun h => hc2.mp h h0, (stacked_start F G _ h0).trans hF⟩
    · refine .inr ⟨fun h => h0 (hc1.mp h), hc2.mpr h0, ?_⟩
      have hp := hg ⟨t.val - 8, by omega⟩ (by show t.val - 8 < t.val; omega) (by show t.val ≤ t.val - 8 + 8; omega)
      have ho := hsame ⟨t.val - 8, by omega⟩ (by show (t.val - 8) % 8 = _; omega)
      have hl : View.ld g (Rect.unit (off t) sz (inb t)) = stacked F G (t.val - 8) := (ld_off _ _ ho.symm g).trans hp
      rw [hl]
      exact (stacked_next F G _ h0).trans (congrFun hGn _)
  iapply (rows_visit defs₀ c E c1 c2 a3 a4 a5 a6 a7 a8 a9 a10 a11 s (Rect.unit (off t) sz (inb t)) o r3 r4 r5 r6 r7 r8 r9 r10 r11 h3 h4 h5 h6 h7 h8 h9 h10 h11 hS offG iG hG hs first next zG x3 x4 x5 x6 x7 x8 x9 x10 x11 g _ hv _)
  isplitl [H3 H4 H5 H6 H7 H8 H9 H10 H11]
  · isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  isplitl [Ho]; · iexists _; iexact Ho
  isplitl [Hs]; · iexact Hs
  iintro ⟨⟨H3, H4, H5, H6, H7, H8, H9, H10, H11⟩, Ho, ⟨%g', %hg', Hs⟩⟩
  isplitl [Hs HR]
  · iexists g'
    isplitr; · ipureintro; exact rows_step off inb _ g g' t hmiss hg hg'.1 hg'.2
    isplitl [Hs]; · iexact Hs
    iexact HR
  isplitl [HQ]; · iexact HQ
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact Ho

/-! ## Buffers between points -/

/-- Window `w`'s block at point `t`, read off its array as a call finds it. -/
abbrev blockAt (cfg : Cfg sig Λ₀) (c : Dev nD) (V : (b : Ref sig .tc) → Buf Val ((c : Thread nD τ).loc b)) (w : Fin cfg.W) (t : Fin cfg.N) :
    ((cfg.win w).xblock (cfg.grid.coords t)).Idx → Val (cfg.win w).elt :=
  ((cfg.win w).blk t).view.read Val (V (Pipeline.arrRef cfg.spec w))

/-- A call's proof data: entered with the buffers at `V`, leaving `after` in its blocks, nothing else between points. -/
def callDat (cfg : Cfg sig Λ₀) (c : Dev nD) (V : (b : Ref sig .tc) → Buf Val ((c : Thread nD τ).loc b))
    (after : (w : Fin cfg.W) → Fin cfg.N → (cfg.win w).block.Idx → Val (cfg.win w).elt) : Dat τ Val Unit ℕ (UR sig nD τ) ℕ cfg c where
  A w := V (Pipeline.arrRef cfg.spec w)
  after := after
  Φ _ := Pipeline.ΦA cfg.spec c
  q _ := fullShare
  owed _ := 0

/-- An output written back at the end of each row of eight holds, within a row, what the point before left. -/
theorem before_kept {cfg : Cfg sig Λ₀} {c : Dev nD} (dat : Dat τ Val Unit ℕ (UR sig nD τ) ℕ cfg c) (w : Fin cfg.W)
    (hw : (cfg.win w).isOut = true) (hf : ∀ t, (cfg.win w).flush t = true ↔ t.val % 8 = 7) (hlive : ∀ i, cfg.idle w i = false)
    (hclip : ∀ (i : cfg.grid.Coords) a, (cfg.win w).clip i a = none) (t : Fin cfg.N) (h : t.val % 8 ≠ 0) (d) :
    dat.before w t d = dat.after w ⟨t.val - 1, Nat.lt_of_le_of_lt (Nat.sub_le _ _) t.isLt⟩ :=
  dat.before_out_kept w hw t (fun e => h (by rw [e]))
    (Bool.eq_false_iff.mpr fun h' => by have := (hf _).mp h'; dsimp only at this; omega) hlive hclip d

end Cert.Whole

end
-- ==== Proof.IdealCalls.lean ====
/- The kernel's running maxima and quantisers over the extended reals' program: what each body leaves in its output block at every grid point,
   as proof data of its pipeline, at any contents `V` of the buffers the call is entered with. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Bodies
public import Idealize.ShloMosaic.Lib.WordCmp

@[expose] public section

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen Cert.Whole

variable {F : FTy → Type} [FloatOps F]

local notation "𝕄" => MT nD τ sig Unit (Elt F) ℕ (UR sig nD τ) ℕ

theorem zero3 : (![0, 0, 0] : Fin 3 → Nat) = fun _ => 0 := by decide
theorem zero2 : (![0, 0] : Fin 2 → Nat) = fun _ => 0 := by decide

variable (V : (c : Dev nD) → (b : Ref sig .tc) → Buf (Elt F) ((c : Thread nD τ).loc b))

/-! ## Running maxima (calls 0, 1, 2) -/

/-- Whether a point is the first of its row of blocks, as the bodies test it. -/
abbrev atStart (n : ℕ) : Prop := Scalar.cmpi .ne (Scalar.extui (Scalar.cmpi .eq (BitVec.ofNat 32 n) 0#32) : BitVec 32) 0#32 = 1#1

theorem atStart_iff {n x : ℕ} (e : x = n / 1 % 8) : atStart x ↔ n % 8 = 0 := by
  rw [Nat.div_one] at e
  subst e
  exact (by decide : ∀ k : Fin 8, atStart k.val ↔ k.val = 0) ⟨n % 8, by omega⟩

/-- The running maximum's body over the shape of its input block. -/
abbrev amaxProg (n : ℕ) (S : Shape) (off : Fin S.rank → Nat) (inb : ∀ i, off i + S.size i ≤ S.size i) (h : 0 < S.numel)
    (p : Vec F S .f32 → Vec F S1x8x128 .f32 → Vec F S1x8x128 .f32) (a : Memref sig .tc .vmem S .f32) (o : Memref sig .tc .vmem S1x8x128 .f32) :
    Prog (TpuEff nD τ sig (Elt F) Λ₀ .tc) PUnit :=
  foldProg (atStart n) a o (Rect.unit (s := S) off S.size inb)
    (Rect.unit (s := S1x8x128) ![0, 0, 0] S1x8x128.size inb_S1x8x128_S1x8x128_0_0_0) h h_S1x8x128 rfl k0_pay1 p

/-- What the output block holds after each point of calls 0, 1, 2. -/
def top0 (c : Dev nD) : ℕ → Vec F S1x8x128 .f32 := folded k0_pay1 k0_pay2 (atPoint (S := S1x256x4096) (e := .f32) (blockAt cfg0 c (V c) 0))
def top1 (c : Dev nD) : ℕ → Vec F S1x8x128 .f32 := folded k0_pay1 k1_pay2 (atPoint (S := S1x256x2048) (e := .f32) (blockAt cfg1 c (V c) 0))
def top2 (c : Dev nD) : ℕ → Vec F S1x8x128 .f32 := folded k0_pay1 k2_pay2 (atPoint (S := S1x256x2048) (e := .f32) (blockAt cfg2 c (V c) 0))

def dat0 (c : Dev nD) : Dat τ (Elt F) Unit ℕ (UR sig nD τ) ℕ cfg0 c :=
  callDat cfg0 c (V c) fun w t => match w with
    | ⟨0, _⟩ => blockAt cfg0 c (V c) 0 t
    | ⟨1, _⟩ => top0 V c t.val
def dat1 (c : Dev nD) : Dat τ (Elt F) Unit ℕ (UR sig nD τ) ℕ cfg1 c :=
  callDat cfg1 c (V c) fun w t => match w with
    | ⟨0, _⟩ => blockAt cfg1 c (V c) 0 t
    | ⟨1, _⟩ => top1 V c t.val
def dat2 (c : Dev nD) : Dat τ (Elt F) Unit ℕ (UR sig nD τ) ℕ cfg2 c :=
  callDat cfg2 c (V c) fun w t => match w with
    | ⟨0, _⟩ => blockAt cfg2 c (V c) 0 t
    | ⟨1, _⟩ => top2 V c t.val

/-- The amax body at a point of any of the three calls, from how the call finds its two blocks. -/
theorem amax_point (c : Dev nD) (n k : ℕ) (hk : k = n / 1 % 8) (S : Shape) (off : Fin S.rank → Nat) (inb : ∀ i, off i + S.size i ≤ S.size i)
    (z : off = fun _ => 0) (h : 0 < S.numel) (p : Vec F S .f32 → Vec F S1x8x128 .f32 → Vec F S1x8x128 .f32)
    (a : Memref sig .tc .vmem S .f32) (o : Memref sig .tc .vmem S1x8x128 .f32) (xs : ℕ → Vec F S .f32) {ι κ : Type} (fx : ι → Vec F S .f32)
    (fy : κ → Vec F S1x8x128 .f32) (x : Vec F S .f32) (e : xs n = x) (hx : ∀ d, fx d = x)
    (hy : n % 8 ≠ 0 → ∀ d, fy d = folded k0_pay1 p xs (n - 1)) (P Q : sProp 𝕄) :
    iprop(P ∗ Q ∗ (∃ d, owns (c : Thread nD τ) a fullShare (fx d)) ∗ (∃ d, owns (c : Thread nD τ) o fullShare (fy d)))
      ⊢ wp frame (wpE (defs₀ (F := F)) Variants.none c none) Set.univ (amaxProg k S off inb h p a o) fun _ =>
        iprop(P ∗ Q ∗ owns (c : Thread nD τ) a fullShare x ∗ owns (c : Thread nD τ) o fullShare (folded k0_pay1 p xs n)) := by
  subst e
  exact fold_point (defs₀ (F := F)) c Set.univ _ n (atStart_iff hk) a o off _ inb _ z zero3 h h_S1x8x128 rfl k0_pay1 p xs fx fy hx hy P Q

theorem obligation0 (c : Dev nD) : BodyObligation (dat0 (F := F) V c) (defs₀ (F := F)) Variants.none () Set.univ := fun t => by
  rw [bigSep_W0, bigSep_W0]
  exact triple_restated (amax_point c t.val (grid0.coords t 1).val (Pipeline.Grid.coords_val t 1 (by decide) rfl) S1x256x4096 _ inb_S1x256x4096_S1x256x4096_0_0_0 zero3
    h_S1x256x4096 k0_pay2 _ _ _ (fun d => (dat0 V c).before 0 t d) (fun d => (dat0 V c).before 1 t d) _ (atPoint_fin _ t)
    (fun d => (dat0 V c).before_in_eq_fetched 0 rfl (fun _ => rfl) (fun _ _ _ => rfl) (fun _ => rfl) t d)
    (fun h d => before_kept (dat0 V c) 1 rfl flush0_1 (fun _ => rfl) (fun _ _ => rfl) t h d)
    ((dat0 V c).Φ t.castSucc) ((dat0 V c).owesAt () t.castSucc)) rfl .rfl fun _ => .rfl

theorem obligation1 (c : Dev nD) : BodyObligation (dat1 (F := F) V c) (defs₀ (F := F)) Variants.none () Set.univ := fun t => by
  rw [bigSep_W1, bigSep_W1]
  exact triple_restated (amax_point c t.val (grid1.coords t 1).val (Pipeline.Grid.coords_val t 1 (by decide) rfl) S1x256x2048 _ inb_S1x256x2048_S1x256x2048_0_0_0 zero3
    h_S1x256x2048 k1_pay2 _ _ _ (fun d => (dat1 V c).before 0 t d) (fun d => (dat1 V c).before 1 t d) _ (atPoint_fin _ t)
    (fun d => (dat1 V c).before_in_eq_fetched 0 rfl (fun _ => rfl) (fun _ _ _ => rfl) (fun _ => rfl) t d)
    (fun h d => before_kept (dat1 V c) 1 rfl flush1_1 (fun _ => rfl) (fun _ _ => rfl) t h d)
    ((dat1 V c).Φ t.castSucc) ((dat1 V c).owesAt () t.castSucc)) rfl .rfl fun _ => .rfl

theorem obligation2 (c : Dev nD) : BodyObligation (dat2 (F := F) V c) (defs₀ (F := F)) Variants.none () Set.univ := fun t => by
  rw [bigSep_W2, bigSep_W2]
  exact triple_restated (amax_point c t.val (grid2.coords t 1).val (Pipeline.Grid.coords_val t 1 (by decide) rfl) S1x256x2048 _ inb_S1x256x2048_S1x256x2048_0_0_0 zero3
    h_S1x256x2048 k2_pay2 _ _ _ (fun d => (dat2 V c).before 0 t d) (fun d => (dat2 V c).before 1 t d) _ (atPoint_fin _ t)
    (fun d => (dat2 V c).before_in_eq_fetched 0 rfl (fun _ => rfl) (fun _ _ _ => rfl) (fun _ => rfl) t d)
    (fun h d => before_kept (dat2 V c) 1 rfl flush2_1 (fun _ => rfl) (fun _ _ => rfl) t h d)
    ((dat2 V c).Φ t.castSucc) ((dat2 V c).owesAt () t.castSucc)) rfl .rfl fun _ => .rfl

/-! ## Quantisers (calls 3 to 6) -/

/-- What the quantiser makes of a block and its scale. -/
def quant (v0 : Vec F S1x256x2048 .f32) (v2 : Vec F S1x8x128 .f32) : Vec F S1x256x2048 .bf16 :=
  k3_pay1 (k3_pay10 (k3_pay2 v2) (k3_pay6 v0 v2) (k3_pay8 v0 v2) (k3_pay9 v0 v2) (Scalar.ofBits .f32 0x00000000#32) (Scalar.ofBits .f32 0x40C00000#32))
    (k3_pay11 (k3_pay4 v0)) (k3_pay12 (F := F))

/-- The same of the activations' block, whose printed body differs by one identity reshape. -/
def quantX (v0 : Vec F S1x256x2048 .f32) (v2 : Vec F S1x8x128 .f32) : Vec F S1x256x2048 .bf16 :=
  k6_pay1 (k6_pay10 (k6_pay2 v2) (k6_pay6 v0 v2) (k6_pay8 v0 v2) (k6_pay9 v0 v2)) (Scalar.ofBits .f32 0x00000000#32) (k6_pay11 (k6_pay4 v0))

/-- The quantiser's body as one program over its payload. -/
abbrev quantProg (p : Vec F S1x256x2048 .f32 → Vec F S1x8x128 .f32 → Vec F S1x256x2048 .bf16)
    (a : Memref sig .tc .vmem S1x256x2048 .f32) (b : Memref sig .tc .vmem S1x8x128 .f32) (o : Memref sig .tc .vmem S1x256x2048 .bf16) (ho : o.IsWhole) :
    Prog (TpuEff nD τ sig (Elt F) Λ₀ .tc) PUnit :=
  mapProg a b o (Rect.unit (s := S1x256x2048) ![0, 0, 0] S1x256x2048.size inb_S1x256x2048_S1x256x2048_0_0_0)
    (Rect.unit (s := S1x8x128) ![0, 0, 0] S1x8x128.size inb_S1x8x128_S1x8x128_0_0_0)
    (Rect.unit (s := S1x256x2048) ![0, 0, 0] S1x256x2048.size inb_S1x256x2048_S1x256x2048_0_0_0) h_S1x256x2048 h_S1x8x128 h_S1x256x2048
    (View.stores_vmem h_S1x256x2048 (ho.storeExact_slice rfl _ packedbf16_S1x256x2048_S1x256x2048_0_0_0) (fun _ => rfl)) p

/-- The quantiser's body at a point of any of the four calls. -/
theorem quant_point (c : Dev nD) (p : Vec F S1x256x2048 .f32 → Vec F S1x8x128 .f32 → Vec F S1x256x2048 .bf16)
    (a : Memref sig .tc .vmem S1x256x2048 .f32) (b : Memref sig .tc .vmem S1x8x128 .f32) (o : Memref sig .tc .vmem S1x256x2048 .bf16) (ho : o.IsWhole)
    {ι κ μ : Type} (fx : ι → Vec F S1x256x2048 .f32) (fy : κ → Vec F S1x8x128 .f32) (fo : μ → Vec F S1x256x2048 .bf16)
    (x : Vec F S1x256x2048 .f32) (y : Vec F S1x8x128 .f32) (hx : ∀ d, fx d = x) (hy : ∀ d, fy d = y) (P Q : sProp 𝕄) :
    iprop(P ∗ Q ∗ (∃ d, owns (c : Thread nD τ) a fullShare (fx d)) ∗ (∃ d, owns (c : Thread nD τ) b fullShare (fy d))
        ∗ (∃ d, owns (c : Thread nD τ) o fullShare (fo d)))
      ⊢ wp frame (wpE (defs₀ (F := F)) Variants.none c none) Set.univ (quantProg p a b o ho) fun _ =>
        iprop(P ∗ Q ∗ owns (c : Thread nD τ) a fullShare x ∗ owns (c : Thread nD τ) b fullShare y ∗ owns (c : Thread nD τ) o fullShare (p x y)) :=
  map_point (defs₀ (F := F)) c Set.univ a b o _ _ _ _ _ _ zero3 zero3 zero3 h_S1x256x2048 h_S1x8x128 h_S1x256x2048 _ p fx fy fo x y hx hy P Q

def dat3 (c : Dev nD) : Dat τ (Elt F) Unit ℕ (UR sig nD τ) ℕ cfg3 c :=
  callDat cfg3 c (V c) fun w t => match w with
    | ⟨0, _⟩ => blockAt cfg3 c (V c) 0 t
    | ⟨1, _⟩ => blockAt cfg3 c (V c) 1 t
    | ⟨2, _⟩ => quant (blockAt cfg3 c (V c) 0 t) (blockAt cfg3 c (V c) 1 t)
def dat4 (c : Dev nD) : Dat τ (Elt F) Unit ℕ (UR sig nD τ) ℕ cfg4 c :=
  callDat cfg4 c (V c) fun w t => match w with
    | ⟨0, _⟩ => blockAt cfg4 c (V c) 0 t
    | ⟨1, _⟩ => blockAt cfg4 c (V c) 1 t
    | ⟨2, _⟩ => quant (blockAt cfg4 c (V c) 0 t) (blockAt cfg4 c (V c) 1 t)
def dat5 (c : Dev nD) : Dat τ (Elt F) Unit ℕ (UR sig nD τ) ℕ cfg5 c :=
  callDat cfg5 c (V c) fun w t => match w with
    | ⟨0, _⟩ => blockAt cfg5 c (V c) 0 t
    | ⟨1, _⟩ => blockAt cfg5 c (V c) 1 t
    | ⟨2, _⟩ => quant (blockAt cfg5 c (V c) 0 t) (blockAt cfg5 c (V c) 1 t)
def dat6 (c : Dev nD) : Dat τ (Elt F) Unit ℕ (UR sig nD τ) ℕ cfg6 c :=
  callDat cfg6 c (V c) fun w t => match w with
    | ⟨0, _⟩ => blockAt cfg6 c (V c) 0 t
    | ⟨1, _⟩ => blockAt cfg6 c (V c) 1 t
    | ⟨2, _⟩ => quantX (blockAt cfg6 c (V c) 0 t) (blockAt cfg6 c (V c) 1 t)

theorem obligation3 (c : Dev nD) : BodyObligation (dat3 (F := F) V c) (defs₀ (F := F)) Variants.none () Set.univ := fun t => by
  rw [bigSep_W3, bigSep_W3]
  exact triple_restated (quant_point c quant _ _ _ (hstage3_2 ((cfg3.slots t 2).cast nbuf3_2)) (fun d => (dat3 V c).before 0 t d) (fun d => (dat3 V c).before 1 t d)
    (fun d => (dat3 V c).before 2 t d) _ _ (fun d => (dat3 V c).before_in_eq_fetched 0 rfl (fun _ => rfl) (fun _ _ _ => rfl) (fun _ => rfl) t d)
    (fun d => (dat3 V c).before_in_eq_fetched 1 rfl (fun _ => rfl) (fun _ _ _ => rfl) (fun _ => rfl) t d)
    ((dat3 V c).Φ t.castSucc) ((dat3 V c).owesAt () t.castSucc)) rfl .rfl fun _ => .rfl

theorem obligation4 (c : Dev nD) : BodyObligation (dat4 (F := F) V c) (defs₀ (F := F)) Variants.none () Set.univ := fun t => by
  rw [bigSep_W4, bigSep_W4]
  exact triple_restated (quant_point c quant _ _ _ (hstage4_2 ((cfg4.slots t 2).cast nbuf4_2)) (fun d => (dat4 V c).before 0 t d) (fun d => (dat4 V c).before 1 t d)
    (fun d => (dat4 V c).before 2 t d) _ _ (fun d => (dat4 V c).before_in_eq_fetched 0 rfl (fun _ => rfl) (fun _ _ _ => rfl) (fun _ => rfl) t d)
    (fun d => (dat4 V c).before_in_eq_fetched 1 rfl (fun _ => rfl) (fun _ _ _ => rfl) (fun _ => rfl) t d)
    ((dat4 V c).Φ t.castSucc) ((dat4 V c).owesAt () t.castSucc)) rfl .rfl fun _ => .rfl

theorem obligation5 (c : Dev nD) : BodyObligation (dat5 (F := F) V c) (defs₀ (F := F)) Variants.none () Set.univ := fun t => by
  rw [bigSep_W5, bigSep_W5]
  exact triple_restated (quant_point c quant _ _ _ (hstage5_2 ((cfg5.slots t 2).cast nbuf5_2)) (fun d => (dat5 V c).before 0 t d) (fun d => (dat5 V c).before 1 t d)
    (fun d => (dat5 V c).before 2 t d) _ _ (fun d => (dat5 V c).before_in_eq_fetched 0 rfl (fun _ => rfl) (fun _ _ _ => rfl) (fun _ => rfl) t d)
    (fun d => (dat5 V c).before_in_eq_fetched 1 rfl (fun _ => rfl) (fun _ _ _ => rfl) (fun _ => rfl) t d)
    ((dat5 V c).Φ t.castSucc) ((dat5 V c).owesAt () t.castSucc)) rfl .rfl fun _ => .rfl

theorem obligation6 (c : Dev nD) : BodyObligation (dat6 (F := F) V c) (defs₀ (F := F)) Variants.none () Set.univ := fun t => by
  rw [bigSep_W6, bigSep_W6]
  exact triple_restated (quant_point c quantX _ _ _ (hstage6_2 ((cfg6.slots t 2).cast nbuf6_2)) (fun d => (dat6 V c).before 0 t d) (fun d => (dat6 V c).before 1 t d)
    (fun d => (dat6 V c).before 2 t d) _ _ (fun d => (dat6 V c).before_in_eq_fetched 0 rfl (fun _ => rfl) (fun _ _ _ => rfl) (fun _ => rfl) t d)
    (fun d => (dat6 V c).before_in_eq_fetched 1 rfl (fun _ => rfl) (fun _ _ _ => rfl) (fun _ => rfl) t d)
    ((dat6 V c).Φ t.castSucc) ((dat6 V c).owesAt () t.castSucc)) rfl .rfl fun _ => .rfl

end Cert.KernelIdeal.Whole

end
-- ==== Proof.IdealMoe.lean ====
/- The kernel's expert product over the extended reals' program: what its body leaves in its output block and in the scratch
   rows at every grid point, at any contents `V` of the buffers the call is entered with. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Bodies
public import proofs.«01_k».proof.Proof.IdealCalls

@[expose] public section

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen Cert.Whole

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The expert product (call 7) -/

/-- One expert block's weighted contribution to a row block, in the form stored on the first visit. -/
def moeFirst (i : grid7.Coords) (x3 : Vec F S256x2048 .bf16) (x4 x5 : Vec F S1x2048x512 .bf16) (x6 : Vec F S1x512x2048 .bf16) (x7 x8 : Vec F S1x1x512 .f32)
    (x9 : Vec F S1x1x2048 .f32) (x10 : Vec F S256x2 .i32) (x11 : Vec F S256x8 .f32) : Vec F S256x2048 .f32 :=
  k7_pay2 (BitVec.ofNat 32 (i 0).val)
    (k7_pay6 (BitVec.ofNat 32 (i 1).val) (k7_pay4 x3 x4 x7 x5 x8) (k7_pay5 x6) (constant S256x2048 .f32 0x00000000#32) x9)
    (k7_pay7 (BitVec.ofNat 32 (i 0).val) x10 x11) (k7_pay9 x10) (k7_pay10 x10) (k7_pay11 x10 x11)

/-- The same added to what the row block holds. -/
def moeNext (i : grid7.Coords) (x3 : Vec F S256x2048 .bf16) (x4 x5 : Vec F S1x2048x512 .bf16) (x6 : Vec F S1x512x2048 .bf16) (x7 x8 : Vec F S1x1x512 .f32)
    (x9 : Vec F S1x1x2048 .f32) (x10 : Vec F S256x2 .i32) (x11 : Vec F S256x8 .f32) (g : Vec F S256x2048 .f32) : Vec F S256x2048 .f32 :=
  k7_pay3 (BitVec.ofNat 32 (i 0).val)
    (k7_pay6 (BitVec.ofNat 32 (i 1).val) (k7_pay4 x3 x4 x7 x5 x8) (k7_pay5 x6) (constant S256x2048 .f32 0x00000000#32) x9)
    (k7_pay7 (BitVec.ofNat 32 (i 0).val) x10 x11) (k7_pay9 x10) (k7_pay10 x10) (k7_pay11 x10 x11) g

/-- The two forms at a numbered point, on the blocks its windows hold. -/
def firstAt (c : Dev nD) (n : ℕ) : Vec F S256x2048 .f32 :=
  atPoint (S := S256x2048) (e := .f32) (fun t : Fin cfg7.N => moeFirst (grid7.coords t) (blockAt cfg7 c (V c) 0 t) (blockAt cfg7 c (V c) 1 t) (blockAt cfg7 c (V c) 2 t)
    (blockAt cfg7 c (V c) 3 t) (blockAt cfg7 c (V c) 4 t) (blockAt cfg7 c (V c) 5 t) (blockAt cfg7 c (V c) 6 t) (blockAt cfg7 c (V c) 7 t) (blockAt cfg7 c (V c) 8 t)) n
def nextAt (c : Dev nD) (n : ℕ) (g : Vec F S256x2048 .f32) : Vec F S256x2048 .f32 :=
  atPoint (S := S256x2048) (e := .f32) (fun t : Fin cfg7.N => moeNext (grid7.coords t) (blockAt cfg7 c (V c) 0 t) (blockAt cfg7 c (V c) 1 t) (blockAt cfg7 c (V c) 2 t)
    (blockAt cfg7 c (V c) 3 t) (blockAt cfg7 c (V c) 4 t) (blockAt cfg7 c (V c) 5 t) (blockAt cfg7 c (V c) 6 t) (blockAt cfg7 c (V c) 7 t) (blockAt cfg7 c (V c) 8 t) g) n

/-- What the row block holds after each point. -/
def sums (c : Dev nD) : ℕ → Vec F S256x2048 .f32 := stacked (firstAt V c) (nextAt V c)

/-- The scratch rows a point works on. -/
abbrev rowOff (t : Fin cfg7.N) : Fin 2 → Nat := k7_off3 (grid7.coords t)

theorem coord7_0 (t : Fin cfg7.N) : (grid7.coords t 0).val = t.val / 32 % 8 := Pipeline.Grid.coords_val t 0 (by decide) rfl
theorem coord7_1 (t : Fin cfg7.N) : (grid7.coords t 1).val = t.val / 8 % 4 := Pipeline.Grid.coords_val t 1 (by decide) rfl
theorem coord7_2 (t : Fin cfg7.N) : (grid7.coords t 2).val = t.val % 8 :=
  (Pipeline.Grid.coords_val t 2 (by decide) rfl).trans (congrArg (· % 8) (Nat.div_one _))

theorem rowOff_0 (t : Fin cfg7.N) : rowOff t 0 = (t.val % 8) * 256 := by
  have h : rowOff t 0 = (Scalar.muli (BitVec.ofNat 32 (grid7.coords t 2).val) 256#32).toNat := rfl
  rw [h, coord7_2]
  exact (by decide : ∀ k : Fin 8, (Scalar.muli (BitVec.ofNat 32 k.val) 256#32).toNat = k.val * 256) ⟨t.val % 8, by omega⟩

theorem rowOff_eq (j t : Fin cfg7.N) (h : j.val % 8 = t.val % 8) : rowOff j = rowOff t := by
  have e (t : Fin cfg7.N) : rowOff t = ![rowOff t 0, 0] := rfl
  rw [e j, e t, rowOff_0, rowOff_0, h]

theorem rows_apart (j t : Fin cfg7.N) (h : j.val % 8 ≠ t.val % 8) (x) :
    (Rect.unit (s := S2048x2048) (rowOff j) S256x2048.size (k7_off3_inb (grid7.coords j))).emb x
      ∉ (Rect.unit (s := S2048x2048) (rowOff t) S256x2048.size (k7_off3_inb (grid7.coords t))).set := by
  have hx : (x (0 : Fin 2)).val < 256 := (x (0 : Fin 2)).isLt
  have e : ((Rect.unit (s := S2048x2048) (rowOff j) S256x2048.size (k7_off3_inb (grid7.coords j))).emb x (0 : Fin 2)).val = rowOff j 0 + 1 * (x (0 : Fin 2)).val := rfl
  refine Rect.not_mem_set_of_axis _ _ (0 : Fin 2) (rowOff t 0) 256 rfl rfl rfl ?_
  rw [e, rowOff_0, rowOff_0]
  omega

theorem cond1_iff (t : Fin cfg7.N) : k7_cond1 (grid7.coords t) = 1#1 ↔ t.val < 8 := by
  have hN : t.val < 256 := lt_of_lt_of_eq t.isLt N_7
  have h := (by decide : ∀ (a : Fin 8) (b : Fin 4), (Scalar.cmpi .ne (Scalar.extui (Scalar.andi (Scalar.cmpi .eq (BitVec.ofNat 32 a.val) 0#32)
    (Scalar.cmpi .eq (BitVec.ofNat 32 b.val) 0#32)) : BitVec 32) 0#32 = 1#1) ↔ (a.val = 0 ∧ b.val = 0)) (grid7.coords t 0) (grid7.coords t 1)
  rw [coord7_0, coord7_1] at h
  exact Iff.trans h (by omega)

theorem cond2_iff (t : Fin cfg7.N) : k7_cond2 (grid7.coords t) = 1#1 ↔ ¬ t.val < 8 := by
  have hN : t.val < 256 := lt_of_lt_of_eq t.isLt N_7
  have h := (by decide : ∀ (a : Fin 8) (b : Fin 4), (Scalar.cmpi .ne (Scalar.extui (Scalar.ori (Scalar.cmpi .sgt (BitVec.ofNat 32 a.val) 0#32)
    (Scalar.cmpi .sgt (BitVec.ofNat 32 b.val) 0#32)) : BitVec 32) 0#32 = 1#1) ↔ ¬ (a.val = 0 ∧ b.val = 0)) (grid7.coords t 0) (grid7.coords t 1)
  rw [coord7_0, coord7_1] at h
  exact Iff.trans h (by omega)

def dat7 (c : Dev nD) : Dat τ (Elt F) Unit ℕ (UR sig nD τ) ℕ cfg7 c where
  A w := V c (Pipeline.arrRef cfg7.spec w)
  after w t := match w with
    | ⟨0, _⟩ => blockAt cfg7 c (V c) 0 t
    | ⟨1, _⟩ => blockAt cfg7 c (V c) 1 t
    | ⟨2, _⟩ => blockAt cfg7 c (V c) 2 t
    | ⟨3, _⟩ => blockAt cfg7 c (V c) 3 t
    | ⟨4, _⟩ => blockAt cfg7 c (V c) 4 t
    | ⟨5, _⟩ => blockAt cfg7 c (V c) 5 t
    | ⟨6, _⟩ => blockAt cfg7 c (V c) 6 t
    | ⟨7, _⟩ => blockAt cfg7 c (V c) 7 t
    | ⟨8, _⟩ => blockAt cfg7 c (V c) 8 t
    | ⟨9, _⟩ => sums V c t.val
  Φ n := iprop(∃ g, ⌜RowsHold (S := S2048x2048) (eS := .f32) (Val := Elt F) rowOff (fun t => k7_off3_inb (grid7.coords t)) (sums V c) g n.val⌝
    ∗ owns (c : Thread nD τ) (Memref.whole cc7_scratch0) fullShare g
    ∗ Pipeline.scopedRestBut (Ix := Unit) (Name := ℕ) (U := UR sig nD τ) (Lvl := ℕ) (Val := Elt F) spec7 c [cc7_scratch0] ∗ ∃ r, prngReg c r)
  q _ := fullShare
  owed _ := 0

theorem moe_body (i : grid7.Coords) (a3 : Memref sig .tc .vmem S256x2048 .bf16) (h3 : a3.IsWhole) (a4 : Memref sig .tc .vmem S1x2048x512 .bf16) (h4 : a4.IsWhole)
    (a5 : Memref sig .tc .vmem S1x2048x512 .bf16) (h5 : a5.IsWhole) (a6 : Memref sig .tc .vmem S1x512x2048 .bf16) (h6 : a6.IsWhole)
    (a7 : Memref sig .tc .vmem S1x1x512 .f32) (h7 : a7.IsWhole) (a8 : Memref sig .tc .vmem S1x1x512 .f32) (h8 : a8.IsWhole)
    (a9 : Memref sig .tc .vmem S1x1x2048 .f32) (h9 : a9.IsWhole) (a10 : Memref sig .tc .vmem S256x2 .i32) (h10 : a10.IsWhole)
    (a11 : Memref sig .tc .vmem S256x8 .f32) (h11 : a11.IsWhole) (a12 : Memref sig .tc .vmem S256x2048 .f32) (h12 : a12.IsWhole)
    (a13 : Memref sig .tc .vmem S2048x2048 .f32) (h13 : a13.IsWhole) :
    cc7__moe_body (F := F) i a3 h3 a4 h4 a5 h5 a6 h6 a7 h7 a8 h8 a9 h9 a10 h10 a11 h11 a12 h12 a13 h13
      = rowsProg (k7_cond1 i = 1#1) (k7_cond2 i = 1#1) a3 a4 a5 a6 a7 a8 a9 a10 a11 a13
          (Rect.unit (s := S2048x2048) (k7_off3 i) S256x2048.size (k7_off3_inb i)) a12
          (Rect.unit (s := S256x2048) ![0, 0] S256x2048.size inb_S256x2048_S256x2048_0_0)
          (Rect.unit (s := S1x2048x512) ![0, 0, 0] S1x2048x512.size inb_S1x2048x512_S1x2048x512_0_0_0)
          (Rect.unit (s := S1x2048x512) ![0, 0, 0] S1x2048x512.size inb_S1x2048x512_S1x2048x512_0_0_0)
          (Rect.unit (s := S1x512x2048) ![0, 0, 0] S1x512x2048.size inb_S1x512x2048_S1x512x2048_0_0_0)
          (Rect.unit (s := S1x1x512) ![0, 0, 0] S1x1x512.size inb_S1x1x512_S1x1x512_0_0_0)
          (Rect.unit (s := S1x1x512) ![0, 0, 0] S1x1x512.size inb_S1x1x512_S1x1x512_0_0_0)
          (Rect.unit (s := S1x1x2048) ![0, 0, 0] S1x1x2048.size inb_S1x1x2048_S1x1x2048_0_0_0)
          (Rect.unit (s := S256x2) ![0, 0] S256x2.size inb_S256x2_S256x2_0_0)
          (Rect.unit (s := S256x8) ![0, 0] S256x8.size inb_S256x8_S256x8_0_0)
          h_S256x2048 h_S1x2048x512 h_S1x2048x512 h_S1x512x2048 h_S1x1x512 h_S1x1x512 h_S1x1x2048 h_S256x2 h_S256x8 h_S256x2048
          ![0, 0] inb_S256x2048_S256x2048_0_0 h_S256x2048 rfl (moeFirst i) (moeNext i) := by
  rw [cc7__moe_body_eq_skeleton]
  unfold cc7__moe_body_skel
  rw [k7_part1_eq_skeleton, k7_part2_eq_skeleton]
  rfl

/-- An operand window's staging block holds its array's block at every point. -/
theorem found7 (c : Dev nD) (t : Fin cfg7.N) :
    (∀ d, (dat7 V c).before 0 t d = blockAt cfg7 c (V c) 0 t) ∧ (∀ d, (dat7 V c).before 1 t d = blockAt cfg7 c (V c) 1 t)
    ∧ (∀ d, (dat7 V c).before 2 t d = blockAt cfg7 c (V c) 2 t) ∧ (∀ d, (dat7 V c).before 3 t d = blockAt cfg7 c (V c) 3 t)
    ∧ (∀ d, (dat7 V c).before 4 t d = blockAt cfg7 c (V c) 4 t) ∧ (∀ d, (dat7 V c).before 5 t d = blockAt cfg7 c (V c) 5 t)
    ∧ (∀ d, (dat7 V c).before 6 t d = blockAt cfg7 c (V c) 6 t) ∧ (∀ d, (dat7 V c).before 7 t d = blockAt cfg7 c (V c) 7 t)
    ∧ (∀ d, (dat7 V c).before 8 t d = blockAt cfg7 c (V c) 8 t) := by
  refine ⟨fun d => ?_, fun d => ?_, fun d => ?_, fun d => ?_, fun d => ?_, fun d => ?_, fun d => ?_, fun d => ?_, fun d => ?_⟩ <;>
    exact ((dat7 V c).before_in_eq_fetched _ rfl (fun _ => rfl) (fun _ _ _ => rfl) (fun _ => rfl) t d).trans rfl

/-- A load at offset zero of the block's own extent reads the whole block. -/
theorem whole3 {a b d : ℕ} {e : EltTy} (f : (⟨3, ![a, b, d]⟩ : Shape).Idx → Elt F e) (h) :
    View.ld f (Rect.unit (s := ⟨3, ![a, b, d]⟩) ![0, 0, 0] (⟨3, ![a, b, d]⟩ : Shape).size h) = f := View.ld_unit_zero (S := ⟨3, ![a, b, d]⟩) zero3 h f
theorem whole2 {a b : ℕ} {e : EltTy} (f : (⟨2, ![a, b]⟩ : Shape).Idx → Elt F e) (h) :
    View.ld f (Rect.unit (s := ⟨2, ![a, b]⟩) ![0, 0] (⟨2, ![a, b]⟩ : Shape).size h) = f := View.ld_unit_zero (S := ⟨2, ![a, b]⟩) zero2 h f

theorem firstAt_eq (c : Dev nD) (t : Fin cfg7.N) : firstAt V c t.val = moeFirst (grid7.coords t)
    (View.ld (blockAt cfg7 c (V c) 0 t : Vec F S256x2048 .bf16) (Rect.unit (s := S256x2048) ![0, 0] S256x2048.size inb_S256x2048_S256x2048_0_0))
    (View.ld (blockAt cfg7 c (V c) 1 t : Vec F S1x2048x512 .bf16) (Rect.unit (s := S1x2048x512) ![0, 0, 0] S1x2048x512.size inb_S1x2048x512_S1x2048x512_0_0_0))
    (View.ld (blockAt cfg7 c (V c) 2 t : Vec F S1x2048x512 .bf16) (Rect.unit (s := S1x2048x512) ![0, 0, 0] S1x2048x512.size inb_S1x2048x512_S1x2048x512_0_0_0))
    (View.ld (blockAt cfg7 c (V c) 3 t : Vec F S1x512x2048 .bf16) (Rect.unit (s := S1x512x2048) ![0, 0, 0] S1x512x2048.size inb_S1x512x2048_S1x512x2048_0_0_0))
    (View.ld (blockAt cfg7 c (V c) 4 t : Vec F S1x1x512 .f32) (Rect.unit (s := S1x1x512) ![0, 0, 0] S1x1x512.size inb_S1x1x512_S1x1x512_0_0_0))
    (View.ld (blockAt cfg7 c (V c) 5 t : Vec F S1x1x512 .f32) (Rect.unit (s := S1x1x512) ![0, 0, 0] S1x1x512.size inb_S1x1x512_S1x1x512_0_0_0))
    (View.ld (blockAt cfg7 c (V c) 6 t : Vec F S1x1x2048 .f32) (Rect.unit (s := S1x1x2048) ![0, 0, 0] S1x1x2048.size inb_S1x1x2048_S1x1x2048_0_0_0))
    (View.ld (blockAt cfg7 c (V c) 7 t : Vec F S256x2 .i32) (Rect.unit (s := S256x2) ![0, 0] S256x2.size inb_S256x2_S256x2_0_0))
    (View.ld (blockAt cfg7 c (V c) 8 t : Vec F S256x8 .f32) (Rect.unit (s := S256x8) ![0, 0] S256x8.size inb_S256x8_S256x8_0_0)) := by
  rw [whole2, whole3, whole3, whole3, whole3, whole3, whole3, whole2, whole2]
  exact atPoint_fin _ t

theorem nextAt_eq (c : Dev nD) (t : Fin cfg7.N) : nextAt V c t.val = moeNext (grid7.coords t)
    (View.ld (blockAt cfg7 c (V c) 0 t : Vec F S256x2048 .bf16) (Rect.unit (s := S256x2048) ![0, 0] S256x2048.size inb_S256x2048_S256x2048_0_0))
    (View.ld (blockAt cfg7 c (V c) 1 t : Vec F S1x2048x512 .bf16) (Rect.unit (s := S1x2048x512) ![0, 0, 0] S1x2048x512.size inb_S1x2048x512_S1x2048x512_0_0_0))
    (View.ld (blockAt cfg7 c (V c) 2 t : Vec F S1x2048x512 .bf16) (Rect.unit (s := S1x2048x512) ![0, 0, 0] S1x2048x512.size inb_S1x2048x512_S1x2048x512_0_0_0))
    (View.ld (blockAt cfg7 c (V c) 3 t : Vec F S1x512x2048 .bf16) (Rect.unit (s := S1x512x2048) ![0, 0, 0] S1x512x2048.size inb_S1x512x2048_S1x512x2048_0_0_0))
    (View.ld (blockAt cfg7 c (V c) 4 t : Vec F S1x1x512 .f32) (Rect.unit (s := S1x1x512) ![0, 0, 0] S1x1x512.size inb_S1x1x512_S1x1x512_0_0_0))
    (View.ld (blockAt cfg7 c (V c) 5 t : Vec F S1x1x512 .f32) (Rect.unit (s := S1x1x512) ![0, 0, 0] S1x1x512.size inb_S1x1x512_S1x1x512_0_0_0))
    (View.ld (blockAt cfg7 c (V c) 6 t : Vec F S1x1x2048 .f32) (Rect.unit (s := S1x1x2048) ![0, 0, 0] S1x1x2048.size inb_S1x1x2048_S1x1x2048_0_0_0))
    (View.ld (blockAt cfg7 c (V c) 7 t : Vec F S256x2 .i32) (Rect.unit (s := S256x2) ![0, 0] S256x2.size inb_S256x2_S256x2_0_0))
    (View.ld (blockAt cfg7 c (V c) 8 t : Vec F S256x8 .f32) (Rect.unit (s := S256x8) ![0, 0] S256x8.size inb_S256x8_S256x8_0_0)) := by
  rw [whole2, whole3, whole3, whole3, whole3, whole3, whole3, whole2, whole2]
  exact funext fun g => atPoint_fin _ t

set_option maxHeartbeats 800000 in
theorem obligation7 (c : Dev nD) : BodyObligation (dat7 (F := F) V c) (defs₀ (F := F)) Variants.none () Set.univ := fun t => by
  obtain ⟨b0, b1, b2, b3, b4, b5, b6, b7, b8⟩ := found7 V c t
  rw [bigSep_W7, bigSep_W7]
  have row : defs₀ (F := F) .tc cfg7.body (cfg7.bodyArgs t (cfg7.slots t)) = bodyAt7 t := by
    unfold defs₀; rw [Defs.onTc_tc]
  rw [row]
  unfold bodyAt7
  rw [moe_body]
  have key := rows_point (defs₀ (F := F)) c Set.univ _ _ t (cond1_iff t) (cond2_iff t) (st7_0 t) (st7_1 t) (st7_2 t) (st7_3 t) (st7_4 t) (st7_5 t)
    (st7_6 t) (st7_7 t) (st7_8 t) (Memref.whole cc7_scratch0)
    rowOff (fun t => k7_off3_inb (grid7.coords t)) (st7_9 t)
    (Rect.unit (s := S256x2048) ![0, 0] S256x2048.size inb_S256x2048_S256x2048_0_0)
    (Rect.unit (s := S1x2048x512) ![0, 0, 0] S1x2048x512.size inb_S1x2048x512_S1x2048x512_0_0_0)
    (Rect.unit (s := S1x2048x512) ![0, 0, 0] S1x2048x512.size inb_S1x2048x512_S1x2048x512_0_0_0)
    (Rect.unit (s := S1x512x2048) ![0, 0, 0] S1x512x2048.size inb_S1x512x2048_S1x512x2048_0_0_0)
    (Rect.unit (s := S1x1x512) ![0, 0, 0] S1x1x512.size inb_S1x1x512_S1x1x512_0_0_0)
    (Rect.unit (s := S1x1x512) ![0, 0, 0] S1x1x512.size inb_S1x1x512_S1x1x512_0_0_0)
    (Rect.unit (s := S1x1x2048) ![0, 0, 0] S1x1x2048.size inb_S1x1x2048_S1x1x2048_0_0_0)
    (Rect.unit (s := S256x2) ![0, 0] S256x2.size inb_S256x2_S256x2_0_0)
    (Rect.unit (s := S256x8) ![0, 0] S256x8.size inb_S256x8_S256x8_0_0)
    h_S256x2048 h_S1x2048x512 h_S1x2048x512 h_S1x512x2048 h_S1x1x512 h_S1x1x512 h_S1x1x2048 h_S256x2 h_S256x8 h_S256x2048
    ![0, 0] inb_S256x2048_S256x2048_0_0 h_S256x2048 rfl (moeFirst (grid7.coords t)) (moeNext (grid7.coords t)) zero2
    (fun j h => rows_apart j t h) (fun j h => rowOff_eq j t h) _ _ _ _ _ _ _ _ _ _ _ _ _ _ _ _ _ _ (fun d => (dat7 V c).before 9 t d)
    b0 b1 b2 b3 b4 b5 b6 b7 b8 (firstAt V c) (nextAt V c)
    (firstAt_eq V c t) (nextAt_eq V c t)
    ((dat7 V c).owesAt () t.castSucc)
    (iprop(Pipeline.scopedRestBut (Ix := Unit) (Name := ℕ) (U := UR sig nD τ) (Lvl := ℕ) (Val := Elt F) spec7 c [cc7_scratch0] ∗ ∃ r, prngReg c r))
  exact triple_restated key rfl .rfl fun _ => .rfl

/-- The scratch buffer comes out of the call's rest at whatever it holds. -/
theorem enter7 (c : Dev nD) : (Pipeline.ΦA spec7 c : sProp 𝕄) ⊢ (dat7 (F := F) V c).Φ 0 := by
  unfold Pipeline.ΦA
  rw [scopedRest7_split]
  dsimp only [dat7]
  simp only [owns_whole]
  iintro ⟨⟨⟨%f, Hf⟩, Hr⟩, Hp⟩
  iexists f
  isplitr; · ipureintro; exact fun j h => absurd h (Nat.not_lt_zero _)
  isplitl [Hf]; · iexact Hf
  isplitl [Hr]; · iexact Hr
  iexact Hp

/-- It goes back into the rest. -/
theorem exit7 (c : Dev nD) : (dat7 (F := F) V c).Φ (Fin.last _) ⊢ (Pipeline.ΦA spec7 c : sProp 𝕄) := by
  unfold Pipeline.ΦA
  rw [scopedRest7_split]
  dsimp only [dat7]
  simp only [owns_whole]
  iintro ⟨%g, -, Hs, Hr, Hp⟩
  isplitl [Hs Hr]
  · isplitl [Hs]
    · iexists g; iexact Hs
    iexact Hr
  iexact Hp

end Cert.KernelIdeal.Whole

end
-- ==== Proof.Segment.lean ====
/- A kernel call of a program of several, as a segment over "every unscoped buffer at given contents": stated once for
   any program, so that each call supplies only its proof data. -/
module

public import Idealize.ShloMosaic.Lib.Pipeline.FrameBody
public import Idealize.ShloMosaic.Lib.Pipeline.RegionsLoop
public import Idealize.ShloMosaic.Lib.Pipeline.FrameSuffix
public import Idealize.ShloMosaic.Lib.Tactic

@[expose] public section

noncomputable section

namespace Cert.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {nD : Nat} {τ : Topo} {sig : RefSig} {Val : EltTy → Type} [∀ e, Nonempty (Val e)]
variable {Λ₀ : Idealize.SL.Sem.Labels} {P : Type} [Fintype P] [DecidableEq P]
variable (cfgs : P → Cfg sig Λ₀)

local notation "𝕄" => MT nD τ sig Unit Val ℕ (UR sig nD τ) ℕ

/-- What rides beside the buffers: the generator register at some state and the core owing nothing. -/
abbrev Side (c : Dev nD) : sProp 𝕄 :=
  iprop((∃ r, prngReg c r) ∗ ∃ W, owes (c.tc : Thread nD τ) (0 : CellTallies nD τ sig Unit) W)

/-- Every unscoped buffer of core `c` at the contents `W`. -/
abbrev Held (W : Valuation τ sig Val) (c : Dev nD) : sProp 𝕄 :=
  StableHlo.held (c.tc : Thread nD τ) (Pipeline.ucRefs τ sig) W

/-- The contents a call leaves: its arrays as its pipeline writes them back, every other buffer as found. -/
def leave (cfg : Cfg sig Λ₀) (c : Dev nD) (W : Valuation τ sig Val)
    (dat : Dat τ Val Unit ℕ (UR sig nD τ) ℕ cfg c) : Valuation τ sig Val :=
  Pipeline.withArrays cfg.spec c W fun w => dat.arrAt w cfg.N

/-- A call's array holds what its pipeline writes back. -/
theorem leave_arr (cfg : Cfg sig Λ₀) (c : Dev nD) (W : Valuation τ sig Val)
    (dat : Dat τ Val Unit ℕ (UR sig nD τ) ℕ cfg c) (hw : Pipeline.WinFacts cfg.spec) (w : Fin cfg.W) :
    leave cfg c W dat (Proc.devRef .tc (Pipeline.arrRef cfg.spec w)) = dat.arrAt w cfg.N := by
  unfold leave; exact Pipeline.withArrays_arr cfg.spec hw.arr_inj c _ _ w

/-- A reference that is none of the call's output arrays keeps its contents. -/
theorem leave_of (cfg : Cfg sig Λ₀) (c : Dev nD) (W : Valuation τ sig Val)
    (dat : Dat τ Val Unit ℕ (UR sig nD τ) ℕ cfg c) (hw : Pipeline.WinFacts cfg.spec)
    (hA : ∀ w, dat.A w = W (Proc.devRef .tc (Pipeline.arrRef cfg.spec w))) (r : Ref sig .tc)
    (h : ∀ w : Fin cfg.W, Pipeline.arrRef cfg.spec w = r → (cfg.win w).isOut = false) :
    leave cfg c W dat (Proc.devRef .tc r) = W (Proc.devRef .tc r) := by
  by_cases hr : ∃ w : Fin cfg.W, Pipeline.arrRef cfg.spec w = r
  · obtain ⟨w, rfl⟩ := hr
    exact (leave_arr cfg c W dat hw w).trans ((dat.arrAt_in w (h w rfl) _).trans (hA w))
  · unfold leave; exact Pipeline.withArrays_of_ne cfg.spec c _ _ r fun w e => hr ⟨w, e⟩

set_option backward.isDefEq.respectTransparency.types false in
/-- A call as a segment: entered with the unscoped buffers at `W`, left with them at `leave`. -/
def region (pdats : (p : P) → (c : Dev nD) → Dat τ Val Unit ℕ (UR sig nD τ) ℕ (cfgs p) c)
    (defs₀ : Defs nD τ sig Val Λ₀) (p : P) (hl : Pipeline.LaunchFacts (nD := nD) (τ := τ) cfgs p)
    (W : Dev nD → Valuation τ sig Val)
    (hbody : ∀ c, BodyObligation (pdats p c) defs₀ Variants.none () Set.univ)
    (howed : ∀ c t, (pdats p c).owed t = 0) (hrec : ∀ c x, x ∈ (pdats p c).recorded 0) (hq : ∀ c w, (pdats p c).q w = fullShare)
    (hA : ∀ c w, (pdats p c).A w = W c (Proc.devRef .tc (Pipeline.arrRef (cfgs p).spec w)))
    (hin : ∀ c, Pipeline.ΦA (cfgs p).spec c ⊢ (pdats p c).Φ 0)
    (hout : ∀ c, (pdats p c).Φ (Fin.last _) ⊢ Pipeline.ΦA (cfgs p).spec c) :
    Pipeline.RegionSeg (fun q => (cfgs q).toPCfg (Val := Val)) (fun q => (cfgs q).toPCfg_adm) pdats () defs₀ Variants.none
      (fun _ => ∅) (fun _ _ => 0) p where
  win := hl.win.to₀
  block_pos := hl.block_pos
  stage_whole := hl.stage_whole
  K := PEmpty
  osem k := k.elim
  ho := Pipeline.OwnSemFacts.none _
  hbody c := (hbody c).loose
  hwaits := Pipeline.hwaits_of_owed_zero _ _ _ _ (fun _ => ∅) (fun _ _ => 0) p howed
  pre c := iprop(Held (W c) c ∗ Side c)
  post c := iprop(Held (leave (cfgs p) c (W c) (pdats p c)) c ∗ Side c)
  X c := iprop(∃ r, prngReg c r)
  Y c := iprop(∃ r, prngReg c r)
  Z c := Pipeline.unscopedRest (Ix := Unit) (Name := ℕ) (U := UR sig nD τ) (Lvl := ℕ) (cfgs p).spec c
    (fun b => W c (Proc.devRef .tc b))
  hentry c := by
    rw [Pipeline.ownSems0_none]
    have hsplit := Pipeline.arrays_of_unscopedBufs (p := p) (fun q => (cfgs q).toPCfg (Val := Val))
      (fun q => (cfgs q).toPCfg_adm) pdats hl.win hl.arr_whole c
      ((pdats p c).share_full (hq c)) (fun b => W c (Proc.devRef .tc b)) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed]
      icases HO with ⟨%W, HO⟩; iexists W; isplitr; · ipureintro; exact fun _ _ => Or.inl (hrec c _)
      iexact HO
    isplitl [Hp]; · iexact Hp
    iexact Hrest
  hin c := by
    refine BIBase.Entails.trans ?_ (hin c)
    unfold Pipeline.ΦA
    iintro ⟨Hp, -, Hr⟩
    isplitl [Hr]; · iexact Hr
    iexact Hp
  hout c := by
    rw [Pipeline.ownSems0_none]
    refine (hout c).trans ?_
    unfold Pipeline.ΦA
    iintro ⟨Hr, Hp⟩
    isplitl [Hp]; · iexact Hp
    isplitr; · iempintro
    iexact Hr
  hexit c := by
    have hjoin := Pipeline.unscopedBufs_of_arrays (p := p) (fun q => (cfgs q).toPCfg (Val := Val))
      (fun q => (cfgs q).toPCfg_adm) (Ix := Unit) (Name := ℕ) (U := UR sig nD τ) (Lvl := ℕ)
      hl.win hl.arr_whole c pdats ((pdats p c).share_full (hq c))
      (fun b => W c (Proc.devRef .tc b)) (fun b => leave (cfgs p) c (W c) (pdats p c) (Proc.devRef .tc b))
      ((pdats p c).arrAt · (cfgs p).N)
      (fun w => (leave_arr (cfgs p) c (W c) (pdats p c) hl.win w).symm)
      (fun b hb => by
        unfold leave
        exact Pipeline.withArrays_of_ne (cfgs p).spec c _ _ b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed]
    icases HO with ⟨%W, -, HO⟩; iexists W; iexact HO

/-- A host stretch as a segment over the unscoped buffers, what rides beside them kept. -/
abbrev stretch (defs₀ : Defs nD τ sig Val Λ₀) (ops : List (HloOp τ sig Val))
    (hsub : ops.Forall fun op => op.bufs ⊆ StableHlo.tcRefs τ sig)
    (hfresh : ops.Forall fun op => op.fresh = ∅) (W : Dev nD → Valuation τ sig Val) :
    Pipeline.HostSeg (Name := ℕ) (U := UR sig nD τ) (fun q => (cfgs q).toPCfg (Val := Val)) defs₀ Variants.none
      (fun _ => (∅ : Finset Unit)) (fun _ _ => (0 : ℕ)) :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Side

/-- An unscoped TensorCore reference is among those held. -/
theorem mem_uc (b : Ref sig .tc) (h : ¬ (Proc.devRef (τ := τ) .tc b : DevRef τ sig).isScoped) :
    Proc.devRef .tc b ∈ Pipeline.ucRefs τ sig :=
  Finset.mem_filter.mpr ⟨StableHlo.devRef_mem_tcRefs b, h⟩

/-- A chain of segments may end at anything its last state gives. -/
theorem chains_end {pcs : P → Pipeline.PCfg sig Λ₀ Val} {a : (p : P) → (pcs p).Adm}
    {pdats : (p : P) → (c : Dev nD) → Dat τ Val Unit ℕ (UR sig nD τ) ℕ (Pipeline.pin pcs a p) c} {defs₀ : Defs nD τ sig Val Λ₀} :
    ∀ {T : Dev nD → sProp 𝕄} {l : List (Pipeline.Seg pcs a pdats () defs₀ Variants.none (fun _ => (∅ : Finset Unit)) (fun _ _ => (0 : ℕ)))}
      {T' T'' : Dev nD → sProp 𝕄}, Pipeline.Seg.Chains T l T' → (∀ c, T' c ⊢ T'' c) → Pipeline.Seg.Chains T l T''
  | _, [], _, _, h, e => fun c => (h c).trans (e c)
  | _, _ :: _, _, _, ⟨h, hl⟩, e => ⟨h, chains_end hl e⟩

end Cert.Whole

end
-- ==== Proof.IdealRun.lean ====
/- The whole kernel over the extended reals' program: its eight calls and four host stretches run in order, and the contents
   each leaves in the buffers. -/
module

public import proofs.«01_k».proof.Proof.Gen.KernelIdeal.Regions
public import proofs.«01_k».proof.Proof.IdealMoe
public import proofs.«01_k».proof.Proof.Segment

@[expose] public section

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg)
open Cert.KernelIdeal.Gen Cert.Whole

variable {F : FTy → Type} [FloatOps F]

local notation "𝕄" => MT nD τ sig Unit (Elt F) ℕ (UR sig nD τ) ℕ

/-- Contents of every buffer, core by core. -/
abbrev Contents (F : FTy → Type) : Type := Dev nD → Valuation τ sig (Elt F)

/-- The same, by TensorCore reference. -/
abbrev atRefs (W : Contents F) (c : Dev nD) (b : Ref sig .tc) : Buf (Elt F) ((c : Thread nD τ).loc b) := W c (Proc.devRef .tc b)

/-! ## The contents after each item -/

variable (m : (ℓ : Loc nD τ sig) → Buf (Elt F) ℓ)

def W0 : Contents F := fun c b => m ((c : Dev nD), b)
def W1 : Contents F := fun c => leave cfg0 c (W0 m c) (dat0 (atRefs (W0 m)) c)
def W2 : Contents F := fun c => leave cfg1 c (W1 m c) (dat1 (atRefs (W1 m)) c)
def W3 : Contents F := fun c => StableHlo.after hostOps2 (W2 m c)
def W4 : Contents F := fun c => leave cfg2 c (W3 m c) (dat2 (atRefs (W3 m)) c)
def W5 : Contents F := fun c => StableHlo.after hostOps3 (W4 m c)
def W6 : Contents F := fun c => leave cfg3 c (W5 m c) (dat3 (atRefs (W5 m)) c)
def W7 : Contents F := fun c => leave cfg4 c (W6 m c) (dat4 (atRefs (W6 m)) c)
def W8 : Contents F := fun c => leave cfg5 c (W7 m c) (dat5 (atRefs (W7 m)) c)
def W9 : Contents F := fun c => StableHlo.after hostOps6 (W8 m c)
def W10 : Contents F := fun c => leave cfg6 c (W9 m c) (dat6 (atRefs (W9 m)) c)
def W11 : Contents F := fun c => StableHlo.after hostOps7 (W10 m c)
def W12 : Contents F := fun c => leave cfg7 c (W11 m c) (dat7 (atRefs (W11 m)) c)

/-- A reference none of a call's output windows is an array of. -/
abbrev Spared (cfg : Cfg sig Λ₀) (r : Ref sig .tc) : Prop := ∀ w : Fin cfg.W, Pipeline.arrRef cfg.spec w = r → (cfg.win w).isOut = false

theorem W1_of (c : Dev nD) (r : Ref sig .tc) (h : Spared cfg0 r) : W1 m c (Proc.devRef .tc r) = W0 m c (Proc.devRef .tc r) :=
  leave_of cfg0 c _ _ launch0.win (fun _ => rfl) r h
theorem W2_of (c : Dev nD) (r : Ref sig .tc) (h : Spared cfg1 r) : W2 m c (Proc.devRef .tc r) = W1 m c (Proc.devRef .tc r) :=
  leave_of cfg1 c _ _ launch1.win (fun _ => rfl) r h
theorem W3_of (c : Dev nD) (r : Ref sig .tc) (h : r ∉ hostOps2_W) : W3 m c (Proc.devRef .tc r) = W2 m c (Proc.devRef .tc r) :=
  StableHlo.after_of_writes_sub hostOps2 _ hostOps2_writes h
theorem W4_of (c : Dev nD) (r : Ref sig .tc) (h : Spared cfg2 r) : W4 m c (Proc.devRef .tc r) = W3 m c (Proc.devRef .tc r) :=
  leave_of cfg2 c _ _ launch2.win (fun _ => rfl) r h
theorem W5_of (c : Dev nD) (r : Ref sig .tc) (h : r ∉ hostOps3_W) : W5 m c (Proc.devRef .tc r) = W4 m c (Proc.devRef .tc r) :=
  StableHlo.after_of_writes_sub hostOps3 _ hostOps3_writes h
theorem W6_of (c : Dev nD) (r : Ref sig .tc) (h : Spared cfg3 r) : W6 m c (Proc.devRef .tc r) = W5 m c (Proc.devRef .tc r) :=
  leave_of cfg3 c _ _ launch3.win (fun _ => rfl) r h
theorem W7_of (c : Dev nD) (r : Ref sig .tc) (h : Spared cfg4 r) : W7 m c (Proc.devRef .tc r) = W6 m c (Proc.devRef .tc r) :=
  leave_of cfg4 c _ _ launch4.win (fun _ => rfl) r h
theorem W8_of (c : Dev nD) (r : Ref sig .tc) (h : Spared cfg5 r) : W8 m c (Proc.devRef .tc r) = W7 m c (Proc.devRef .tc r) :=
  leave_of cfg5 c _ _ launch5.win (fun _ => rfl) r h
theorem W9_of (c : Dev nD) (r : Ref sig .tc) (h : r ∉ hostOps6_W) : W9 m c (Proc.devRef .tc r) = W8 m c (Proc.devRef .tc r) :=
  StableHlo.after_of_writes_sub hostOps6 _ hostOps6_writes h
theorem W10_of (c : Dev nD) (r : Ref sig .tc) (h : Spared cfg6 r) : W10 m c (Proc.devRef .tc r) = W9 m c (Proc.devRef .tc r) :=
  leave_of cfg6 c _ _ launch6.win (fun _ => rfl) r h
theorem W11_of (c : Dev nD) (r : Ref sig .tc) (h : r ∉ hostOps7_W) : W11 m c (Proc.devRef .tc r) = W10 m c (Proc.devRef .tc r) :=
  StableHlo.after_of_writes_sub hostOps7 _ hostOps7_writes h
theorem W12_of (c : Dev nD) (r : Ref sig .tc) (h : Spared cfg7 r) : W12 m c (Proc.devRef .tc r) = W11 m c (Proc.devRef .tc r) :=
  leave_of cfg7 c _ _ launch7.win (fun _ => rfl) r h

/-- A reference nothing writes before the expert product is still as launched there. -/
theorem W11_arg (c : Dev nD) (r : Ref sig .tc)
    (h : (Spared cfg0 r ∧ Spared cfg1 r ∧ Spared cfg2 r ∧ Spared cfg3 r) ∧ (Spared cfg4 r ∧ Spared cfg5 r ∧ Spared cfg6 r)
      ∧ r ∉ hostOps2_W ++ hostOps3_W ++ hostOps6_W ++ hostOps7_W) :
    W11 m c (Proc.devRef .tc r) = m ((c : Thread nD τ).loc r) := by
  obtain ⟨⟨h0, h1, h2, h3⟩, ⟨h4, h5, h6⟩, hh⟩ := h
  simp only [List.mem_append, not_or] at hh
  rw [W11_of m c r hh.2, W10_of m c r h6, W9_of m c r hh.1.2, W8_of m c r h5, W7_of m c r h4, W6_of m c r h3, W5_of m c r hh.1.1.2,
    W4_of m c r h2, W3_of m c r hh.1.1.1, W2_of m c r h1, W1_of m c r h0]
  rfl

/-! ## The run -/

/-- Every call's proof data, at the contents it is entered with. -/
def pdats : (p : Fin 8) → (c : Dev nD) → Dat τ (Elt F) Unit ℕ (UR sig nD τ) ℕ (cfgs p) c
  | ⟨0, _⟩ => fun c => dat0 (atRefs (W0 m)) c
  | ⟨1, _⟩ => fun c => dat1 (atRefs (W1 m)) c
  | ⟨2, _⟩ => fun c => dat2 (atRefs (W3 m)) c
  | ⟨3, _⟩ => fun c => dat3 (atRefs (W5 m)) c
  | ⟨4, _⟩ => fun c => dat4 (atRefs (W6 m)) c
  | ⟨5, _⟩ => fun c => dat5 (atRefs (W7 m)) c
  | ⟨6, _⟩ => fun c => dat6 (atRefs (W9 m)) c
  | ⟨7, _⟩ => fun c => dat7 (atRefs (W11 m)) c

/-- The program's twelve items as segments. -/
abbrev segs : List (Pipeline.Seg (pcfgs (F := F)) adm (pdats m) () defs₀ Variants.none (fun _ => (∅ : Finset Unit)) (fun _ _ => (0 : ℕ))) :=
  [ .region (region cfgs (pdats m) defs₀ 0 launch0 (W0 m) (obligation0 (atRefs (W0 m))) (fun _ _ => rfl) (fun _ _ => trivial) (fun _ _ => rfl) (fun _ _ => rfl) (fun _ => .rfl) (fun _ => .rfl)),
    .region (region cfgs (pdats m) defs₀ 1 launch1 (W1 m) (obligation1 (atRefs (W1 m))) (fun _ _ => rfl) (fun _ _ => trivial) (fun _ _ => rfl) (fun _ _ => rfl) (fun _ => .rfl) (fun _ => .rfl)),
    .host (stretch cfgs defs₀ hostOps2 hostOps2_sub hostOps2_fresh (W2 m)),
    .region (region cfgs (pdats m) defs₀ 2 launch2 (W3 m) (obligation2 (atRefs (W3 m))) (fun _ _ => rfl) (fun _ _ => trivial) (fun _ _ => rfl) (fun _ _ => rfl) (fun _ => .rfl) (fun _ => .rfl)),
    .host (stretch cfgs defs₀ hostOps3 hostOps3_sub hostOps3_fresh (W4 m)),
    .region (region cfgs (pdats m) defs₀ 3 launch3 (W5 m) (obligation3 (atRefs (W5 m))) (fun _ _ => rfl) (fun _ _ => trivial) (fun _ _ => rfl) (fun _ _ => rfl) (fun _ => .rfl) (fun _ => .rfl)),
    .region (region cfgs (pdats m) defs₀ 4 launch4 (W6 m) (obligation4 (atRefs (W6 m))) (fun _ _ => rfl) (fun _ _ => trivial) (fun _ _ => rfl) (fun _ _ => rfl) (fun _ => .rfl) (fun _ => .rfl)),
    .region (region cfgs (pdats m) defs₀ 5 launch5 (W7 m) (obligation5 (atRefs (W7 m))) (fun _ _ => rfl) (fun _ _ => trivial) (fun _ _ => rfl) (fun _ _ => rfl) (fun _ => .rfl) (fun _ => .rfl)),
    .host (stretch cfgs defs₀ hostOps6 hostOps6_sub hostOps6_fresh (W8 m)),
    .region (region cfgs (pdats m) defs₀ 6 launch6 (W9 m) (obligation6 (atRefs (W9 m))) (fun _ _ => rfl) (fun _ _ => trivial) (fun _ _ => rfl) (fun _ _ => rfl) (fun _ => .rfl) (fun _ => .rfl)),
    .host (stretch cfgs defs₀ hostOps7 hostOps7_sub hostOps7_fresh (W10 m)),
    .region (region cfgs (pdats m) defs₀ 7 launch7 (W11 m) (obligation7 (atRefs (W11 m))) (fun _ _ => rfl) (fun _ _ => trivial) (fun _ _ => rfl) (fun _ _ => rfl) (enter7 (atRefs (W11 m))) (exit7 (atRefs (W11 m)))) ]

theorem main_run (c : Dev nD) : main (F := F) c = Pipeline.Seg.run (segs m) := (main_chain c).trans (by chain_rfl)

/-- No TensorCore semaphore outlives a call. -/
theorem no_unscoped : ∀ sm : SemLoc sig, sm.isScoped .tc = true := by decide

-- the launch theorem's implicit arguments are found by unfolding plain definitions in a metavariable's type
set_option backward.isDefEq.respectTransparency.types false in
/-- The program terminates with every buffer at the last contents and every counter at zero. -/
theorem run (ρ : Dev nD → PrngReg) : θ_run defs (onTc (τ := τ) (main (F := F))) ⟨m, fun _ => 0, ρ⟩ (fun r =>
    (∀ c : Dev nD, ∀ b ∈ Pipeline.ucRefs τ sig, r.2.mem (((c : Thread nD τ)).1, b) = W12 m c b) ∧ r.2.sem = fun _ => 0) :=
  Pipeline.θ_run_regions_kit_sems (pcfgs (F := F)) adm (pdats m) () cellOf_inj emb₁ defs₀ Variants.none (fun _ => (∅ : Finset Unit))
    (fun _ _ => (0 : ℕ)) m ρ main (segs m) (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(Held (W0 m c) c ∗ Side c)) (Tₙ := fun c => iprop(Held (W12 m c) c ∗ ∃ r, prngReg c r))
    (hch := ⟨fun _ => .rfl, fun _ => .rfl, fun _ => .rfl, fun _ => .rfl, fun _ => .rfl, fun _ => .rfl, fun _ => .rfl, fun _ => .rfl,
      fun _ => .rfl, fun _ => .rfl, fun _ => .rfl, fun _ => .rfl, fun c => by
        dsimp only [Pipeline.Seg.post, region]
        iintro ⟨Hh, Hp, HO⟩
        isplitl [Hh Hp]
        · isplitl [Hh]; · iexact Hh
          iexact Hp
        iexact HO⟩)
    (hinit := by
      refine Pipeline.initEach (fun _ => (∅ : Finset Unit)) (fun _ _ => (0 : ℕ)) fun c => ?_
      rw [show unscopedBufs c (fun b => m ((c : Thread nD τ).loc b)) = Held (W0 m c) c from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m c b)
    (hfin := fun c s' => by
      iintro ⟨⟨Hh, -⟩, HSI⟩
      unfold Held StableHlo.held
      imodintro
      iapply (pointsTo_read_all (Pipeline.ucRefs τ sig) (fun b => (((c : Thread nD τ)).1, b)) (W12 m c) s')
      isplitl [Hh] <;> iassumption)
    (hQ := fun s h hz => ⟨h, funext fun g => hz g (.inr (no_unscoped g.2))⟩)

/-- An argument ends as launched. -/
theorem W12_arg (c : Dev nD) (r : Ref sig .tc) (h7 : Spared cfg7 r)
    (h : (Spared cfg0 r ∧ Spared cfg1 r ∧ Spared cfg2 r ∧ Spared cfg3 r) ∧ (Spared cfg4 r ∧ Spared cfg5 r ∧ Spared cfg6 r)
      ∧ r ∉ hostOps2_W ++ hostOps3_W ++ hostOps6_W ++ hostOps7_W) :
    W12 m c (Proc.devRef .tc r) = m ((c : Thread nD τ).loc r) := (W12_of m c r h7).trans (W11_arg m c r h)

/-- Whatever runs to the last contents leaves the arguments unchanged. -/
theorem kept (s : MemSt nD τ sig (Elt F)) (h : ∀ c : Dev nD, ∀ b ∈ Pipeline.ucRefs τ sig, s.mem (c, b) = W12 m c b) (c : Dev nD) :
    s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6) := by
  have at_ (r : Ref sig .tc) (hu : ¬ (Proc.devRef (τ := τ) .tc r : DevRef τ sig).isScoped) (h7 : Spared cfg7 r) (hr) :
      s.mem ((c.tc : Thread nD τ).loc r) = m ((c.tc : Thread nD τ).loc r) := (h c _ (mem_uc r hu)).trans (W12_arg m c r h7 hr)
  exact ⟨at_ _ (by decide) (by decide) (by decide), at_ _ (by decide) (by decide) (by decide), at_ _ (by decide) (by decide) (by decide),
    at_ _ (by decide) (by decide) (by decide), at_ _ (by decide) (by decide) (by decide), at_ _ (by decide) (by decide) (by decide),
    at_ _ (by decide) (by decide) (by decide)⟩

end Cert.KernelIdeal.Whole

end
-- ==== Proof.Scalars.lean ====
/- The quantiser of one number over the extended reals: the scale of a tensor, the scale of a block of sixteen, the rounding of a scaled
   magnitude to the eight levels, as the kernel spells it and as the reference spells it, and that the two are one function. -/
module

public import Idealize.ShloMosaic.PureOps.Ideal.Laws
public import Idealize.ShloMosaic.Lib.IdealHost
public import Idealize.ShloMosaic.Lib.Pipeline.Value

@[expose] public section

noncomputable section

namespace Cert.Meet

open Idealize.ShloMosaic

/-- The extended reals as the ideal values' type. -/
abbrev E : Type := Ideal .f32

/-- A literal. -/
abbrev lit (b : BitVec 32) : E := FloatOps.ofBits (F := Ideal) .f32 b

/-- The scale of a tensor whose largest magnitude is `m`. -/
def tensorScale (m : E) : E := FloatOps.divf (lit 0x45280000#32) (FloatOps.maximumf m (lit 0x2B8CBCCC#32))

/-- The scale of a block before its zero is replaced. -/
def rawScale (gs am : E) : E := FloatOps.mulf (FloatOps.divf am (lit 0x40C00000#32)) gs

/-- The scale of a block: one where the raw scale is not positive. -/
def blockScale (pre : E) : E := Scalar.select (FloatOps.cmpf .ole pre (lit 0x00000000#32)) (lit 0x3F800000#32) pre

/-- The sign. -/
def sgn (y : E) : E :=
  Scalar.select (FloatOps.cmpf .ogt (FloatOps.absf y) (lit 0x00000000#32))
    (Scalar.select (FloatOps.cmpf .olt y (lit 0x00000000#32)) (lit 0xBF800000#32) (lit 0x3F800000#32)) y

/-- The magnitude, between nought and six. -/
def mag (y : E) : E := FloatOps.minimumf (lit 0x40C00000#32) (FloatOps.maximumf (lit 0x00000000#32) (FloatOps.absf y))

/-- The level of a magnitude, by the first midpoint above it. -/
def level (a : E) : E :=
  Scalar.select (FloatOps.cmpf .olt a (lit 0x3E800000#32)) (lit 0x00000000#32)
  (Scalar.select (FloatOps.cmpf .olt a (lit 0x3F400000#32)) (lit 0x3F000000#32)
  (Scalar.select (FloatOps.cmpf .olt a (lit 0x3FA00000#32)) (lit 0x3F800000#32)
  (Scalar.select (FloatOps.cmpf .olt a (lit 0x3FE00000#32)) (lit 0x3FC00000#32)
  (Scalar.select (FloatOps.cmpf .olt a (lit 0x40200000#32)) (lit 0x40000000#32)
  (Scalar.select (FloatOps.cmpf .olt a (lit 0x40600000#32)) (lit 0x40400000#32)
  (Scalar.select (FloatOps.cmpf .olt a (lit 0x40A00000#32)) (lit 0x40800000#32) (lit 0x40C00000#32)))))))

/-- The level of a magnitude, by the last midpoint it reaches. -/
def levelUp (a : E) : E :=
  Scalar.select (FloatOps.cmpf .oge a (lit 0x40A00000#32)) (lit 0x40C00000#32)
  (Scalar.select (FloatOps.cmpf .oge a (lit 0x40600000#32)) (lit 0x40800000#32)
  (Scalar.select (FloatOps.cmpf .oge a (lit 0x40200000#32)) (lit 0x40400000#32)
  (Scalar.select (FloatOps.cmpf .oge a (lit 0x3FE00000#32)) (lit 0x40000000#32)
  (Scalar.select (FloatOps.cmpf .oge a (lit 0x3FA00000#32)) (lit 0x3FC00000#32)
  (Scalar.select (FloatOps.cmpf .oge a (lit 0x3F400000#32)) (lit 0x3F800000#32)
  (Scalar.select (FloatOps.cmpf .oge a (lit 0x3E800000#32)) (lit 0x3F000000#32) (lit 0x00000000#32)))))))

/-- The quantiser on a number `t` of a block with largest magnitude `am`, in a tensor of scale `gs`. -/
def fake (gs am t : E) : E :=
  Scalar.select (FloatOps.cmpf .ole am (lit 0x00000000#32)) (lit 0x00000000#32)
    (FloatOps.divf (FloatOps.mulf (FloatOps.mulf
      (level (mag (FloatOps.divf (FloatOps.mulf t gs) (blockScale (rawScale gs am)))))
      (sgn (FloatOps.divf (FloatOps.mulf t gs) (blockScale (rawScale gs am)))))
      (blockScale (rawScale gs am))) gs)

theorem select_olt (a b x y : E) : Scalar.select (FloatOps.cmpf .olt a b) x y = if a < b then x else y := by
  simp only [Scalar.select, Ideal.cmpf_def, Ideal.cmp]
  by_cases h : a < b <;> simp [h]

theorem select_oge (a b x y : E) : Scalar.select (FloatOps.cmpf .oge a b) x y = if a < b then y else x := by
  simp only [Scalar.select, Ideal.cmpf_def, Ideal.cmp]
  by_cases h : a < b
  · simp [h, not_le.mpr h]
  · simp [h, not_lt.mp h]

theorem select_ole (a b x y : E) : Scalar.select (FloatOps.cmpf .ole a b) x y = if a ≤ b then x else y := by
  simp only [Scalar.select, Ideal.cmpf_def, Ideal.cmp]
  by_cases h : a ≤ b <;> simp [h]

/-- The midpoints and levels as numbers. -/
theorem lit_vals : lit 0x00000000#32 = ((0 : ℝ) : EReal) ∧ lit 0x3E800000#32 = ((1 / 4 : ℝ) : EReal) ∧ lit 0x3F000000#32 = ((1 / 2 : ℝ) : EReal)
    ∧ lit 0x3F400000#32 = ((3 / 4 : ℝ) : EReal) ∧ lit 0x3F800000#32 = ((1 : ℝ) : EReal) ∧ lit 0x3FA00000#32 = ((5 / 4 : ℝ) : EReal)
    ∧ lit 0x3FC00000#32 = ((3 / 2 : ℝ) : EReal) ∧ lit 0x3FE00000#32 = ((7 / 4 : ℝ) : EReal) ∧ lit 0x40000000#32 = ((2 : ℝ) : EReal)
    ∧ lit 0x40200000#32 = ((5 / 2 : ℝ) : EReal) ∧ lit 0x40400000#32 = ((3 : ℝ) : EReal) ∧ lit 0x40600000#32 = ((7 / 2 : ℝ) : EReal)
    ∧ lit 0x40800000#32 = ((4 : ℝ) : EReal) ∧ lit 0x40A00000#32 = ((5 : ℝ) : EReal) ∧ lit 0x40C00000#32 = ((6 : ℝ) : EReal) := by
  refine ⟨?_, ?_, ?_, ?_, ?_, ?_, ?_, ?_, ?_, ?_, ?_, ?_, ?_, ?_, ?_⟩ <;>
    (show Ideal.ofBits .f32 _ = _; simp [Ideal.ofBits, Ideal.ieee, -EReal.coe_mul]; try norm_num)

theorem levelUp_eq (a : E) : levelUp a = level a := by
  have hm : lit 0x3E800000#32 < lit 0x3F400000#32 ∧ lit 0x3F400000#32 < lit 0x3FA00000#32 ∧ lit 0x3FA00000#32 < lit 0x3FE00000#32
      ∧ lit 0x3FE00000#32 < lit 0x40200000#32 ∧ lit 0x40200000#32 < lit 0x40600000#32 ∧ lit 0x40600000#32 < lit 0x40A00000#32 := by
    obtain ⟨-, h1, -, h2, -, h3, -, h4, -, h5, -, h6, -, h7, -⟩ := lit_vals
    rw [h1, h2, h3, h4, h5, h6, h7]
    refine ⟨?_, ?_, ?_, ?_, ?_, ?_⟩ <;> exact EReal.coe_lt_coe_iff.mpr (by norm_num)
  obtain ⟨m1, m2, m3, m4, m5, m6⟩ := hm
  simp only [levelUp, level, select_olt, select_oge]
  generalize lit 0x3E800000#32 = u1 at *
  generalize lit 0x3F400000#32 = u2 at *
  generalize lit 0x3FA00000#32 = u3 at *
  generalize lit 0x3FE00000#32 = u4 at *
  generalize lit 0x40200000#32 = u5 at *
  generalize lit 0x40600000#32 = u6 at *
  generalize lit 0x40A00000#32 = u7 at *
  by_cases h1 : a < u1
  · simp [h1, h1.trans m1, (h1.trans m1).trans m2, ((h1.trans m1).trans m2).trans m3, (((h1.trans m1).trans m2).trans m3).trans m4,
      ((((h1.trans m1).trans m2).trans m3).trans m4).trans m5, (((((h1.trans m1).trans m2).trans m3).trans m4).trans m5).trans m6]
  by_cases h2 : a < u2
  · simp [h1, h2, h2.trans m2, (h2.trans m2).trans m3, ((h2.trans m2).trans m3).trans m4,
      (((h2.trans m2).trans m3).trans m4).trans m5, ((((h2.trans m2).trans m3).trans m4).trans m5).trans m6]
  by_cases h3 : a < u3
  · simp [h1, h2, h3, h3.trans m3, (h3.trans m3).trans m4, ((h3.trans m3).trans m4).trans m5, (((h3.trans m3).trans m4).trans m5).trans m6]
  by_cases h4 : a < u4
  · simp [h1, h2, h3, h4, h4.trans m4, (h4.trans m4).trans m5, ((h4.trans m4).trans m5).trans m6]
  by_cases h5 : a < u5
  · simp [h1, h2, h3, h4, h5, h5.trans m5, (h5.trans m5).trans m6]
  by_cases h6 : a < u6
  · simp [h1, h2, h3, h4, h5, h6, h6.trans m6]
  by_cases h7 : a < u7 <;> simp [h1, h2, h3, h4, h5, h6, h7]

/-- A number is real. -/
def Real (x : EReal) : Prop := ∃ r : ℝ, x = (r : EReal)

theorem real_of_abs {x : EReal} (h : Ideal.cmp .olt (FloatOps.absf (F := Ideal) (φ := .f32) x) (Ideal.ofBits .f32 0x7F800000#32) = 1#1) : Real x := by
  have htop : Ideal.ofBits .f32 0x7F800000#32 = (⊤ : EReal) := by simp [Ideal.ofBits, Ideal.ieee]
  rw [htop] at h
  simp only [Ideal.cmp, Ideal.absf_def] at h
  induction x with
  | bot => simp at h
  | top => simp at h
  | coe r => exact ⟨r, rfl⟩

theorem Real.mul {x y : EReal} (hx : Real x) (hy : Real y) : Real (x * y) := by
  obtain ⟨a, rfl⟩ := hx; obtain ⟨b, rfl⟩ := hy; exact ⟨a * b, (EReal.coe_mul a b).symm⟩
theorem Real.add {x y : EReal} (hx : Real x) (hy : Real y) : Real (x + y) := by
  obtain ⟨a, rfl⟩ := hx; obtain ⟨b, rfl⟩ := hy; exact ⟨a + b, (EReal.coe_add a b).symm⟩

/-- Adding the difference to a real number gives the other number. -/
theorem add_sub_of_real {x : EReal} (hx : Real x) (y : EReal) : x + (y - x) = y := by
  obtain ⟨a, rfl⟩ := hx
  induction y with
  | bot => simp
  | top => simp
  | coe b => norm_cast; ring

/-- A real factor goes into a sum when it is applied to each summand. -/
theorem mul_add_of_real {c : EReal} (hc : Real c) (x y : EReal) (hx : Real x) : c * (x + y) = c * x + c * y := by
  obtain ⟨a, rfl⟩ := hc; obtain ⟨b, rfl⟩ := hx
  induction y with
  | coe d => norm_cast; ring
  | bot =>
    rw [EReal.add_bot]
    rcases lt_trichotomy a 0 with h | h | h
    · rw [EReal.coe_mul_bot_of_neg h, ← EReal.coe_mul, EReal.coe_add_top]
    · subst h; simp
    · rw [EReal.coe_mul_bot_of_pos h, EReal.add_bot]
  | top =>
    rw [EReal.coe_add_top]
    rcases lt_trichotomy a 0 with h | h | h
    · rw [EReal.coe_mul_top_of_neg h, EReal.add_bot]
    · subst h; simp
    · rw [EReal.coe_mul_top_of_pos h, ← EReal.coe_mul, EReal.coe_add_top]

theorem Real.sum {ι : Type*} (s : Finset ι) (f : ι → EReal) (h : ∀ i ∈ s, Real (f i)) : Real (∑ i ∈ s, f i) := by
  classical
  induction s using Finset.induction_on with
  | empty => exact ⟨0, by simp⟩
  | insert a s ha ih =>
    rw [Finset.sum_insert ha]
    exact (h a (Finset.mem_insert_self _ _)).add (ih fun i hi => h i (Finset.mem_insert_of_mem hi))

theorem mul_sum_of_real {ι : Type*} {c : EReal} (hc : Real c) (s : Finset ι) (f : ι → EReal) (h : ∀ i ∈ s, Real (f i)) :
    c * ∑ i ∈ s, f i = ∑ i ∈ s, c * f i := by
  classical
  induction s using Finset.induction_on with
  | empty => simp
  | insert a s ha ih =>
    rw [Finset.sum_insert ha, Finset.sum_insert ha, mul_add_of_real hc _ _ (h a (Finset.mem_insert_self _ _)),
      ih fun i hi => h i (Finset.mem_insert_of_mem hi)]

/-- A fold of `max` from minus infinity is below a bound when every member is. -/
theorem fold_max_le {ι : Type*} (s : Finset ι) (f : ι → EReal) (b : EReal) :
    s.fold max (Ideal.ofBits .f32 0xFF800000#32) f ≤ b ↔ ∀ i ∈ s, f i ≤ b := by
  have hbot : Ideal.ofBits .f32 0xFF800000#32 = (⊥ : EReal) := by simp [Ideal.ofBits, Ideal.ieee]
  rw [hbot, Finset.fold_max_le]
  exact ⟨fun h => h.2, fun h => ⟨bot_le, h⟩⟩

end Cert.Meet
-- ==== Proof.KernelReads.lean ====
/- The kernel's payloads at an index over the extended reals: the running maximum of a block's magnitudes, the quantised block. -/
module

public import proofs.«01_k».proof.Proof.Scalars
public import proofs.«01_k».proof.Proof.IdealCalls
public import Idealize.ShloMosaic.Lib.ValueIdx

@[expose] public section

set_option maxRecDepth 16384

noncomputable section

namespace Cert.KernelIdeal.Whole

open Idealize.ShloMosaic Idealize.ShloMosaic.ValueIdx
open Cert.KernelIdeal.Gen Cert.Whole Cert.Meet

/-- The largest magnitude of a family. -/
def supAbs {ι : Type} (f : ι → E) : E := (⨆ i, FloatOps.absf (f i) : EReal)

theorem supAbs_le {ι : Type} (f : ι → E) (b : EReal) : supAbs f ≤ b ↔ ∀ i, FloatOps.absf (f i) ≤ b := iSup_le_iff

theorem absf_nonneg (x : E) : (0 : EReal) ≤ FloatOps.absf x := by
  show (0 : EReal) ≤ max x (-x)
  rcases le_total (0 : EReal) x with h | h
  · exact le_max_of_le_left h
  · exact le_max_of_le_right (EReal.neg_nonneg.mpr h)

theorem fold_absf {n : ℕ} (f : Fin n → E) :
    (Finset.univ : Finset (Fin n)).fold max (FloatOps.ofBits (F := Ideal) .f32 0xFF800000#32) (fun k => FloatOps.absf (f k)) = supAbs f :=
  eq_of_forall_ge_iff fun b => (fold_max_le _ _ b).trans (by rw [supAbs_le]; simp)

/-- A row of a block of sixteen rows. -/
abbrev rowOf {N : ℕ} (r : Fin (16 * N)) (k : Fin 16) : Fin (16 * N) := ⟨16 * (r.val / 16) + k.val, by have := r.isLt; have := k.isLt; omega⟩

theorem spread_apply {α : Type} (x : S16x1x2048.Idx → α) (a b : Fin 16) (n : Fin 2048) :
    broadcastTo S16x16x2048 x broadcasts_S16x1x2048_S16x16x2048 (ix3 a b n) = x (ix3 a 0 n) :=
  broadcastTo_apply x _ _ _ fun d => match d with
    | ⟨0, _⟩ => rfl
    | ⟨1, _⟩ => rfl
    | ⟨2, _⟩ => rfl

theorem pay3_apply (v0 : Vec Ideal S1x256x2048 .f32) (a b : Fin 16) (n : Fin 2048) :
    k3_pay3 v0 (ix3 a b n) = v0 (ix3 0 ⟨16 * a.val + b.val, by have := a.isLt; have := b.isLt; omega⟩ n) := by
  unfold k3_pay3
  refine (shapeCast_apply _ _ (ix3 a b n) (ix2 ⟨16 * a.val + b.val, by have := a.isLt; have := b.isLt; omega⟩ n) ?_).trans
    (shapeCast_apply _ _ _ _ ?_)
  · rw [Shape.rowMajor_val_two, Shape.rowMajor_val_three]
    show (16 * a.val + b.val) * 2048 + n.val = (a.val * 16 + b.val) * 2048 + n.val
    omega
  · rw [Shape.rowMajor_val_two, Shape.rowMajor_val_three]
    show (0 * 256 + (16 * a.val + b.val)) * 2048 + n.val = (16 * a.val + b.val) * 2048 + n.val
    omega

theorem pay4_apply (v0 : Vec Ideal S1x256x2048 .f32) (a : Fin 16) (n : Fin 2048) :
    k3_pay4 v0 (ix3 a 0 n) = supAbs fun k : Fin 16 => v0 (ix3 0 ⟨16 * a.val + k.val, by have := a.isLt; have := k.isLt; omega⟩ n) := by
  unfold k3_pay4
  refine (shapeCast_apply _ _ (ix3 a 0 n) (ix2 a n) ?_).trans ?_
  · rw [Shape.rowMajor_val_two, Shape.rowMajor_val_three]
    show a.val * 2048 + n.val = (a.val * 1 + 0) * 2048 + n.val
    omega
  · refine (Ideal.multiReduction_maximumf_single _ _ _ _ _ _).trans (Eq.trans ?_ (fold_absf _))
    refine congrArg (fun f => Finset.fold max _ f Finset.univ) (funext fun k => ?_)
    refine congrArg FloatOps.absf ((congrArg (k3_pay3 v0) ?_).trans (pay3_apply v0 a k n))
    funext d
    match d with
    | ⟨0, _⟩ => rfl
    | ⟨1, _⟩ => rfl
    | ⟨2, _⟩ => rfl

theorem pay1_apply (x : FVec Ideal S16x16x2048 .f32) (p : IVec S16x16x2048 1) (z : FVec Ideal S16x16x2048 .f32) (r : Fin 256) (n : Fin 2048) :
    k3_pay1 x p z (ix3 0 r n) = select p z x (ix3 ⟨r.val / 16, by have := r.isLt; omega⟩ ⟨r.val % 16, by omega⟩ n) := by
  unfold k3_pay1
  refine (shapeCast_apply _ _ (ix3 0 r n) (ix2 r n) ?_).trans ?_
  · rw [Shape.rowMajor_val_two, Shape.rowMajor_val_three]
    show r.val * 2048 + n.val = (0 * 256 + r.val) * 2048 + n.val
    omega
  · show shapeCast S256x2048 (select p z x) shapeCasts_S16x16x2048_S256x2048 (ix2 r n) = _
    refine shapeCast_apply _ _ _ _ ?_
    rw [Shape.rowMajor_val_two, Shape.rowMajor_val_three]
    show (r.val / 16 * 16 + r.val % 16) * 2048 + n.val = r.val * 2048 + n.val
    omega

/-- The quantised block at a row. -/
theorem quant_apply (v0 : Vec Ideal S1x256x2048 .f32) (v2 : Vec Ideal S1x8x128 .f32) (r : Fin 256) (n : Fin 2048) :
    quant v0 v2 (ix3 0 r n) = fake (k3_pay2 v2) (supAbs fun k : Fin 16 => v0 (ix3 0 (rowOf (N := 16) r k) n)) (v0 (ix3 0 r n)) := by
  have hr := r.isLt
  have e3 := pay3_apply v0 ⟨r.val / 16, by omega⟩ ⟨r.val % 16, by omega⟩ n
  have e4 := pay4_apply v0 ⟨r.val / 16, by omega⟩ n
  have er : (⟨16 * (r.val / 16) + r.val % 16, by omega⟩ : Fin 256) = r := Fin.ext (by show 16 * (r.val / 16) + r.val % 16 = r.val; omega)
  dsimp only at e3 e4
  rw [er] at e3
  unfold quant
  rw [pay1_apply, ← e3]
  refine Eq.trans ?_ (congrArg (fake _ · _) e4)
  unfold k3_pay10 k3_pay11 k3_pay12 k3_pay8 k3_pay9 k3_pay7 k3_pay6 k3_pay5
  simp only [shapeCast_self]
  simp only [select, mulf, divf, cmpf, absf, maximumf, minimumf, broadcast, spread_apply]
  rfl

theorem pay5X (v0 : Vec Ideal S1x256x2048 .f32) (v2 : Vec Ideal S1x8x128 .f32) : k6_pay5 v0 v2 = k3_pay5 v0 v2 := rfl
theorem pay6X (v0 : Vec Ideal S1x256x2048 .f32) (v2 : Vec Ideal S1x8x128 .f32) : k6_pay6 v0 v2 = k3_pay6 v0 v2 := rfl
theorem pay7X (v0 : Vec Ideal S1x256x2048 .f32) (v2 : Vec Ideal S1x8x128 .f32) : k6_pay7 v0 v2 = k3_pay7 v0 v2 := rfl
theorem pay8X (v0 : Vec Ideal S1x256x2048 .f32) (v2 : Vec Ideal S1x8x128 .f32) : k6_pay8 v0 v2 = k3_pay8 v0 v2 := by
  unfold k6_pay8 k3_pay8; rw [pay7X]
theorem pay9X (v0 : Vec Ideal S1x256x2048 .f32) (v2 : Vec Ideal S1x8x128 .f32) : k6_pay9 v0 v2 = k3_pay9 v0 v2 := by
  unfold k6_pay9 k3_pay9; rw [pay7X]

theorem quantX_eq (v0 : Vec Ideal S1x256x2048 .f32) (v2 : Vec Ideal S1x8x128 .f32) : quantX v0 v2 = quant v0 v2 := by
  unfold quantX quant
  rw [pay6X, pay8X, pay9X]
  unfold k6_pay1 k3_pay1 k6_pay11 k3_pay11
  simp only [shapeCast_self]
  rfl

end Cert.KernelIdeal.Whole

end
-- ==== Proof.KernelMaxima.lean ====
/- The kernel's running maxima over the extended reals: what the three arrays of maxima hold. -/
module

public import proofs.«01_k».proof.Proof.KernelReads
public import proofs.«01_k».proof.Proof.IdealCalls
public import Idealize.ShloMosaic.Lib.ValueIdx

@[expose] public section

set_option maxRecDepth 16384

noncomputable section

namespace Cert.KernelIdeal.Whole

open Idealize.ShloMosaic Idealize.ShloMosaic.ValueIdx
open Cert.KernelIdeal.Gen Cert.Whole Cert.Meet

/-! ## Running maxima -/

/-- A magnitude. -/
abbrev mgn (x : E) : EReal := FloatOps.absf (F := Ideal) (φ := .f32) x

theorem whole_max {s : Shape} {axes : List (Fin s.rank)} (x : FVec Ideal s .f32) (h : s.Reduces axes S1) (hφ : FKind.Formats .f32)
    (hacc : (0xFF800000#32 : BitVec 32) = FKind.maximumf.neutral .f32 hφ) (j : S1.Idx) (b : EReal) :
    multiReduction .maximumf axes S1 x 0xFF800000#32 h hφ hacc j ≤ b ↔ ∀ i, x i ≤ b := by
  rw [multiReduction_maximumf_eq_fold]
  refine (fold_max_le _ _ b).trans ⟨fun H i => H i (Finset.mem_filter.mpr ⟨Finset.mem_univ _, ?_⟩), fun H i _ => H i⟩
  funext d
  match d with
  | ⟨0, _⟩ => exact Subsingleton.elim (α := Fin 1) _ _

theorem shapeCast_forall {s t : Shape} {α : Type} (x : s.Idx → α) (h : s.ShapeCasts t) (P : α → Prop) :
    (∀ j, P (shapeCast t x h j)) ↔ ∀ i, P (x i) :=
  ⟨fun H i => by simpa [shapeCast] using H ((Shape.reshapeEquiv h).symm i), fun H j => H _⟩

theorem extract_max {s t : Shape} (x : FVec Ideal s .f32) (hc : s.ShapeCasts t) {axes : List (Fin t.rank)} (h : t.Reduces axes S1) (hφ : FKind.Formats .f32)
    (hacc : (0xFF800000#32 : BitVec 32) = FKind.maximumf.neutral .f32 hφ) :
    extractAt ![0, 0, 0, 0] (shapeCast S1x1x1x1 (multiReduction .maximumf axes S1 (shapeCast t (absf x) hc) 0xFF800000#32 h hφ hacc) shapeCasts_S1_S1x1x1x1)
      inpos_S1x1x1x1_p0_0_0_0 = supAbs x := by
  unfold extractAt
  generalize (fun a => (⟨![0, 0, 0, 0] a, inpos_S1x1x1x1_p0_0_0_0 a⟩ : Fin (S1x1x1x1.size a))) = j
  unfold shapeCast
  refine eq_of_forall_ge_iff (α := EReal) fun b => (whole_max _ h hφ hacc _ b).trans (Iff.trans ?_ (supAbs_le x b).symm)
  exact shapeCast_forall (absf x) hc (fun q : EReal => q ≤ b)

theorem maximumf_broadcast (x : FVec Ideal S1x8x128 .f32) (q : E) (i : S1x8x128.Idx) :
    maximumf x (broadcast S1x8x128 q) i = max (α := EReal) (x i) q := rfl

theorem k0_pay2_form (v0 : Vec Ideal S1x256x4096 .f32) (v9 : Vec Ideal S1x8x128 .f32) :
    k0_pay2 v0 v9 = maximumf (shapeCast S1x8x128 v9 shapeCasts_S1x8x128_S1x8x128) (broadcast S1x8x128
      (extractAt ![0, 0, 0, 0] (shapeCast S1x1x1x1 (multiReduction .maximumf [1, 2, 3] S1 (shapeCast S1x1x256x4096 (absf v0) shapeCasts_S1x256x4096_S1x1x256x4096)
        0xFF800000#32 reduces_S1x1x256x4096_S1 (.inl rfl) rfl) shapeCasts_S1_S1x1x1x1) inpos_S1x1x1x1_p0_0_0_0)) := by
  unfold k0_pay2; rfl
theorem k0_pay2_eq (v0 : Vec Ideal S1x256x4096 .f32) (v9 : Vec Ideal S1x8x128 .f32) (i : S1x8x128.Idx) :
    k0_pay2 v0 v9 i = max (α := EReal) (v9 i) (supAbs v0) := by
  rw [k0_pay2_form, shapeCast_self v9, maximumf_broadcast]
  exact congrArg (max (α := EReal) (v9 i)) (extract_max v0 shapeCasts_S1x256x4096_S1x1x256x4096 reduces_S1x1x256x4096_S1 (.inl rfl) rfl)

theorem k1_pay2_form (v0 : Vec Ideal S1x256x2048 .f32) (v9 : Vec Ideal S1x8x128 .f32) :
    k1_pay2 v0 v9 = maximumf (shapeCast S1x8x128 v9 shapeCasts_S1x8x128_S1x8x128) (broadcast S1x8x128
      (extractAt ![0, 0, 0, 0] (shapeCast S1x1x1x1 (multiReduction .maximumf [1, 2, 3] S1 (shapeCast S1x1x256x2048 (absf v0) shapeCasts_S1x256x2048_S1x1x256x2048)
        0xFF800000#32 reduces_S1x1x256x2048_S1 (.inl rfl) rfl) shapeCasts_S1_S1x1x1x1) inpos_S1x1x1x1_p0_0_0_0)) := by
  unfold k1_pay2; rfl
theorem k1_pay2_eq (v0 : Vec Ideal S1x256x2048 .f32) (v9 : Vec Ideal S1x8x128 .f32) (i : S1x8x128.Idx) :
    k1_pay2 v0 v9 i = max (α := EReal) (v9 i) (supAbs v0) := by
  rw [k1_pay2_form, shapeCast_self v9, maximumf_broadcast]
  exact congrArg (max (α := EReal) (v9 i)) (extract_max v0 shapeCasts_S1x256x2048_S1x1x256x2048 reduces_S1x1x256x2048_S1 (.inl rfl) rfl)

theorem k2_pay2_form (v0 : Vec Ideal S1x256x2048 .f32) (v9 : Vec Ideal S1x8x128 .f32) :
    k2_pay2 v0 v9 = maximumf (shapeCast S1x8x128 v9 shapeCasts_S1x8x128_S1x8x128) (broadcast S1x8x128
      (extractAt ![0, 0, 0, 0] (shapeCast S1x1x1x1 (multiReduction .maximumf [1, 2, 3] S1 (shapeCast S1x1x256x2048 (absf (shapeCast S1x256x2048 v0 shapeCasts_S1x256x2048_S1x256x2048)) shapeCasts_S1x256x2048_S1x1x256x2048)
        0xFF800000#32 reduces_S1x1x256x2048_S1 (.inl rfl) rfl) shapeCasts_S1_S1x1x1x1) inpos_S1x1x1x1_p0_0_0_0)) := by
  unfold k2_pay2; rfl
theorem k2_pay2_eq (v0 : Vec Ideal S1x256x2048 .f32) (v9 : Vec Ideal S1x8x128 .f32) (i : S1x8x128.Idx) :
    k2_pay2 v0 v9 i = max (α := EReal) (v9 i) (supAbs v0) := by
  rw [k2_pay2_form, shapeCast_self v0, shapeCast_self v9, maximumf_broadcast]
  exact congrArg (max (α := EReal) (v9 i)) (extract_max v0 shapeCasts_S1x256x2048_S1x1x256x2048 reduces_S1x1x256x2048_S1 (.inl rfl) rfl)

/-- The scale the quantiser takes off a block holding one number. -/
theorem pay2_const (v2 : Vec Ideal S1x8x128 .f32) (M : E) (h : ∀ i, v2 i = M) : k3_pay2 v2 = tensorScale M := by
  unfold k3_pay2 tensorScale
  simp only [shapeCast_self]
  refine congrArg (fun q => FloatOps.divf (lit 0x45280000#32) (FloatOps.maximumf q (lit 0x2B8CBCCC#32))) ?_
  refine eq_of_forall_ge_iff (α := EReal) fun b => (whole_max _ _ (.inl rfl) rfl _ b).trans ((shapeCast_forall _ _ (· ≤ b)).trans ?_)
  exact ⟨fun H => h (ix3 0 0 0) ▸ H (ix3 0 0 0), fun H i => (h i).symm ▸ H⟩

/-- A row of running maxima is below a bound when its start and every member are. -/
theorem folded_le {A B : Type} (z : B) (p : A → B → B) (x : ℕ → A) (v : B → EReal) (w : A → EReal → Prop)
    (hp : ∀ a b c, v (p a b) ≤ c ↔ v b ≤ c ∧ w a c) (c : EReal) :
    ∀ n, v (folded z p x n) ≤ c ↔ v z ≤ c ∧ ∀ k, k ≤ n → k / 8 = n / 8 → w (x k) c := by
  intro n
  induction n using Nat.strong_induction_on with
  | _ n ih =>
    by_cases h : n % 8 = 0
    · rw [folded_start z p x n h, hp]
      refine and_congr Iff.rfl ⟨fun H k hk e => ?_, fun H => H n le_rfl rfl⟩
      rwa [show k = n by omega]
    · rw [folded_next z p x n h, hp, ih (n - 1) (by omega), and_assoc]
      refine and_congr Iff.rfl ⟨fun H k hk e => ?_, fun H => ⟨fun k hk e => H k (by omega) (by omega), H n le_rfl rfl⟩⟩
      by_cases hkn : k = n
      · rw [hkn]; exact H.2
      · exact H.1 k (by omega) (by omega)

end Cert.KernelIdeal.Whole

end
-- ==== Proof.KernelArrays.lean ====
/- What the kernel's arrays of maxima and of quantised numbers hold, at an index, over the extended reals. -/
module

public import proofs.«01_k».proof.Proof.KernelMaxima
public import Idealize.ShloMosaic.Lib.Pipeline.ValueKit.Geometry

@[expose] public section

set_option maxRecDepth 16384

noncomputable section

namespace Cert.KernelIdeal.Whole

open Idealize.ShloMosaic Idealize.ShloMosaic.ValueIdx Idealize.ShloMosaic.TcCoe
open Idealize.ShloMosaic.Pipeline (Dat Cfg Window)
open Cert.KernelIdeal.Gen Cert.Whole Cert.Meet

section
variable {F : FTy → Type} [FloatOps F] (V : (c : Dev nD) → (b : Ref sig .tc) → Buf (Elt F) ((c : Thread nD τ).loc b)) (c : Dev nD)

theorem after3 (t : Fin cfg3.N) : ∃ (b0 : Vec F S1x256x2048 .f32) (b2 : Vec F S1x8x128 .f32),
    (∀ z, b0 z = V c main_v5 ((win3_0.blk t).view.emb z)) ∧ (∀ i, b2 i = V c main_v0 ((win3_1.blk t).view.emb i))
      ∧ (dat3 V c).after 2 t = quant b0 b2 :=
  ⟨blockAt cfg3 c (V c) 0 t, blockAt cfg3 c (V c) 1 t, fun _ => rfl, fun _ => rfl, rfl⟩
theorem after4 (t : Fin cfg4.N) : ∃ (b0 : Vec F S1x256x2048 .f32) (b2 : Vec F S1x8x128 .f32),
    (∀ z, b0 z = V c main_v6 ((win4_0.blk t).view.emb z)) ∧ (∀ i, b2 i = V c main_v0 ((win4_1.blk t).view.emb i))
      ∧ (dat4 V c).after 2 t = quant b0 b2 :=
  ⟨blockAt cfg4 c (V c) 0 t, blockAt cfg4 c (V c) 1 t, fun _ => rfl, fun _ => rfl, rfl⟩
theorem after5 (t : Fin cfg5.N) : ∃ (b0 : Vec F S1x256x2048 .f32) (b2 : Vec F S1x8x128 .f32),
    (∀ z, b0 z = V c main_arg3 ((win5_0.blk t).view.emb z)) ∧ (∀ i, b2 i = V c main_v1 ((win5_1.blk t).view.emb i))
      ∧ (dat5 V c).after 2 t = quant b0 b2 :=
  ⟨blockAt cfg5 c (V c) 0 t, blockAt cfg5 c (V c) 1 t, fun _ => rfl, fun _ => rfl, rfl⟩
theorem after6 (t : Fin cfg6.N) : ∃ (b0 : Vec F S1x256x2048 .f32) (b2 : Vec F S1x8x128 .f32),
    (∀ z, b0 z = V c main_v10 ((win6_0.blk t).view.emb z)) ∧ (∀ i, b2 i = V c main_v4 ((win6_1.blk t).view.emb i))
      ∧ (dat6 V c).after 2 t = quantX b0 b2 :=
  ⟨blockAt cfg6 c (V c) 0 t, blockAt cfg6 c (V c) 1 t, fun _ => rfl, fun _ => rfl, rfl⟩

end

variable (V : (c : Dev nD) → (b : Ref sig .tc) → Buf (Elt Ideal) ((c : Thread nD τ).loc b))

/-- The folded maximum over the eight blocks of a row is the largest magnitude of the row. -/
theorem folded_sup {A : Type} (n : ℕ) (p : (A → E) → Vec Ideal S1x8x128 .f32 → Vec Ideal S1x8x128 .f32) (x : ℕ → A → E)
    (hp : ∀ v0 v9 i, p v0 v9 i = max (α := EReal) (v9 i) (supAbs v0)) {B : Type} [Nonempty B] (g : B → E) (i : S1x8x128.Idx)
    (hto : ∀ k y, k ≤ n → k / 8 = n / 8 → ∃ b, x k y = g b)
    (hfrom : ∀ b, ∃ k y, k ≤ n ∧ k / 8 = n / 8 ∧ x k y = g b) :
    folded (k0_pay1 (F := Ideal)) p x n i = supAbs g := by
  refine eq_of_forall_ge_iff (α := EReal) fun b => ?_
  refine (folded_le (k0_pay1 (F := Ideal)) p x (fun v => (v i : EReal)) (fun a c => supAbs a ≤ c)
    (fun a v c => by show p a v i ≤ c ↔ _; rw [hp]; exact max_le_iff) b n).trans ?_
  rw [supAbs_le]
  constructor
  · rintro ⟨-, H⟩ q
    obtain ⟨k, y, hk, e, exy⟩ := hfrom q
    rw [← exy]
    exact (supAbs_le _ _).mp (H k hk e) y
  · intro H
    refine ⟨?_, fun k hk e => (supAbs_le _ _).mpr fun y => ?_⟩
    · have h0 : (k0_pay1 (F := Ideal) i : EReal) = 0 := by
        show Ideal.ofBits .f32 0x00000000#32 = 0
        simp [Ideal.ofBits, Ideal.ieee]
      show (k0_pay1 (F := Ideal) i : EReal) ≤ b
      rw [h0]
      exact (absf_nonneg (g (Classical.arbitrary B))).trans (H _)
    · obtain ⟨q, hq⟩ := hto k y hk e
      rw [hq]
      exact H q

/-- The same for the eight blocks of 256 rows of a matrix. -/
theorem row_sup {C N : ℕ} [NeZero C] (n : Fin N)
    (p : Vec Ideal ⟨3, ![1, 256, C]⟩ .f32 → Vec Ideal S1x8x128 .f32 → Vec Ideal S1x8x128 .f32) (hp : ∀ v0 v9 i, p v0 v9 i = max (α := EReal) (v9 i) (supAbs v0))
    (x : Fin N → Vec Ideal ⟨3, ![1, 256, C]⟩ .f32) (arr : Fin 2048 → Fin C → E) (hn : n.val % 8 = 7)
    (hx : ∀ k : Fin N, k.val / 8 = n.val / 8 → ∀ z, x k z = arr ⟨k.val % 8 * 256 + (z 1).val, by have : (z 1).val < 256 := (z 1).isLt; omega⟩ (z 2))
    (i : S1x8x128.Idx) :
    folded (k0_pay1 (F := Ideal)) p (atPoint (S := ⟨3, ![1, 256, C]⟩) (e := .f32) x) n.val i = supAbs fun q : Fin 2048 × Fin C => arr q.1 q.2 := by
  have hnN := n.isLt
  refine folded_sup n.val p (fun k => atPoint (S := ⟨3, ![1, 256, C]⟩) (e := .f32) x k) hp _ i (fun k z hk e => ?_) (fun q => ?_)
  · refine ⟨(⟨k % 8 * 256 + (z 1).val, by have : (z 1).val < 256 := (z 1).isLt; omega⟩, z 2), ?_⟩
    exact (congrFun (atPoint_fin x (⟨k, by omega⟩ : Fin N)) z).trans (hx ⟨k, by omega⟩ e z)
  · have hq := q.1.isLt
    refine ⟨n.val / 8 * 8 + q.1.val / 256, ix3 0 ⟨q.1.val % 256, by omega⟩ q.2, by omega, by omega, ?_⟩
    refine (congrFun (atPoint_fin x (⟨n.val / 8 * 8 + q.1.val / 256, by omega⟩ : Fin N)) _).trans ((hx _ (by show (n.val / 8 * 8 + q.1.val / 256) / 8 = n.val / 8; omega) _).trans ?_)
    refine congrArg (arr · q.2) (Fin.ext ?_)
    show (n.val / 8 * 8 + q.1.val / 256) % 8 * 256 + q.1.val % 256 = q.1.val
    omega

theorem in0 : ∀ t : Fin cfg0.N, win0_0.index t = ![t.val / 8, t.val % 8, 0] := by decide +kernel
theorem out0 : ∀ t : Fin cfg0.N, win0_1.index t = ![t.val / 8, 0, 0] := by decide +kernel
theorem in1 : ∀ t : Fin cfg1.N, win1_0.index t = ![t.val / 8, t.val % 8, 0] := by decide +kernel
theorem out1 : ∀ t : Fin cfg1.N, win1_1.index t = ![t.val / 8, 0, 0] := by decide +kernel
theorem in2 : ∀ t : Fin cfg2.N, win2_0.index t = ![0, t.val, 0] := by decide +kernel
theorem out2 : ∀ t : Fin cfg2.N, win2_1.index t = ![0, 0, 0] := by decide +kernel

/-- The maxima of the gate-and-up weights, expert by expert. -/
theorem amax0 (c : Dev nD) : (dat0 V c).arrAt 1 cfg0.N
    = fun i => supAbs fun p : Fin 2048 × Fin 4096 => V c main_arg1 (ix3 (i 0) p.1 p.2) := by
  refine (dat0 V c).arrAt_eq_of_covers 1 _ (by decide +kernel) fun t hf y => ?_
  have ht : t.val < 64 := t.isLt
  have hy : (y 0).val < 1 := (y 0).isLt
  obtain ⟨e, he⟩ : ∃ e : Fin 8, e.val = t.val / 8 := ⟨⟨t.val / 8, by omega⟩, rfl⟩
  have ey : ((View.whole main_v0).slice (win0_1.rect t)).emb y 0 = e := Fin.ext (by rw [he]; blk_simp [out0])
  blk_simp
  refine (row_sup t _ k0_pay2_eq _ (fun r l => V c main_arg1 (ix3 e r l)) ((flush0_1 t).mp hf) (fun k e' z => ?_) y).trans
    (congrArg (fun e : Fin 8 => supAbs fun p : Fin 2048 × Fin 4096 => V c main_arg1 (ix3 e p.1 p.2)) ey.symm)
  have hk : k.val < 64 := k.isLt
  have h0 : (z 0).val < 1 := (z 0).isLt
  show V c main_arg1 ((win0_0.blk k).view.emb z) = V c main_arg1 _
  refine congrArg (V c main_arg1) ?_
  blk_ext [in0, out0]
  exact e'.trans he.symm

/-- The maxima of the down weights. -/
theorem amax1 (c : Dev nD) : (dat1 V c).arrAt 1 cfg1.N
    = fun i => supAbs fun p : Fin 2048 × Fin 2048 => V c main_arg3 (ix3 (i 0) p.1 p.2) := by
  refine (dat1 V c).arrAt_eq_of_covers 1 _ (by decide +kernel) fun t hf y => ?_
  have ht : t.val < 64 := t.isLt
  have hy : (y 0).val < 1 := (y 0).isLt
  obtain ⟨e, he⟩ : ∃ e : Fin 8, e.val = t.val / 8 := ⟨⟨t.val / 8, by omega⟩, rfl⟩
  have ey : ((View.whole main_v1).slice (win1_1.rect t)).emb y 0 = e := Fin.ext (by rw [he]; blk_simp [out1])
  blk_simp
  refine (row_sup t _ k1_pay2_eq _ (fun r l => V c main_arg3 (ix3 e r l)) ((flush1_1 t).mp hf) (fun k e' z => ?_) y).trans
    (congrArg (fun e : Fin 8 => supAbs fun p : Fin 2048 × Fin 2048 => V c main_arg3 (ix3 e p.1 p.2)) ey.symm)
  have hk : k.val < 64 := k.isLt
  have h0 : (z 0).val < 1 := (z 0).isLt
  show V c main_arg3 ((win1_0.blk k).view.emb z) = V c main_arg3 _
  refine congrArg (V c main_arg3) ?_
  blk_ext [in1, out1]
  exact e'.trans he.symm

/-- The maximum of the activations. -/
theorem amax2 (c : Dev nD) : (dat2 V c).arrAt 1 cfg2.N
    = fun i => supAbs fun p : Fin 2048 × Fin 2048 => V c main_v3 (ix3 0 p.1 p.2) := by
  refine (dat2 V c).arrAt_eq_of_covers 1 _ (by decide +kernel) fun t hf y => ?_
  have ht : t.val < 8 := t.isLt
  blk_simp
  refine row_sup t _ k2_pay2_eq _ (fun r l => V c main_v3 (ix3 0 r l)) ((flush2_1 t).mp hf) (fun k e z => ?_) y
  have hk : k.val < 8 := k.isLt
  have h0 : (z 0).val < 1 := (z 0).isLt
  show V c main_v3 ((win2_0.blk k).view.emb z) = V c main_v3 _
  refine congrArg (V c main_v3) ?_
  blk_ext [in2, out2]

/-- A number of a stack of matrices quantised to its block of sixteen rows. -/
def fakeAt {P : ℕ} (a : (⟨3, ![P, 2048, 2048]⟩ : Shape).Idx → E) (M : E) (e : Fin P) (r n : Fin 2048) : E :=
  fake (tensorScale M) (supAbs fun k : Fin 16 => a (ix3 e (rowOf (N := 128) r k) n)) (a (ix3 e r n))

/-- All the numbers of a stack of matrices quantised, each matrix at its largest magnitude. -/
def fakeStack {P : ℕ} (a : (⟨3, ![P, 2048, 2048]⟩ : Shape).Idx → E) (M : Fin P → E) : Vec Ideal ⟨3, ![P, 2048, 2048]⟩ .bf16 :=
  fun i => fakeAt a (M (i 0)) (i 0) (i 1) (i 2)

theorem fakeStack_at {P : ℕ} (a : (⟨3, ![P, 2048, 2048]⟩ : Shape).Idx → E) (M : Fin P → E) (e : Fin P) (r n : Fin 2048)
    (i : (⟨3, ![P, 2048, 2048]⟩ : Shape).Idx) (h0 : i 0 = e) (h1 : i 1 = r) (h2 : i 2 = n) : fakeAt a (M e) e r n = fakeStack a M i := by
  subst h0 h1 h2
  rfl

/-- A block of 256 rows quantised holds the stack's quantised numbers. -/
theorem quant_rows {P : ℕ} (a : (⟨3, ![P, 2048, 2048]⟩ : Shape).Idx → E) (M : E) (e : Fin P) (j : ℕ) (hj : j < 8)
    (v0 : Vec Ideal S1x256x2048 .f32) (v2 : Vec Ideal S1x8x128 .f32) (h2 : ∀ i, v2 i = M)
    (h0 : ∀ z, v0 z = a (ix3 e ⟨j * 256 + (z 1).val, by have : (z 1).val < 256 := (z 1).isLt; omega⟩ (z 2))) (y : S1x256x2048.Idx) :
    quant v0 v2 y = fakeAt a M e ⟨j * 256 + (y 1).val, by have : (y 1).val < 256 := (y 1).isLt; omega⟩ (y 2) := by
  have h1 : (y 1).val < 256 := (y 1).isLt
  have ey : y = ix3 (0 : Fin 1) (y 1 : Fin 256) (y 2 : Fin 2048) := by
    have := (y 0).isLt
    funext b
    fin_cases b
    · exact Fin.ext (by have : (y 0).val < 1 := (y 0).isLt; show (y 0).val = 0; omega)
    · rfl
    · rfl
  rw [ey]
  refine (quant_apply v0 v2 (y 1) (y 2)).trans ?_
  rw [pay2_const v2 M h2]
  unfold fakeAt
  refine congrArg₂ (fake (tensorScale M)) (congrArg supAbs (funext fun k => (h0 _).trans ?_)) (h0 _)
  refine congrArg a (congrArg (ix3 e · (y 2)) (Fin.ext ?_))
  show j * 256 + (16 * ((y 1).val / 16) + k.val) = 16 * ((j * 256 + (y 1).val) / 16) + k.val
  omega

attribute [local irreducible] fakeAt fakeStack quant quantX

theorem in3 : ∀ t : Fin cfg3.N, win3_0.index t = ![t.val / 8, t.val % 8, 0] := by decide +kernel
theorem am3 : ∀ t : Fin cfg3.N, win3_1.index t = ![t.val / 8, 0, 0] := by decide +kernel
theorem out3 : ∀ t : Fin cfg3.N, win3_2.index t = ![t.val / 8, t.val % 8, 0] := by decide +kernel
theorem in4 : ∀ t : Fin cfg4.N, win4_0.index t = ![t.val / 8, t.val % 8, 0] := by decide +kernel
theorem am4 : ∀ t : Fin cfg4.N, win4_1.index t = ![t.val / 8, 0, 0] := by decide +kernel
theorem out4 : ∀ t : Fin cfg4.N, win4_2.index t = ![t.val / 8, t.val % 8, 0] := by decide +kernel
theorem in5 : ∀ t : Fin cfg5.N, win5_0.index t = ![t.val / 8, t.val % 8, 0] := by decide +kernel
theorem am5 : ∀ t : Fin cfg5.N, win5_1.index t = ![t.val / 8, 0, 0] := by decide +kernel
theorem out5 : ∀ t : Fin cfg5.N, win5_2.index t = ![t.val / 8, t.val % 8, 0] := by decide +kernel
theorem in6 : ∀ t : Fin cfg6.N, win6_0.index t = ![0, t.val, 0] := by decide +kernel
theorem am6 : ∀ t : Fin cfg6.N, win6_1.index t = ![0, 0, 0] := by decide +kernel
theorem out6 : ∀ t : Fin cfg6.N, win6_2.index t = ![0, t.val, 0] := by decide +kernel

/-- The quantised gate weights. -/
theorem quantised3 (c : Dev nD) (M : Fin 8 → E) (hM : ∀ i, V c main_v0 i = M (i 0)) :
    (dat3 V c).arrAt 2 cfg3.N = fakeStack (V c main_v5) M := by
  refine (dat3 V c).arrAt_eq_of_covers 2 _ (by decide +kernel) fun t hf y => ?_
  have ht : t.val < 64 := t.isLt
  have hy : (y 0).val < 1 := (y 0).isLt
  obtain ⟨e, he⟩ : ∃ e : Fin 8, e.val = t.val / 8 := ⟨⟨t.val / 8, by omega⟩, rfl⟩
  have e0 : (win3_2.blk t).view.emb y 0 = e := Fin.ext (by rw [he]; blk_simp [out3]; try omega)
  have e1 : (win3_2.blk t).view.emb y 1
      = (⟨t.val % 8 * 256 + (y 1).val, by have : (y 1).val < 256 := (y 1).isLt; omega⟩ : Fin 2048) := Fin.ext (by blk_simp [out3]; try omega)
  have e2 : (win3_2.blk t).view.emb y 2 = (y 2 : Fin 2048) := Fin.ext (by blk_simp [out3])
  obtain ⟨b0, b2, hb0, hb2, ha⟩ := after3 V c t
  have h2 : ∀ i, b2 i = M e := fun i => by
    refine (hb2 i).trans ((hM ((win3_1.blk t).view.emb i)).trans (congrArg M (Fin.ext ?_)))
    have : (i 0).val < 1 := (i 0).isLt
    rw [he]
    blk_simp [am3]
    try omega
  have h0 : ∀ z, b0 z
      = V c main_v5 (ix3 e ⟨t.val % 8 * 256 + (z 1).val, by have : (z 1).val < 256 := (z 1).isLt; omega⟩ (z 2)) := fun z => by
    refine (hb0 z).trans (congrArg (V c main_v5) ?_)
    have h0 : (z 0).val < 1 := (z 0).isLt
    blk_ext [in3]
    all_goals first | exact he.symm | omega
  have q := quant_rows (V c main_v5) (M e) e (t.val % 8) (by omega) b0 b2 h2 h0 y
  exact (cast_eq _ _).trans ((congrFun ha y).trans ((q.trans (fakeStack_at _ _ _ _ _ ((win3_2.blk t).view.emb y) e0 e1 e2))))

/-- The quantised up weights. -/
theorem quantised4 (c : Dev nD) (M : Fin 8 → E) (hM : ∀ i, V c main_v0 i = M (i 0)) :
    (dat4 V c).arrAt 2 cfg4.N = fakeStack (V c main_v6) M := by
  refine (dat4 V c).arrAt_eq_of_covers 2 _ (by decide +kernel) fun t hf y => ?_
  have ht : t.val < 64 := t.isLt
  have hy : (y 0).val < 1 := (y 0).isLt
  obtain ⟨e, he⟩ : ∃ e : Fin 8, e.val = t.val / 8 := ⟨⟨t.val / 8, by omega⟩, rfl⟩
  have e0 : (win4_2.blk t).view.emb y 0 = e := Fin.ext (by rw [he]; blk_simp [out4]; try omega)
  have e1 : (win4_2.blk t).view.emb y 1
      = (⟨t.val % 8 * 256 + (y 1).val, by have : (y 1).val < 256 := (y 1).isLt; omega⟩ : Fin 2048) := Fin.ext (by blk_simp [out4]; try omega)
  have e2 : (win4_2.blk t).view.emb y 2 = (y 2 : Fin 2048) := Fin.ext (by blk_simp [out4])
  obtain ⟨b0, b2, hb0, hb2, ha⟩ := after4 V c t
  have h2 : ∀ i, b2 i = M e := fun i => by
    refine (hb2 i).trans ((hM ((win4_1.blk t).view.emb i)).trans (congrArg M (Fin.ext ?_)))
    have : (i 0).val < 1 := (i 0).isLt
    rw [he]
    blk_simp [am4]
    try omega
  have h0 : ∀ z, b0 z
      = V c main_v6 (ix3 e ⟨t.val % 8 * 256 + (z 1).val, by have : (z 1).val < 256 := (z 1).isLt; omega⟩ (z 2)) := fun z => by
    refine (hb0 z).trans (congrArg (V c main_v6) ?_)
    have h0 : (z 0).val < 1 := (z 0).isLt
    blk_ext [in4]
    all_goals first | exact he.symm | omega
  have q := quant_rows (V c main_v6) (M e) e (t.val % 8) (by omega) b0 b2 h2 h0 y
  exact (cast_eq _ _).trans ((congrFun ha y).trans ((q.trans (fakeStack_at _ _ _ _ _ ((win4_2.blk t).view.emb y) e0 e1 e2))))

/-- The quantised down weights. -/
theorem quantised5 (c : Dev nD) (M : Fin 8 → E) (hM : ∀ i, V c main_v1 i = M (i 0)) :
    (dat5 V c).arrAt 2 cfg5.N = fakeStack (V c main_arg3) M := by
  refine (dat5 V c).arrAt_eq_of_covers 2 _ (by decide +kernel) fun t hf y => ?_
  have ht : t.val < 64 := t.isLt
  have hy : (y 0).val < 1 := (y 0).isLt
  obtain ⟨e, he⟩ : ∃ e : Fin 8, e.val = t.val / 8 := ⟨⟨t.val / 8, by omega⟩, rfl⟩
  have e0 : (win5_2.blk t).view.emb y 0 = e := Fin.ext (by rw [he]; blk_simp [out5]; try omega)
  have e1 : (win5_2.blk t).view.emb y 1
      = (⟨t.val % 8 * 256 + (y 1).val, by have : (y 1).val < 256 := (y 1).isLt; omega⟩ : Fin 2048) := Fin.ext (by blk_simp [out5]; try omega)
  have e2 : (win5_2.blk t).view.emb y 2 = (y 2 : Fin 2048) := Fin.ext (by blk_simp [out5])
  obtain ⟨b0, b2, hb0, hb2, ha⟩ := after5 V c t
  have h2 : ∀ i, b2 i = M e := fun i => by
    refine (hb2 i).trans ((hM ((win5_1.blk t).view.emb i)).trans (congrArg M (Fin.ext ?_)))
    have : (i 0).val < 1 := (i 0).isLt
    rw [he]
    blk_simp [am5]
    try omega
  have h0 : ∀ z, b0 z
      = V c main_arg3 (ix3 e ⟨t.val % 8 * 256 + (z 1).val, by have : (z 1).val < 256 := (z 1).isLt; omega⟩ (z 2)) := fun z => by
    refine (hb0 z).trans (congrArg (V c main_arg3) ?_)
    have h0 : (z 0).val < 1 := (z 0).isLt
    blk_ext [in5]
    all_goals first | exact he.symm | omega
  have q := quant_rows (V c main_arg3) (M e) e (t.val % 8) (by omega) b0 b2 h2 h0 y
  exact (cast_eq _ _).trans ((congrFun ha y).trans ((q.trans (fakeStack_at _ _ _ _ _ ((win5_2.blk t).view.emb y) e0 e1 e2))))

/-- The quantised activations. -/
theorem quantised6 (c : Dev nD) (M : Fin 1 → E) (hM : ∀ i, V c main_v4 i = M (i 0)) :
    (dat6 V c).arrAt 2 cfg6.N = fakeStack (V c main_v10) M := by
  refine (dat6 V c).arrAt_eq_of_covers 2 _ (by decide +kernel) fun t hf y => ?_
  have ht : t.val < 8 := t.isLt
  have hy : (y 0).val < 1 := (y 0).isLt
  obtain ⟨e, he⟩ : ∃ e : Fin 1, e.val = t.val / 8 := ⟨0, by omega⟩
  have e0 : (win6_2.blk t).view.emb y 0 = e := Fin.ext (by rw [he]; blk_simp [out6]; try omega)
  have e1 : (win6_2.blk t).view.emb y 1
      = (⟨t.val % 8 * 256 + (y 1).val, by have : (y 1).val < 256 := (y 1).isLt; omega⟩ : Fin 2048) := Fin.ext (by blk_simp [out6]; show t.val * 256 + (y 1).val = t.val % 8 * 256 + (y 1).val; omega)
  have e2 : (win6_2.blk t).view.emb y 2 = (y 2 : Fin 2048) := Fin.ext (by blk_simp [out6])
  obtain ⟨b0, b2, hb0, hb2, ha⟩ := after6 V c t
  have h2 : ∀ i, b2 i = M e := fun i => by
    refine (hb2 i).trans ((hM ((win6_1.blk t).view.emb i)).trans (congrArg M (Fin.ext ?_)))
    have : (i 0).val < 1 := (i 0).isLt
    rw [he]
    blk_simp [am6]
    try omega
  have h0 : ∀ z, b0 z
      = V c main_v10 (ix3 e ⟨t.val % 8 * 256 + (z 1).val, by have : (z 1).val < 256 := (z 1).isLt; omega⟩ (z 2)) := fun z => by
    refine (hb0 z).trans (congrArg (V c main_v10) ?_)
    have h0 : (z 0).val < 1 := (z 0).isLt
    blk_ext [in6]
    all_goals first | exact he.symm | omega
  have q := quant_rows (V c main_v10) (M e) e (t.val % 8) (by omega) b0 b2 h2 h0 y
  exact (cast_eq _ _).trans ((congrFun ha y).trans ((congrFun (quantX_eq _ _) y).trans (q.trans (fakeStack_at _ _ _ _ _ ((win6_2.blk t).view.emb y) e0 e1 e2))))

end Cert.KernelIdeal.Whole

end
-- ==== Proof.Spec.lean ====
/- The quantised operands both programs multiply, of the numbers they are given. -/
module

public import proofs.«01_k».proof.Proof.KernelArrays

@[expose] public section

noncomputable section

namespace Cert.Meet

open Idealize.ShloMosaic Idealize.ShloMosaic.ValueIdx
open Cert.KernelIdeal.Whole (supAbs fakeAt)

/-- The even columns of the gate-and-up weights. -/
def gateOf (A1 : (⟨3, ![8, 2048, 4096]⟩ : Shape).Idx → E) : (⟨3, ![8, 2048, 2048]⟩ : Shape).Idx → E :=
  fun i => A1 (ix3 (i 0) (i 1) ⟨2 * (i 2).val, by have : (i 2).val < 2048 := (i 2).isLt; omega⟩)
/-- The odd columns. -/
def upOf (A1 : (⟨3, ![8, 2048, 4096]⟩ : Shape).Idx → E) : (⟨3, ![8, 2048, 2048]⟩ : Shape).Idx → E :=
  fun i => A1 (ix3 (i 0) (i 1) ⟨2 * (i 2).val + 1, by have : (i 2).val < 2048 := (i 2).isLt; omega⟩)
/-- The activations, a feature's row at a time. -/
def tokensOf (A0 : (⟨2, ![2048, 2048]⟩ : Shape).Idx → E) : (⟨3, ![1, 2048, 2048]⟩ : Shape).Idx → E :=
  fun i => A0 (ix2 (i 2) (i 1))

/-- An expert's largest gate or up weight. -/
def most1 (A1 : (⟨3, ![8, 2048, 4096]⟩ : Shape).Idx → E) (e : Fin 8) : E := supAbs fun p : Fin 2048 × Fin 4096 => A1 (ix3 e p.1 p.2)
/-- An expert's largest down weight. -/
def most3 (A3 : (⟨3, ![8, 2048, 2048]⟩ : Shape).Idx → E) (e : Fin 8) : E := supAbs fun p : Fin 2048 × Fin 2048 => A3 (ix3 e p.1 p.2)
/-- The largest activation. -/
def most0 (A0 : (⟨2, ![2048, 2048]⟩ : Shape).Idx → E) (e : Fin 1) : E := supAbs fun p : Fin 2048 × Fin 2048 => A0 (ix2 p.2 p.1)

end Cert.Meet
-- ==== Proof.Layer.lean ====
/- The expert layer both programs compute, over the extended reals. -/
module

public import proofs.«01_k».proof.Proof.Spec
public import Idealize.ShloMosaic.Lib.Pipeline.ValueKit.Acc

@[expose] public section

noncomputable section

namespace Cert.Meet

open Idealize.ShloMosaic Idealize.ShloMosaic.ValueIdx
open Cert.KernelIdeal.Whole (supAbs supAbs_le absf_nonneg fakeAt)

/-- The gated product of a gate's value and an up value. -/
def act (g u : E) : E :=
  FloatOps.mulf (FloatOps.addf (FloatOps.minimumf (lit 0x40E00000#32) (FloatOps.maximumf (lit 0xC0E00000#32) u)) (lit 0x3F800000#32))
    (FloatOps.mulf (FloatOps.minimumf g (lit 0x40E00000#32)) (FloatOps.logistic (FloatOps.mulf (FloatOps.minimumf g (lit 0x40E00000#32)) (lit 0x3FD9DB23#32))))

/-- The same, the bounds taken in the other order and the sigmoid written out. -/
def actOut (g u : E) : E :=
  FloatOps.mulf (FloatOps.addf (FloatOps.minimumf (FloatOps.maximumf u (lit 0xC0E00000#32)) (lit 0x40E00000#32)) (lit 0x3F800000#32))
    (FloatOps.mulf (FloatOps.minimumf g (lit 0x40E00000#32)) (FloatOps.hostDivf (lit 0x3F800000#32) (FloatOps.addf (lit 0x3F800000#32)
      (FloatOps.hostUnary .exp (FloatOps.hostNegf (FloatOps.mulf (FloatOps.minimumf g (lit 0x40E00000#32)) (lit 0x3FD9DB23#32)))))))

theorem lit_one : lit 0x3F800000#32 = (1 : EReal) := by
  obtain ⟨-, -, -, -, h, -⟩ := lit_vals
  exact h.trans EReal.coe_one
theorem lit_zero : lit 0x00000000#32 = (0 : EReal) := by
  obtain ⟨h, -⟩ := lit_vals
  exact h.trans EReal.coe_zero

theorem actOut_eq (g u : E) : actOut g u = act g u := by
  have e1 : FloatOps.minimumf (FloatOps.maximumf u (lit 0xC0E00000#32)) (lit 0x40E00000#32)
      = FloatOps.minimumf (lit 0x40E00000#32) (FloatOps.maximumf (lit 0xC0E00000#32) u) := by
    show min (max u (lit 0xC0E00000#32) : EReal) (lit 0x40E00000#32) = min (lit 0x40E00000#32) (max (lit 0xC0E00000#32) u)
    rw [min_comm, max_comm]
  have e2 (x : E) : FloatOps.hostDivf (lit 0x3F800000#32) (FloatOps.addf (lit 0x3F800000#32) (FloatOps.hostUnary .exp (FloatOps.hostNegf x))) = FloatOps.logistic x := by
    show Ideal.div (lit 0x3F800000#32) (lit 0x3F800000#32 + Ideal.exp (-x)) = Ideal.div 1 (1 + Ideal.exp (-x))
    rw [lit_one]
  unfold actOut act
  rw [e1, e2]

theorem lit_seven : lit 0x40E00000#32 = ((7 : ℝ) : EReal) ∧ lit 0xC0E00000#32 = ((-7 : ℝ) : EReal) ∧ lit 0x45280000#32 = ((2688 : ℝ) : EReal) := by
  refine ⟨?_, ?_, ?_⟩ <;> (show Ideal.ofBits .f32 _ = _; simp [Ideal.ofBits, Ideal.ieee, -EReal.coe_mul]; try norm_num)
theorem lit_slope : ∃ r : ℝ, 0 < r ∧ lit 0x3FD9DB23#32 = (r : EReal) := by
  refine ⟨14277411 / 8388608, by norm_num, ?_⟩
  show Ideal.ofBits .f32 _ = _
  simp [Ideal.ofBits, Ideal.ieee, -EReal.coe_mul]; try norm_num
theorem lit_eps : ∃ r : ℝ, 0 < r ∧ lit 0x2B8CBCCC#32 = (r : EReal) := by
  refine ⟨(9223372 : ℝ) / 2 ^ 63, by norm_num, ?_⟩
  show Ideal.ofBits .f32 _ = _
  simp [Ideal.ofBits, Ideal.ieee, -EReal.coe_mul]; try norm_num

theorem coe_max (a b : ℝ) : ((max a b : ℝ) : EReal) = max (a : EReal) (b : EReal) := EReal.coe_strictMono.monotone.map_max
theorem coe_min (a b : ℝ) : ((min a b : ℝ) : EReal) = min (a : EReal) (b : EReal) := EReal.coe_strictMono.monotone.map_min

theorem real_minmax {a b u : EReal} (ha : Real a) (hb : Real b) : Real (min a (max b u)) := by
  obtain ⟨x, rfl⟩ := ha; obtain ⟨y, rfl⟩ := hb
  induction u using EReal.rec with
  | bot => exact ⟨min x y, by rw [coe_min]; simp⟩
  | top => exact ⟨x, by simp⟩
  | coe r => exact ⟨min x (max y r), by rw [coe_min, coe_max]⟩

theorem act_real (g u : E) : Real (act g u) := by
  obtain ⟨h7, hm7, -⟩ := lit_seven
  obtain ⟨s, hs, hsl⟩ := lit_slope
  have hu : Real (FloatOps.addf (FloatOps.minimumf (lit 0x40E00000#32) (FloatOps.maximumf (lit 0xC0E00000#32) u)) (lit 0x3F800000#32)) :=
    Real.add (real_minmax ⟨7, h7⟩ ⟨-7, hm7⟩) ⟨1, lit_one.trans EReal.coe_one.symm⟩
  refine Real.mul hu ?_
  show Real ((min (g : EReal) (lit 0x40E00000#32)) * Ideal.logistic ((min (g : EReal) (lit 0x40E00000#32)) * lit 0x3FD9DB23#32))
  rw [h7, hsl]
  have hle : (min (g : EReal) ((7 : ℝ) : EReal)) ≤ ((7 : ℝ) : EReal) := min_le_right _ _
  generalize (min (g : EReal) ((7 : ℝ) : EReal) : EReal) = a at hle
  induction a using EReal.rec with
  | bot =>
    rw [EReal.bot_mul_coe_of_pos hs, Ideal.logistic_bot]
    exact ⟨0, by simp⟩
  | top => exact absurd hle (not_le.mpr (EReal.coe_lt_top 7))
  | coe r =>
    rw [← EReal.coe_mul, Ideal.logistic_coe, ← EReal.coe_mul]
    exact ⟨_, rfl⟩

theorem Real.neg {x : EReal} (hx : Real x) : Real (-x) := by
  obtain ⟨a, rfl⟩ := hx; exact ⟨-a, by norm_cast⟩
theorem Real.abs {x : EReal} (hx : Real x) : Real (max x (-x)) := by
  obtain ⟨a, rfl⟩ := hx; exact ⟨max a (-a), by rw [coe_max, EReal.coe_neg]⟩

theorem supAbs_real {ι : Type} [Finite ι] [Nonempty ι] (f : ι → E) (h : ∀ i, Real (f i)) : Real (supAbs f) := by
  choose r hr using fun i => Real.abs (h i)
  obtain ⟨B, hB⟩ := (Set.finite_range r).bddAbove
  have hle : supAbs f ≤ (B : EReal) := (supAbs_le f B).mpr fun i => by
    show max (f i : EReal) (-f i) ≤ B
    rw [hr i]
    exact EReal.coe_le_coe_iff.mpr (hB ⟨i, rfl⟩)
  have hge : (0 : EReal) ≤ supAbs f := (absf_nonneg (f (Classical.arbitrary ι))).trans ((supAbs_le f (supAbs f)).mp le_rfl _)
  generalize hq : (supAbs f : EReal) = q at hle hge
  induction q using EReal.rec with
  | bot => exact absurd hge (by simp)
  | top => exact absurd hle (by simp)
  | coe s => exact ⟨s, rfl⟩

theorem supAbs_nonneg {ι : Type} [Nonempty ι] (f : ι → E) : (0 : EReal) ≤ supAbs f :=
  (absf_nonneg (f (Classical.arbitrary ι))).trans ((supAbs_le f (supAbs f)).mp le_rfl _)

theorem real_div {x y : EReal} (hx : Real x) (hy : ∃ r : ℝ, r ≠ 0 ∧ y = (r : EReal)) : Real (Ideal.div x y) := by
  obtain ⟨a, rfl⟩ := hx; obtain ⟨b, hb, rfl⟩ := hy
  rw [Ideal.div, if_neg (by exact_mod_cast hb), ← EReal.coe_inv, ← EReal.coe_mul]
  exact ⟨_, rfl⟩

/-- A tensor's scale is a number other than nought. -/
theorem tensorScale_real {m : E} (hm : Real m) : ∃ r : ℝ, r ≠ 0 ∧ tensorScale m = (r : EReal) := by
  obtain ⟨a, rfl⟩ := hm
  obtain ⟨e, he, hel⟩ := lit_eps
  obtain ⟨-, -, h⟩ := lit_seven
  have hp : 0 < max a e := lt_max_of_lt_right he
  refine ⟨2688 * (max a e)⁻¹, mul_ne_zero (by norm_num) (inv_ne_zero hp.ne'), ?_⟩
  show Ideal.div (lit 0x45280000#32) (max (a : EReal) (lit 0x2B8CBCCC#32)) = _
  rw [h, hel, ← coe_max, Ideal.div, if_neg (by exact_mod_cast hp.ne'), ← EReal.coe_inv, ← EReal.coe_mul]

theorem select_real {b : BitVec 1} {x y : E} (hx : Real x) (hy : Real y) : Real (Scalar.select b x y) := by
  unfold Scalar.select
  split <;> assumption

theorem level_real (a : E) : Real (level a) := by
  obtain ⟨h0, -, h1, -, h2, -, h3, -, h4, -, h5, -, h6, -, h7⟩ := lit_vals
  unfold level
  exact select_real ⟨_, h0⟩ (select_real ⟨_, h1⟩ (select_real ⟨_, h2⟩ (select_real ⟨_, h3⟩ (select_real ⟨_, h4⟩ (select_real ⟨_, h5⟩ (select_real ⟨_, h6⟩ ⟨_, h7⟩))))))

theorem sgn_real (y : E) : Real (sgn y) := by
  have h1 : lit 0x3F800000#32 = ((1 : ℝ) : EReal) := lit_one.trans EReal.coe_one.symm
  have hm : lit 0xBF800000#32 = ((-1 : ℝ) : EReal) := by
    show Ideal.ofBits .f32 _ = _
    simp [Ideal.ofBits, Ideal.ieee, -EReal.coe_mul]; try norm_num
  unfold sgn
  by_cases h : (0 : EReal) < max (y : EReal) (-y)
  · have e : FloatOps.cmpf .ogt (FloatOps.absf y) (lit 0x00000000#32) = 1#1 := by
      rw [lit_zero]
      show BitVec.ofBool (decide ((0 : EReal) < max (y : EReal) (-y))) = 1#1
      rw [decide_eq_true h]; rfl
    rw [e]
    exact (select_real ⟨_, hm⟩ ⟨_, h1⟩ : Real (Scalar.select (FloatOps.cmpf .olt y (lit 0x00000000#32)) (lit 0xBF800000#32) (lit 0x3F800000#32)))
  · have hy : (y : EReal) = 0 := by
      rw [not_lt, max_le_iff] at h
      exact le_antisymm h.1 (EReal.neg_le_zero.mp h.2)
    refine select_real (select_real ⟨_, hm⟩ ⟨_, h1⟩) ⟨0, hy.trans EReal.coe_zero.symm⟩

theorem fake_real {gs am : E} (t : E) (hg : ∃ r : ℝ, r ≠ 0 ∧ gs = (r : EReal)) (ha : Real am) : Real (fake gs am t) := by
  obtain ⟨h0, -, -, -, h1, -, -, -, -, -, -, -, -, -, h6⟩ := lit_vals
  have hg' : Real gs := ⟨_, hg.choose_spec.2⟩
  have hraw : Real (rawScale gs am) := Real.mul (real_div ha ⟨6, by norm_num, h6⟩) hg'
  have hb : Real (blockScale (rawScale gs am)) := select_real ⟨_, h1⟩ hraw
  unfold fake
  exact select_real ⟨_, h0⟩ (real_div (Real.mul (Real.mul (level_real _) (sgn_real _)) hb) hg)

theorem fakeAt_real {P : ℕ} (a : (⟨3, ![P, 2048, 2048]⟩ : Shape).Idx → E) (M : E) (e : Fin P) (r n : Fin 2048) (hM : Real M) (ha : ∀ i, Real (a i)) :
    Real (fakeAt a M e r n) := by
  unfold fakeAt
  exact fake_real _ (tensorScale_real hM) (supAbs_real _ fun k => ha _)

/-- The layer: every expert's answer for a token, weighted and summed. -/
def layer (x : Fin 2048 → Fin 2048 → E) (wg wu wd : Fin 8 → Fin 2048 → Fin 2048 → E) (bg bu bd : Fin 8 → Fin 2048 → E) (cf : Fin 2048 → Fin 8 → E)
    (t n : Fin 2048) : E :=
  ∑ e : Fin 8, (cf t e : EReal) * (∑ j : Fin 2048, act ((∑ k : Fin 2048, x t k * wg e k j : EReal) + bg e j : EReal) ((∑ k : Fin 2048, x t k * wu e k j : EReal) + bu e j : EReal) * wd e j n + bd e n)

/-- A quarter of an expert's rows. -/
abbrev quarter (k : Fin 4) (j : Fin 512) : Fin 2048 := ⟨512 * k.val + j.val, by have := k.isLt; have := j.isLt; omega⟩

theorem quarters (f : Fin 2048 → EReal) : ∑ k : Fin 4, ∑ j : Fin 512, f (quarter k j) = ∑ j : Fin 2048, f j := by
  refine (Finset.sum_congr rfl fun k _ => Finset.sum_congr rfl fun j _ => congrArg f (Fin.ext ?_)).trans (Fin.sum_mul_add_fin 4 512 f)
  show 512 * k.val + j.val = k.val * 512 + j.val
  omega

/-- An expert's answer a quarter at a time, the bias with the first. -/
theorem by_quarters {c : EReal} (hc : Real c) (f : Fin 2048 → EReal) (hf : ∀ j, Real (f j)) (b : EReal) :
    ∑ k : Fin 4, c * (∑ j : Fin 512, f (quarter k j) + if k = 0 then b else 0) = c * (∑ j : Fin 2048, f j + b) := by
  have hq (k : Fin 4) : Real (∑ j : Fin 512, f (quarter k j)) := Real.sum _ _ fun j _ => hf _
  rw [mul_add_of_real hc _ _ (Real.sum _ _ fun j _ => hf j), ← quarters f, Fin.sum_univ_four, Fin.sum_univ_four]
  rw [mul_add_of_real hc _ _ (hq 0)]
  simp only [if_true, show (1 : Fin 4) ≠ 0 by decide, show (2 : Fin 4) ≠ 0 by decide, show (3 : Fin 4) ≠ 0 by decide, if_false, add_zero]
  rw [mul_add_of_real hc _ _ (((hq 0).add (hq 1)).add (hq 2)), mul_add_of_real hc _ _ ((hq 0).add (hq 1)), mul_add_of_real hc _ _ (hq 0)]
  generalize c * b = v
  abel

end Cert.Meet
-- ==== Proof.Routing.lean ====
/- An expert's coefficient for a token: what its routing words and weights give. -/
module

public import proofs.«01_k».proof.Proof.Layer

@[expose] public section

noncomputable section

namespace Cert.Meet

open Idealize.ShloMosaic Idealize.ShloMosaic.ValueIdx

/-- A routing word kept between nought and seven. -/
def clip (w : BitVec 32) : BitVec 32 := IntOp.minsi 7#32 (IntOp.maxsi 0#32 w)

theorem clip_cases (w : BitVec 32) : (clip w).toNat < 8 ∧ IntOp.minsi (IntOp.maxsi w 0#32) 7#32 = clip w := by
  have h7 : (7#32 : BitVec 32).toInt = 7 := by decide
  have h0 : (0#32 : BitVec 32).toInt = 0 := by decide
  have hp (x : BitVec 32) (h : 0 ≤ x.toInt) : x.toInt = x.toNat := by
    rw [BitVec.toInt_eq_toNat_cond] at h ⊢
    have := x.isLt
    split at h <;> simp_all <;> omega
  have hm : IntOp.maxsi w 0#32 = IntOp.maxsi 0#32 w := by
    simp only [IntOp.maxsi, BitVec.slt, h0, decide_eq_true_eq]
    by_cases h : w.toInt < 0
    · rw [if_pos h, if_neg (by omega)]
    · by_cases h' : 0 < w.toInt
      · rw [if_pos h', if_neg h]
      · rw [if_neg h', if_neg h]
        have : w.toInt = 0 := by omega
        exact (BitVec.toInt_inj.mp (this.trans h0.symm)).symm
  rw [hm]
  unfold clip
  have hn : 0 ≤ (IntOp.maxsi 0#32 w).toInt := by
    simp only [IntOp.maxsi, BitVec.slt, h0, decide_eq_true_eq]
    split <;> omega
  generalize IntOp.maxsi 0#32 w = y at hn
  simp only [IntOp.minsi, BitVec.slt, h7, decide_eq_true_eq]
  have hy := hp y hn
  by_cases h : 7 < y.toInt
  · rw [if_pos h, if_neg (by omega)]
    exact ⟨by decide, rfl⟩
  · rw [if_neg h]
    refine ⟨by omega, ?_⟩
    by_cases h' : y.toInt < 7
    · rw [if_pos h']
    · rw [if_neg h']
      exact (BitVec.toInt_inj.mp ((by omega : y.toInt = 7).trans h7.symm)).symm

/-- The expert a routing word names. -/
def col (w : BitVec 32) : Fin 8 := ⟨(clip w).toNat, (clip_cases w).1⟩

/-- What a word gives an expert. -/
def slot (w : BitVec 32) (rw : Fin 8 → E) (e : Fin 8) : E := if col w = e ∧ w.toInt < 8 then rw e else (0 : EReal)

/-- An expert's coefficient for a token of two words. -/
def coef (w0 w1 : BitVec 32) (rw : Fin 8 → E) (e : Fin 8) : E := (slot w0 rw e + slot w1 rw e : EReal)

theorem slot_real (w : BitVec 32) (rw : Fin 8 → E) (e : Fin 8) (h : ∀ k, Real (rw k)) : Real (slot w rw e) := by
  unfold slot
  split
  · exact h e
  · exact ⟨0, EReal.coe_zero.symm⟩

theorem coef_real (w0 w1 : BitVec 32) (rw : Fin 8 → E) (e : Fin 8) (h : ∀ k, Real (rw k)) : Real (coef w0 w1 rw e) :=
  Real.add (slot_real w0 rw e h) (slot_real w1 rw e h)

theorem clip_eq (w : BitVec 32) : clip w = BitVec.ofNat 32 (col w).val := by
  simp [col]

theorem clip_eq_iff (w : BitVec 32) (e : Fin 8) : clip w = BitVec.ofNat 32 e.val ↔ col w = e := by
  have := e.isLt
  have := (col w).isLt
  rw [clip_eq]
  constructor
  · intro h
    have h' := congrArg BitVec.toNat h
    simp only [BitVec.toNat_ofNat] at h'
    exact Fin.ext (by omega)
  · intro h; rw [h]

/-- One word's term, the weight picked by a sum over the experts. -/
theorem picked (w : BitVec 32) (rw : Fin 8 → E) (e : Fin 8) :
    Scalar.select (IntOp.andi (IntOp.cmpi .eq (clip w) (BitVec.ofNat 32 e.val)) (IntOp.cmpi .slt w 8#32))
      (∑ k : Fin 8, FloatOps.mulf (rw k) (FloatOps.sitofp .f32 ((IntOp.cmpi .eq (clip w) (BitVec.ofNat 32 k.val)).setWidth 32)) : EReal) (lit 0x00000000#32) = slot w rw e := by
  have hs (k : Fin 8) : FloatOps.mulf (rw k) (FloatOps.sitofp .f32 ((IntOp.cmpi .eq (clip w) (BitVec.ofNat 32 k.val)).setWidth 32)) = (if k = col w then rw k else 0 : EReal) := by
    by_cases h : col w = k
    · rw [(clip_eq_iff w k).mpr h, if_pos h.symm]
      have : (IntOp.cmpi .eq (BitVec.ofNat 32 k.val) (BitVec.ofNat 32 k.val)) = 1#1 := by simp [IntOp.cmpi]
      rw [this]
      show (rw k : EReal) * (((((1#1 : BitVec 1).setWidth 32).toInt : ℤ) : ℝ) : EReal) = rw k
      have : ((1#1 : BitVec 1).setWidth 32).toInt = 1 := by decide
      rw [this]; simp
    · have hc : ¬ clip w = BitVec.ofNat 32 k.val := fun hh => h ((clip_eq_iff w k).mp hh)
      rw [if_neg (fun hh => h hh.symm)]
      have : (IntOp.cmpi .eq (clip w) (BitVec.ofNat 32 k.val)) = 0#1 := by
        simp [IntOp.cmpi, beq_eq_false_iff_ne.mpr hc]
      rw [this]
      show (rw k : EReal) * (((((0#1 : BitVec 1).setWidth 32).toInt : ℤ) : ℝ) : EReal) = 0
      have : ((0#1 : BitVec 1).setWidth 32).toInt = 0 := by decide
      rw [this]; simp
  have hsum : (∑ k : Fin 8, FloatOps.mulf (rw k) (FloatOps.sitofp .f32 ((IntOp.cmpi .eq (clip w) (BitVec.ofNat 32 k.val)).setWidth 32)) : EReal) = rw (col w) := by
    rw [Finset.sum_congr rfl fun k _ => hs k, Finset.sum_ite_eq']
    simp
  rw [hsum, lit_zero]
  have h8 : (8#32 : BitVec 32).toInt = 8 := by decide
  unfold slot Scalar.select
  by_cases h : col w = e
  · have e1 : IntOp.cmpi .eq (clip w) (BitVec.ofNat 32 e.val) = 1#1 := by simp [IntOp.cmpi, (clip_eq_iff w e).mpr h]
    by_cases h2 : w.toInt < 8
    · have e2 : IntOp.cmpi .slt w 8#32 = 1#1 := by simp [IntOp.cmpi, BitVec.slt, h8, h2]
      rw [e1, e2, if_pos (by decide), if_pos ⟨h, h2⟩, h]
    · have e2 : IntOp.cmpi .slt w 8#32 = 0#1 := by simp [IntOp.cmpi, BitVec.slt, h8, h2]
      rw [e1, e2, if_neg (by decide), if_neg (fun hh => h2 hh.2)]
  · have hc : ¬ clip w = BitVec.ofNat 32 e.val := fun hh => h ((clip_eq_iff w e).mp hh)
    have e1 : IntOp.cmpi .eq (clip w) (BitVec.ofNat 32 e.val) = 0#1 := by simp [IntOp.cmpi, beq_eq_false_iff_ne.mpr hc]
    rw [e1, if_neg (by simp [IntOp.andi]), if_neg (fun hh => h hh.1)]

end Cert.Meet
-- ==== Proof.Answer.lean ====
/- The layer as a function of the seven arguments. -/
module

public import proofs.«01_k».proof.Proof.Layer
public import proofs.«01_k».proof.Proof.Routing

@[expose] public section

noncomputable section

namespace Cert.Meet

open Idealize.ShloMosaic Idealize.ShloMosaic.ValueIdx
open Cert.KernelIdeal.Whole (fakeAt)

variable (a0 : (⟨2, ![2048, 2048]⟩ : Shape).Idx → EReal) (a1 : (⟨3, ![8, 2048, 4096]⟩ : Shape).Idx → EReal) (a2 : (⟨2, ![8, 4096]⟩ : Shape).Idx → EReal)
  (a3 : (⟨3, ![8, 2048, 2048]⟩ : Shape).Idx → EReal) (a4 : (⟨2, ![8, 2048]⟩ : Shape).Idx → EReal) (a5 : (⟨2, ![2048, 2]⟩ : Shape).Idx → BitVec 32)
  (a6 : (⟨2, ![2048, 8]⟩ : Shape).Idx → EReal)

/-- The quantised tokens and weights, the biases and the routing. -/
abbrev tokens (t k : Fin 2048) : EReal := fakeAt (tokensOf a0) (most0 a0 0) 0 k t
abbrev gates (e : Fin 8) (k j : Fin 2048) : EReal := fakeAt (gateOf a1) (most1 a1 e) e k j
abbrev ups (e : Fin 8) (k j : Fin 2048) : EReal := fakeAt (upOf a1) (most1 a1 e) e k j
abbrev downs (e : Fin 8) (j n : Fin 2048) : EReal := fakeAt a3 (most3 a3 e) e j n
abbrev gateBias (e : Fin 8) (j : Fin 2048) : EReal := a2 (ix2 e ⟨2 * j.val, by have := j.isLt; omega⟩)
abbrev upBias (e : Fin 8) (j : Fin 2048) : EReal := a2 (ix2 e ⟨2 * j.val + 1, by have := j.isLt; omega⟩)
abbrev downBias (e : Fin 8) (n : Fin 2048) : EReal := a4 (ix2 e n)
abbrev route (t : Fin 2048) (e : Fin 8) : EReal := coef (a5 (ix2 t 0)) (a5 (ix2 t 1)) (fun k => a6 (ix2 t k)) e

/-- The answer. -/
def answer (i : (⟨2, ![2048, 2048]⟩ : Shape).Idx) : EReal :=
  layer (tokens a0) (gates a1) (ups a1) (downs a3) (gateBias a2) (upBias a2) (downBias a4) (route a5 a6) (i 0) (i 1)

variable {a0 a1 a2 a3 a4 a5 a6} in
theorem answer_congr {b0 : (⟨2, ![2048, 2048]⟩ : Shape).Idx → EReal} {b1 : (⟨3, ![8, 2048, 4096]⟩ : Shape).Idx → EReal} {b2 : (⟨2, ![8, 4096]⟩ : Shape).Idx → EReal}
    {b3 : (⟨3, ![8, 2048, 2048]⟩ : Shape).Idx → EReal} {b4 : (⟨2, ![8, 2048]⟩ : Shape).Idx → EReal} {b5 : (⟨2, ![2048, 2]⟩ : Shape).Idx → BitVec 32}
    {b6 : (⟨2, ![2048, 8]⟩ : Shape).Idx → EReal} (h0 : a0 = b0) (h1 : a1 = b1) (h2 : a2 = b2) (h3 : a3 = b3) (h4 : a4 = b4) (h5 : a5 = b5) (h6 : a6 = b6) :
    answer a0 a1 a2 a3 a4 a5 a6 = answer b0 b1 b2 b3 b4 b5 b6 := by
  subst h0 h1 h2 h3 h4 h5 h6
  rfl

theorem downs_real (h : ∀ i, Real (a3 i)) (e : Fin 8) (j n : Fin 2048) : Real (downs a3 e j n) :=
  fakeAt_real a3 _ e j n (supAbs_real _ fun p => h _) h

theorem route_real (h : ∀ i, Real (a6 i)) (t : Fin 2048) (e : Fin 8) : Real (route a5 a6 t e) := coef_real _ _ _ e fun k => h _

end Cert.Meet
-- ==== Proof.MoePoint.lean ====
/- What one grid point of the kernel's expert product adds, element by element. -/
module

public import proofs.«01_k».proof.Proof.Routing
public import proofs.«01_k».proof.Proof.IdealMoe
public import Idealize.ShloMosaic.Lib.MatmulPlain

@[expose] public section

set_option maxRecDepth 16384

noncomputable section

namespace Cert.KernelIdeal.Whole

open Cert.KernelIdeal Cert.KernelIdeal.Gen Idealize.ShloMosaic Idealize.ShloMosaic.ValueIdx Idealize.ShloMosaic.TcCoe Cert.Meet

/-- A product into an accumulator of noughts. -/
theorem product_at {M K N : ℕ} {φ₁ φ₂ : FTy} (lhs : FVec Ideal ⟨2, ![M, K]⟩ φ₁) (rhs : FVec Ideal ⟨2, ![K, N]⟩ φ₂) (r : Fin M) (n : Fin N) :
    FloatOps.matmul (DotDims.plain M K N) none lhs rhs (constant (F := Ideal) ⟨2, ![M, N]⟩ .f32 0x00000000#32) (ix2 r n) = ∑ k : Fin K, (lhs (ix2 r k) : EReal) * rhs (ix2 k n) := by
  rw [Ideal.matmul_plain_apply]
  exact (congrArg (· + _) lit_zero).trans (zero_add _)

/-- A block's leading axis of one dropped. -/
theorem dropOne_at {α : Type} {M N : ℕ} (x : (⟨3, ![1, M, N]⟩ : Shape).Idx → α) (h : (⟨3, ![1, M, N]⟩ : Shape).ShapeCasts ⟨2, ![M, N]⟩) (r : Fin M) (n : Fin N) :
    shapeCast ⟨2, ![M, N]⟩ x h (ix2 r n) = x (ix3 0 r n) :=
  shapeCast_apply x h (ix2 r n) (ix3 0 r n) (by
    rewrite [Shape.rowMajor_val_three, Shape.rowMajor_val_two]
    show (0 * M + r.val) * N + n.val = r.val * N + n.val
    rw [Nat.zero_mul, Nat.zero_add])

/-- A row broadcast down the block. -/
theorem row_at {α : Type} {M N : ℕ} (hN : N ≠ 1) (x : (⟨2, ![1, N]⟩ : Shape).Idx → α) (h : (⟨2, ![1, N]⟩ : Shape).Broadcasts ⟨2, ![M, N]⟩) (r : Fin M) (n : Fin N) :
    broadcastTo ⟨2, ![M, N]⟩ x h (ix2 r n) = x (ix2 0 n) :=
  broadcastTo_apply x h (ix2 r n) (ix2 0 n) (fun a => by
    fin_cases a
    · rfl
    · exact (if_neg hN).symm)

/-- A column broadcast along the block. -/
theorem col_at {α : Type} {M N : ℕ} (hM : M ≠ 1) (x : (⟨2, ![M, 1]⟩ : Shape).Idx → α) (h : (⟨2, ![M, 1]⟩ : Shape).Broadcasts ⟨2, ![M, N]⟩) (r : Fin M) (n : Fin N) :
    broadcastTo ⟨2, ![M, N]⟩ x h (ix2 r n) = x (ix2 r 0) :=
  broadcastTo_apply x h (ix2 r n) (ix2 r 0) (fun a => by
    fin_cases a
    · exact (if_neg hM).symm
    · rfl)

theorem pay4_at (v0 : Vec Ideal S256x2048 .bf16) (v2 : Vec Ideal S1x2048x512 .bf16) (v5 : Vec Ideal S1x1x512 .f32) (v9 : Vec Ideal S1x2048x512 .bf16) (v12 : Vec Ideal S1x1x512 .f32)
    (r : Fin 256) (j : Fin 512) : k7_pay4 v0 v2 v5 v9 v12 (ix2 r j)
      = act (((∑ k : Fin 2048, (v0 (ix2 r k) : EReal) * v2 (ix3 0 k j)) + v5 (ix3 0 0 j) : EReal)) (((∑ k : Fin 2048, (v0 (ix2 r k) : EReal) * v9 (ix3 0 k j)) + v12 (ix3 0 0 j) : EReal)) := by
  have hs (v : Vec Ideal S1x2048x512 .bf16) : FloatOps.matmul (DotDims.plain 256 2048 512) none (shapeCast S256x2048 v0 shapeCasts_S256x2048_S256x2048 : FVec Ideal S256x2048 .bf16) (shapeCast S2048x512 v shapeCasts_S1x2048x512_S2048x512 : FVec Ideal S2048x512 .bf16)
      (constant (F := Ideal) S256x512 .f32 0x00000000#32) (ix2 r j) = ∑ k : Fin 2048, (v0 (ix2 r k) : EReal) * v (ix3 0 k j) := by
    refine (product_at _ _ r j).trans (Finset.sum_congr rfl fun k _ => ?_)
    rw [shapeCast_self]
    exact congrArg (fun z : EReal => (v0 (ix2 r k) : EReal) * z) (dropOne_at v shapeCasts_S1x2048x512_S2048x512 k j)
  have hb (v : Vec Ideal S1x1x512 .f32) : broadcastTo S256x512 (shapeCast S1x512 v shapeCasts_S1x1x512_S1x512) broadcasts_S1x512_S256x512 (ix2 r j) = v (ix3 0 0 j) :=
    (row_at (by decide) _ broadcasts_S1x512_S256x512 r j).trans (dropOne_at v shapeCasts_S1x1x512_S1x512 0 j)
  have h : k7_pay4 v0 v2 v5 v9 v12 (ix2 r j)
      = act (FloatOps.addf (FloatOps.matmul (DotDims.plain 256 2048 512) none (shapeCast S256x2048 v0 shapeCasts_S256x2048_S256x2048 : FVec Ideal S256x2048 .bf16) (shapeCast S2048x512 v2 shapeCasts_S1x2048x512_S2048x512 : FVec Ideal S2048x512 .bf16)
            (constant (F := Ideal) S256x512 .f32 0x00000000#32) (ix2 r j)) (broadcastTo S256x512 (shapeCast S1x512 v5 shapeCasts_S1x1x512_S1x512) broadcasts_S1x512_S256x512 (ix2 r j)))
          (FloatOps.addf (FloatOps.matmul (DotDims.plain 256 2048 512) none (shapeCast S256x2048 v0 shapeCasts_S256x2048_S256x2048 : FVec Ideal S256x2048 .bf16) (shapeCast S2048x512 v9 shapeCasts_S1x2048x512_S2048x512 : FVec Ideal S2048x512 .bf16)
            (constant (F := Ideal) S256x512 .f32 0x00000000#32) (ix2 r j)) (broadcastTo S256x512 (shapeCast S1x512 v12 shapeCasts_S1x1x512_S1x512) broadcasts_S1x512_S256x512 (ix2 r j))) := rfl
  rw [h, hs, hs, hb, hb]
  rfl

theorem pay6_at (a : BitVec 32) (v29 : Vec Ideal S256x512 .bf16) (v30 : Vec Ideal S1x512x2048 .bf16) (v34 : Vec Ideal S1x1x2048 .f32) (r : Fin 256) (n : Fin 2048) :
    k7_pay6 a v29 (k7_pay5 v30) (constant (F := Ideal) S256x2048 .f32 0x00000000#32) v34 (ix2 r n)
      = ((∑ j : Fin 512, (v29 (ix2 r j) : EReal) * v30 (ix3 0 j n)) + (if a = 0#32 then v34 (ix3 0 0 n) else (0 : EReal)) : EReal) := by
  have hs : FloatOps.matmul (φ₁ := .bf16) (φ₂ := .bf16) (DotDims.plain 256 512 2048) none v29 (k7_pay5 v30) (constant (F := Ideal) S256x2048 .f32 0x00000000#32) (ix2 r n) = ∑ j : Fin 512, (v29 (ix2 r j) : EReal) * v30 (ix3 0 j n) :=
    (product_at (M := 256) (K := 512) (N := 2048) v29 (k7_pay5 v30) r n).trans (Finset.sum_congr rfl fun k _ =>
      congrArg (fun z : EReal => (v29 (ix2 r k) : EReal) * z) (dropOne_at v30 shapeCasts_S1x512x2048_S512x2048 k n))
  have hb : broadcastTo S256x2048 (shapeCast S1x2048 v34 shapeCasts_S1x1x2048_S1x2048) broadcasts_S1x2048_S256x2048 (ix2 r n) = v34 (ix3 0 0 n) :=
    (row_at (by decide) _ broadcasts_S1x2048_S256x2048 r n).trans (dropOne_at v34 shapeCasts_S1x1x2048_S1x2048 0 n)
  by_cases h : a = 0#32
  · have h1 : k7_pay6 a v29 (k7_pay5 v30) (constant (F := Ideal) S256x2048 .f32 0x00000000#32) v34 (ix2 r n)
        = FloatOps.addf (FloatOps.matmul (φ₁ := .bf16) (φ₂ := .bf16) (DotDims.plain 256 512 2048) none v29 (k7_pay5 v30) (constant (F := Ideal) S256x2048 .f32 0x00000000#32) (ix2 r n))
            (broadcastTo S256x2048 (shapeCast S1x2048 v34 shapeCasts_S1x1x2048_S1x2048) broadcasts_S1x2048_S256x2048 (ix2 r n)) := by
      subst h; rfl
    rw [h1, hs, hb, if_pos h]; rfl
  · have h1 : k7_pay6 a v29 (k7_pay5 v30) (constant (F := Ideal) S256x2048 .f32 0x00000000#32) v34
        = (FloatOps.matmul (φ₁ := .bf16) (φ₂ := .bf16) (DotDims.plain 256 512 2048) none v29 (k7_pay5 v30) (constant (F := Ideal) S256x2048 .f32 0x00000000#32)) := by
      unfold k7_pay6
      have hc : Scalar.cmpi .eq a 0#32 = 0#1 := by simp [Scalar.cmpi, IntOp.cmpi, beq_eq_false_iff_ne.mpr h]
      dsimp only
      rw [hc]
      exact if_neg (by decide)
    rw [h1, hs, if_neg h, add_zero]

/-- The sum over the experts' axis. -/
theorem lanes_at (x : FVec Ideal S256x8 .f32) (r : Fin 256) :
    shapeCast S256x1 (multiReduction .add [1] S256 x 0x00000000#32 reduces_S256x8_S256 (.inl rfl) rfl : FVec Ideal S256 .f32) shapeCasts_S256_S256x1 (ix2 r 0) = ∑ k : Fin 8, (x (ix2 r k) : EReal) := by
  refine (shapeCast_apply _ shapeCasts_S256_S256x1 (ix2 r 0) (ix1 r) (by
    rewrite [Shape.rowMajor_val_one, Shape.rowMajor_val_two]
    show r.val = r.val * 1 + 0
    omega)).trans ?_
  refine (Ideal.multiReduction_add_single x 0x00000000#32 reduces_S256x8_S256 (.inl rfl) rfl (ix1 r)).trans ?_
  refine Finset.sum_congr rfl fun k _ => congrArg x ?_
  funext a; fin_cases a <;> rfl

theorem word_at (v : Vec Ideal S256x2 .i32) (r : Fin 256) : extractStridedSlice S256x1 ![0, 0] v slices_S256x2_o0_0_S256x1 (ix2 r 0) = v (ix2 r 0)
    ∧ extractStridedSlice S256x1 ![0, 1] v slices_S256x2_o0_1_S256x1 (ix2 r 0) = v (ix2 r 1) :=
  ⟨extractStridedSlice_apply _ v _ (ix2 r 0) (ix2 r 0) (fun a => by fin_cases a <;> simp), extractStridedSlice_apply _ v _ (ix2 r 0) (ix2 r 1) (fun a => by fin_cases a <;> simp)⟩

/-- A weight where its expert is the one a word names, nought elsewhere. -/
theorem masked_at (c : IVec S256x1 32) (v40 : FVec Ideal S256x8 .f32) (r : Fin 256) (k : Fin 8) :
    mulf v40 (sitofp .f32 (extui 32 (cmpi .eq (broadcastTo S256x8 c broadcasts_S256x1_S256x8) (iota .tc S256x8 32 [1] iota_S256x8_d1_w32)) natLt_1_32)) (ix2 r k)
      = FloatOps.mulf (v40 (ix2 r k)) (FloatOps.sitofp .f32 ((IntOp.cmpi .eq (c (ix2 r 0)) (BitVec.ofNat 32 k.val)).setWidth 32)) := by
  have h1 := col_at (by decide) c broadcasts_S256x1_S256x8 r k
  have h2 : iota .tc S256x8 32 [1] iota_S256x8_d1_w32 (ix2 r k) = BitVec.ofNat 32 k.val := by
    show BitVec.ofNat 32 (0 * 8 + k.val) = _
    rw [Nat.zero_mul, Nat.zero_add]
  show FloatOps.mulf (v40 (ix2 r k)) (FloatOps.sitofp .f32 ((IntOp.cmpi .eq (broadcastTo S256x8 c broadcasts_S256x1_S256x8 (ix2 r k)) (iota .tc S256x8 32 [1] iota_S256x8_d1_w32 (ix2 r k))).setWidth 32)) = _
  rw [h2]
  exact congrArg (fun z => FloatOps.mulf (v40 (ix2 r k)) (FloatOps.sitofp .f32 ((IntOp.cmpi .eq z (BitVec.ofNat 32 k.val)).setWidth 32))) h1

theorem pay10_at (v : Vec Ideal S256x2 .i32) (r : Fin 256) : k7_pay10 v (ix2 r 0) = clip (v (ix2 r 1)) := by
  show IntOp.minsi 7#32 (IntOp.maxsi 0#32 (extractStridedSlice S256x1 ![0, 1] v slices_S256x2_o0_1_S256x1 (ix2 r 0))) = _
  rw [(word_at v r).2]; rfl

theorem pay7_at (e : Fin 8) (v39 : Vec Ideal S256x2 .i32) (v40 : Vec Ideal S256x8 .f32) (r : Fin 256) :
    k7_pay7 (BitVec.ofNat 32 e.val) v39 v40 (ix2 r 0) = slot (v39 (ix2 r 0)) (fun k => v40 (ix2 r k)) e := by
  rw [← picked]
  have hz (x : EReal) : FloatOps.addf (F := Ideal) (φ := .f32) (lit 0x00000000#32) x = x := (congrArg (· + x) lit_zero).trans (zero_add x)
  have hc : minsi (broadcast S256x1 7#32) (maxsi (broadcast S256x1 0#32) (extractStridedSlice S256x1 ![0, 0] v39 slices_S256x2_o0_0_S256x1)) (ix2 r 0) = clip (v39 (ix2 r 0)) := by
    show IntOp.minsi 7#32 (IntOp.maxsi 0#32 (extractStridedSlice S256x1 ![0, 0] v39 slices_S256x2_o0_0_S256x1 (ix2 r 0))) = _
    rw [(word_at v39 r).1]; rfl
  have h : k7_pay7 (BitVec.ofNat 32 e.val) v39 v40 (ix2 r 0)
      = FloatOps.addf (F := Ideal) (φ := .f32) (lit 0x00000000#32) (Scalar.select (IntOp.andi (IntOp.cmpi .eq (minsi (broadcast S256x1 7#32) (maxsi (broadcast S256x1 0#32) (extractStridedSlice S256x1 ![0, 0] v39 slices_S256x2_o0_0_S256x1)) (ix2 r 0)) (BitVec.ofNat 32 e.val))
          (IntOp.cmpi .slt (extractStridedSlice S256x1 ![0, 0] v39 slices_S256x2_o0_0_S256x1 (ix2 r 0)) 8#32))
        (shapeCast S256x1 (multiReduction .add [1] S256 (mulf v40 (sitofp .f32 (extui 32 (cmpi .eq (broadcastTo S256x8 (minsi (broadcast S256x1 7#32) (maxsi (broadcast S256x1 0#32) (extractStridedSlice S256x1 ![0, 0] v39 slices_S256x2_o0_0_S256x1)))
          broadcasts_S256x1_S256x8) (iota .tc S256x8 32 [1] iota_S256x8_d1_w32)) natLt_1_32))) 0x00000000#32 reduces_S256x8_S256 (.inl rfl) rfl : FVec Ideal S256 .f32) shapeCasts_S256_S256x1 (ix2 r 0)) (lit 0x00000000#32)) := rfl
  refine h.trans ((hz _).trans ?_)
  rw [(word_at v39 r).1]
  generalize minsi (broadcast S256x1 7#32) (maxsi (broadcast S256x1 0#32) (extractStridedSlice S256x1 ![0, 0] v39 slices_S256x2_o0_0_S256x1)) = cl at hc ⊢
  rw [hc]
  refine congrArg (fun z : E => Scalar.select _ z (lit 0x00000000#32)) ((lanes_at _ r).trans (Finset.sum_congr rfl fun k _ => ?_))
  exact (masked_at cl v40 r k).trans (by rw [hc])

/-- What a point adds. -/
theorem pay1_at (e : Fin 8) (v38 : Vec Ideal S256x2048 .f32) (v39 : Vec Ideal S256x2 .i32) (v40 : Vec Ideal S256x8 .f32) (r : Fin 256) (n : Fin 2048) :
    k7_pay1 (BitVec.ofNat 32 e.val) v38 (k7_pay7 (BitVec.ofNat 32 e.val) v39 v40) (k7_pay9 v39) (k7_pay10 v39) (k7_pay11 v39 v40) (ix2 r n)
      = (coef (v39 (ix2 r 0)) (v39 (ix2 r 1)) (fun k => v40 (ix2 r k)) e * v38 (ix2 r n) : EReal) := by
  have h2 : Scalar.select (IntOp.andi (IntOp.cmpi .eq (k7_pay10 v39 (ix2 r 0)) (BitVec.ofNat 32 e.val)) (k7_pay9 v39 (ix2 r 0)))
      (shapeCast S256x1 (multiReduction .add [1] S256 (k7_pay11 v39 v40) 0x00000000#32 reduces_S256x8_S256 (.inl rfl) rfl : FVec Ideal S256 .f32) shapeCasts_S256_S256x1 (ix2 r 0)) (lit 0x00000000#32)
      = slot (v39 (ix2 r 1)) (fun k => v40 (ix2 r k)) e := by
    rw [← picked]
    have h9 : k7_pay9 v39 (ix2 r 0) = IntOp.cmpi .slt (v39 (ix2 r 1)) 8#32 := by
      show IntOp.cmpi .slt (extractStridedSlice S256x1 ![0, 1] v39 slices_S256x2_o0_1_S256x1 (ix2 r 0)) 8#32 = _
      rw [(word_at v39 r).2]
    rw [h9, pay10_at]
    refine congrArg (fun z : E => Scalar.select _ z (lit 0x00000000#32)) ((lanes_at _ r).trans (Finset.sum_congr rfl fun k _ => ?_))
    exact (masked_at (k7_pay10 v39) v40 r k).trans (by rw [pay10_at])
  have h : k7_pay1 (BitVec.ofNat 32 e.val) v38 (k7_pay7 (BitVec.ofNat 32 e.val) v39 v40) (k7_pay9 v39) (k7_pay10 v39) (k7_pay11 v39 v40) (ix2 r n)
      = FloatOps.mulf (broadcastTo S256x2048 (addf (k7_pay7 (BitVec.ofNat 32 e.val) v39 v40) (select (andi (cmpi .eq (k7_pay10 v39) (broadcast S256x1 (BitVec.ofNat 32 e.val))) (k7_pay9 v39))
          (shapeCast S256x1 (multiReduction .add [1] S256 (k7_pay11 v39 v40) 0x00000000#32 reduces_S256x8_S256 (.inl rfl) rfl : FVec Ideal S256 .f32) shapeCasts_S256_S256x1) (broadcast S256x1 (lit 0x00000000#32))))
          broadcasts_S256x1_S256x2048 (ix2 r n)) (v38 (ix2 r n)) := rfl
  rw [h]
  refine congrArg (fun z : EReal => z * v38 (ix2 r n)) ((col_at (by decide) _ broadcasts_S256x1_S256x2048 r n).trans ?_)
  refine (congrArg₂ (fun a b : EReal => a + b) (pay7_at e v39 v40 r) h2)

end Cert.KernelIdeal.Whole
-- ==== Proof.MoeReads.lean ====
/- What the blocks of the expert product hold at each grid point, and what a point adds to the running sum. -/
module

public import proofs.«01_k».proof.Proof.MoePoint
public import proofs.«01_k».proof.Proof.Layer

@[expose] public section

set_option maxRecDepth 16384

noncomputable section

namespace Cert.KernelIdeal.Whole

open Cert.KernelIdeal Cert.KernelIdeal.Gen Idealize.ShloMosaic Idealize.ShloMosaic.ValueIdx Idealize.ShloMosaic.TcCoe Cert.Meet Cert.Whole

variable {F : FTy → Type} [FloatOps F] (V : (c : Dev nD) → (b : Ref sig .tc) → Buf (Elt F) ((c : Thread nD τ).loc b))

theorem in7_0 : ∀ t : Fin cfg7.N, win7_0.index t = ![t.val % 8, 0] := by decide +kernel
theorem in7_1 : ∀ t : Fin cfg7.N, win7_1.index t = ![t.val / 32, 0, t.val / 8 % 4] := by decide +kernel
theorem in7_2 : ∀ t : Fin cfg7.N, win7_2.index t = ![t.val / 32, 0, t.val / 8 % 4] := by decide +kernel
theorem in7_3 : ∀ t : Fin cfg7.N, win7_3.index t = ![t.val / 32, t.val / 8 % 4, 0] := by decide +kernel
theorem in7_4 : ∀ t : Fin cfg7.N, win7_4.index t = ![t.val / 32, 0, t.val / 8 % 4] := by decide +kernel
theorem in7_5 : ∀ t : Fin cfg7.N, win7_5.index t = ![t.val / 32, 0, t.val / 8 % 4] := by decide +kernel
theorem in7_6 : ∀ t : Fin cfg7.N, win7_6.index t = ![t.val / 32, 0, 0] := by decide +kernel
theorem in7_7 : ∀ t : Fin cfg7.N, win7_7.index t = ![t.val % 8, 0] := by decide +kernel
theorem in7_8 : ∀ t : Fin cfg7.N, win7_8.index t = ![t.val % 8, 0] := by decide +kernel
theorem out7 : ∀ t : Fin cfg7.N, win7_9.index t = ![t.val % 8, 0] := by decide +kernel

/-- The expert, the quarter of its units and the token of a row at a point. -/
def expertOf (t : Fin cfg7.N) : Fin 8 := ⟨t.val / 32, by have h : t.val < 256 := t.isLt; omega⟩
def quarterOf (t : Fin cfg7.N) : Fin 4 := ⟨t.val / 8 % 4, by omega⟩
def tokenOf (t : Fin cfg7.N) (r : Fin 256) : Fin 2048 := ⟨256 * (t.val % 8) + r.val, by omega⟩

theorem emb7_0 (t : Fin cfg7.N) (r : Fin 256) (k : Fin 2048) : (win7_0.blk t).view.emb (ix2 r k) = ix2 (tokenOf t r) k := by
  blk_ext [in7_0, tokenOf]
  show _ + r.val = _
  omega
theorem emb7_1 (t : Fin cfg7.N) (k : Fin 2048) (j : Fin 512) : (win7_1.blk t).view.emb (ix3 0 k j) = ix3 (expertOf t) k (quarter (quarterOf t) j) := by
  blk_ext [in7_1, expertOf, quarterOf, quarter]
  show _ + j.val = _
  omega
theorem emb7_2 (t : Fin cfg7.N) (k : Fin 2048) (j : Fin 512) : (win7_2.blk t).view.emb (ix3 0 k j) = ix3 (expertOf t) k (quarter (quarterOf t) j) := by
  blk_ext [in7_2, expertOf, quarterOf, quarter]
  show _ + j.val = _
  omega
theorem emb7_3 (t : Fin cfg7.N) (j : Fin 512) (n : Fin 2048) : (win7_3.blk t).view.emb (ix3 0 j n) = ix3 (expertOf t) (quarter (quarterOf t) j) n := by
  blk_ext [in7_3, expertOf, quarterOf, quarter]
  show _ + j.val = _
  omega
theorem emb7_4 (t : Fin cfg7.N) (j : Fin 512) : (win7_4.blk t).view.emb (ix3 0 0 j) = ix3 (expertOf t) 0 (quarter (quarterOf t) j) := by
  blk_ext [in7_4, expertOf, quarterOf, quarter]
  show _ + j.val = _
  omega
theorem emb7_5 (t : Fin cfg7.N) (j : Fin 512) : (win7_5.blk t).view.emb (ix3 0 0 j) = ix3 (expertOf t) 0 (quarter (quarterOf t) j) := by
  blk_ext [in7_5, expertOf, quarterOf, quarter]
  show _ + j.val = _
  omega
theorem emb7_6 (t : Fin cfg7.N) (n : Fin 2048) : (win7_6.blk t).view.emb (ix3 0 0 n) = ix3 (expertOf t) 0 n := by
  blk_ext [in7_6, expertOf]
theorem emb7_7 (t : Fin cfg7.N) (r : Fin 256) (k : Fin 2) : (win7_7.blk t).view.emb (ix2 r k) = ix2 (tokenOf t r) k := by
  blk_ext [in7_7, tokenOf]
  show _ + r.val = _
  omega
theorem emb7_8 (t : Fin cfg7.N) (r : Fin 256) (k : Fin 8) : (win7_8.blk t).view.emb (ix2 r k) = ix2 (tokenOf t r) k := by
  blk_ext [in7_8, tokenOf]
  show _ + r.val = _
  omega
theorem emb7_9 (t : Fin cfg7.N) (r : Fin 256) (k : Fin 2048) : (win7_9.blk t).view.emb (ix2 r k) = ix2 (tokenOf t r) k := by
  blk_ext [out7, tokenOf]
  show _ + r.val = _
  omega

/-- The two values of a point, of blocks read out of the call's arrays. -/
theorem values7 (c : Dev nD) (t : Fin cfg7.N) : ∃ (b0 : Vec F S256x2048 .bf16) (b1 b2 : Vec F S1x2048x512 .bf16) (b3 : Vec F S1x512x2048 .bf16)
    (b4 b5 : Vec F S1x1x512 .f32) (b6 : Vec F S1x1x2048 .f32) (b7 : Vec F S256x2 .i32) (b8 : Vec F S256x8 .f32),
    (∀ z, b0 z = V c main_v13 ((win7_0.blk t).view.emb z)) ∧ (∀ z, b1 z = V c main_v7 ((win7_1.blk t).view.emb z))
    ∧ (∀ z, b2 z = V c main_v8 ((win7_2.blk t).view.emb z)) ∧ (∀ z, b3 z = V c main_v9 ((win7_3.blk t).view.emb z))
    ∧ (∀ z, b4 z = V c main_v15 ((win7_4.blk t).view.emb z)) ∧ (∀ z, b5 z = V c main_v17 ((win7_5.blk t).view.emb z))
    ∧ (∀ z, b6 z = V c main_v18 ((win7_6.blk t).view.emb z)) ∧ (∀ z, b7 z = V c main_arg5 ((win7_7.blk t).view.emb z))
    ∧ (∀ z, b8 z = V c main_arg6 ((win7_8.blk t).view.emb z))
    ∧ firstAt V c t.val = moeFirst (grid7.coords t) b0 b1 b2 b3 b4 b5 b6 b7 b8
    ∧ (∀ g, nextAt V c t.val g = moeNext (grid7.coords t) b0 b1 b2 b3 b4 b5 b6 b7 b8 g) :=
  ⟨blockAt cfg7 c (V c) 0 t, blockAt cfg7 c (V c) 1 t, blockAt cfg7 c (V c) 2 t, blockAt cfg7 c (V c) 3 t, blockAt cfg7 c (V c) 4 t, blockAt cfg7 c (V c) 5 t,
    blockAt cfg7 c (V c) 6 t, blockAt cfg7 c (V c) 7 t, blockAt cfg7 c (V c) 8 t, fun _ => rfl, fun _ => rfl, fun _ => rfl, fun _ => rfl, fun _ => rfl, fun _ => rfl,
    fun _ => rfl, fun _ => rfl, fun _ => rfl, atPoint_fin _ t, fun _ => atPoint_fin _ t⟩

/-- A later point adds its first value. -/
theorem moeNext_at (i : grid7.Coords) (b0 : Vec Ideal S256x2048 .bf16) (b1 b2 : Vec Ideal S1x2048x512 .bf16) (b3 : Vec Ideal S1x512x2048 .bf16)
    (b4 b5 : Vec Ideal S1x1x512 .f32) (b6 : Vec Ideal S1x1x2048 .f32) (b7 : Vec Ideal S256x2 .i32) (b8 : Vec Ideal S256x8 .f32) (g : Vec Ideal S256x2048 .f32) (z : S256x2048.Idx) :
    moeNext i b0 b1 b2 b3 b4 b5 b6 b7 b8 g z = (g z : EReal) + moeFirst i b0 b1 b2 b3 b4 b5 b6 b7 b8 z := by
  unfold moeNext moeFirst k7_pay3 k7_pay2
  rw [shapeCast_self, shapeCast_self]
  rfl

/-- A point's first value: the routed share of its quarter of an expert. -/
theorem moeFirst_at (i : grid7.Coords) (e : Fin 8) (k : Fin 4) (he : (i 0).val = e.val) (hk : (i 1).val = k.val)
    (b0 : Vec Ideal S256x2048 .bf16) (b1 b2 : Vec Ideal S1x2048x512 .bf16) (b3 : Vec Ideal S1x512x2048 .bf16)
    (b4 b5 : Vec Ideal S1x1x512 .f32) (b6 : Vec Ideal S1x1x2048 .f32) (b7 : Vec Ideal S256x2 .i32) (b8 : Vec Ideal S256x8 .f32) (r : Fin 256) (n : Fin 2048) :
    moeFirst i b0 b1 b2 b3 b4 b5 b6 b7 b8 (ix2 r n) = coef (b7 (ix2 r 0)) (b7 (ix2 r 1)) (fun k => b8 (ix2 r k)) e
      * ((∑ j : Fin 512, act ((∑ κ : Fin 2048, (b0 (ix2 r κ) : EReal) * b1 (ix3 0 κ j)) + b4 (ix3 0 0 j)) ((∑ κ : Fin 2048, (b0 (ix2 r κ) : EReal) * b2 (ix3 0 κ j)) + b5 (ix3 0 0 j)) * b3 (ix3 0 j n))
        + if k = 0 then b6 (ix3 0 0 n) else 0) := by
  unfold moeFirst k7_pay2
  rw [shapeCast_self, he, hk]
  refine (pay1_at e _ b7 b8 r n).trans (congrArg _ ?_)
  refine (pay6_at _ _ b3 b6 r n).trans (congrArg₂ (· + ·) (Finset.sum_congr rfl fun j _ => congrArg (· * _) (pay4_at b0 b1 b4 b2 b5 r j)) ?_)
  have h : (BitVec.ofNat 32 k.val = 0#32) ↔ k = 0 := (by decide : ∀ k : Fin 4, (BitVec.ofNat 32 k.val = 0#32) ↔ k = 0) k
  by_cases h0 : k = 0
  · rw [if_pos h0, if_pos (h.mpr h0)]
  · rw [if_neg h0, if_neg fun hh => h0 (h.mp hh)]

end Cert.KernelIdeal.Whole
-- ==== Proof.LastWrite.lean ====
/- The array of an output window whose blocks are written back many times, at an element only its last write-back touches. -/
module

public import proofs.«01_k».proof.Proof.MoeReads

@[expose] public section

set_option maxRecDepth 16384

noncomputable section

namespace Cert.KernelIdeal.Whole

open Idealize.ShloMosaic.Rounds Cert.KernelIdeal Cert.KernelIdeal.Gen Idealize.ShloMosaic Idealize.ShloMosaic.ValueIdx Idealize.ShloMosaic.TcCoe Cert.Meet Cert.Whole

variable {F : FTy → Type} [FloatOps F] (V : (c : Dev nD) → (b : Ref sig .tc) → Buf (Elt F) ((c : Thread nD τ).loc b))

/-- Right after a point's write-back its block holds what the point wrote. -/
theorem written {cfg : Pipeline.Cfg sig Λ₀} {c : Dev nD} (dat : Pipeline.Dat τ (Elt F) Unit ℕ (UR sig nD τ) ℕ cfg c) (w : Fin cfg.W) (t : Fin cfg.N) (hf : (cfg.win w).flush t = true)
    (y : ((cfg.win w).xblock (cfg.grid.coords t)).Idx) :
    dat.arrAt w (t.val + 1) (((cfg.win w).blk t).view.emb y) = _root_.cast (congrArg (Elt F) ((cfg.win w).blk t).view.elt_eq.symm) (dat.flushed w t y) := by
  have h : ((cfg.win w).blk t).view.read (Elt F) (dat.arrAt w (t.val + 1)) = dat.flushed w t := by
    rw [dat.arrAt_succ, if_pos hf]
    exact View.read_write_univ _ _
  have h' := congrFun h y
  rw [View.read_apply] at h'
  rw [← h', cast_cast, cast_eq]

theorem flushed7 (c : Dev nD) (t : Fin cfg7.N) (r : Fin 256) (n : Fin 2048) : (dat7 V c).flushed 9 t (ix2 r n) = sums V c t.val (ix2 r n) := rfl

theorem token_of_mem (t : Fin cfg7.N) (u : Fin 2048) (n : Fin 2048) (h : (ix2 u n : S2048x2048.Idx) ∈ (win7_9.blk t).view.set) : u.val / 256 = t.val % 8 := by
  have h' := ((win7_9.emb_mem_blk_iff t (ix2 u n : S2048x2048.Idx)).mp h) 0
  rw [out7] at h'
  have h1 : t.val % 8 * 256 ≤ u.val := h'.1
  have h2 : u.val < t.val % 8 * 256 + 256 := h'.2
  omega

/-- After the last eight points an element holds what its block's last point left. -/
theorem rest7 (c : Dev nD) (s : Fin 8) (r : Fin 256) (n : Fin 2048) (hu : 256 * s.val + r.val < 2048) (m : ℕ) (hm : 249 + s.val + m ≤ 256) :
    (dat7 V c).arrAt 9 (249 + s.val + m) (ix2 ⟨256 * s.val + r.val, hu⟩ n : S2048x2048.Idx) = (dat7 V c).arrAt 9 (249 + s.val) (ix2 ⟨256 * s.val + r.val, hu⟩ n : S2048x2048.Idx) := by
  induction m with
  | zero => rfl
  | succ m ih =>
    refine Eq.trans ?_ (ih (by omega))
    have hN : 249 + s.val + m < cfg7.N := by show _ < 256; omega
    refine ((dat7 V c).arrAt_succ_apply 9 (249 + s.val + m) _).trans ?_
    rw [dif_pos hN, if_pos (flush7_9 _)]
    refine View.write_of_not_mem _ _ _ ?_
    rw [View.setOn_univ]
    intro hin
    have h := token_of_mem _ _ _ hin
    have h' : (256 * s.val + r.val) / 256 = (249 + s.val + m) % 8 := h
    omega

/-- The array the expert product leaves. -/
theorem last7 (c : Dev nD) (s : Fin 8) (r : Fin 256) (n : Fin 2048) (hu : 256 * s.val + r.val < 2048) :
    (dat7 V c).arrAt 9 cfg7.N (ix2 ⟨256 * s.val + r.val, hu⟩ n : S2048x2048.Idx) = sums V c (248 + s.val) (ix2 r n) := by
  have e : cfg7.N = 249 + s.val + (7 - s.val) := by show 256 = _; omega
  refine (congrArg (fun q => (dat7 V c).arrAt 9 q (ix2 ⟨256 * s.val + r.val, hu⟩ n : S2048x2048.Idx)) e).trans ?_
  refine (rest7 V c s r n hu (7 - s.val) (by omega)).trans ?_
  have hN : 248 + s.val < cfg7.N := by show _ < 256; omega
  have ee : 249 + s.val = 248 + s.val + 1 := by omega
  refine (congrArg (fun q => (dat7 V c).arrAt 9 q (ix2 ⟨256 * s.val + r.val, hu⟩ n : S2048x2048.Idx)) ee).trans ?_
  have hz : (ix2 ⟨256 * s.val + r.val, hu⟩ n : S2048x2048.Idx) = (win7_9.blk ⟨248 + s.val, hN⟩).view.emb (ix2 r n) := by
    refine Eq.trans ?_ (emb7_9 ⟨248 + s.val, hN⟩ r n).symm
    refine congrArg (fun q => (ix2 q n : S2048x2048.Idx)) (Fin.ext ?_)
    show 256 * s.val + r.val = 256 * ((248 + s.val) % 8) + r.val
    omega
  refine (congrArg ((dat7 V c).arrAt 9 (248 + s.val + 1)) hz).trans ?_
  refine (written (dat7 V c) 9 ⟨248 + s.val, hN⟩ (flush7_9 _) (ix2 r n)).trans ?_
  refine (cast_eq _ _).trans ?_
  exact flushed7 V c ⟨248 + s.val, hN⟩ r n

end Cert.KernelIdeal.Whole
-- ==== Proof.MoeValue.lean ====
/- What the expert product's array holds: the layer, of whatever its arrays were entered with. -/
module

public import proofs.«01_k».proof.Proof.LastWrite

@[expose] public section

set_option maxRecDepth 16384

noncomputable section

namespace Cert.KernelIdeal.Whole

open Cert.KernelIdeal Cert.KernelIdeal.Gen Idealize.ShloMosaic Idealize.ShloMosaic.ValueIdx Idealize.ShloMosaic.TcCoe Cert.Meet Cert.Whole

variable (V : (c : Dev nD) → (b : Ref sig .tc) → Buf (Elt Ideal) ((c : Thread nD τ).loc b)) (c : Dev nD)
  (x : Fin 2048 → Fin 2048 → EReal) (wg wu wd : Fin 8 → Fin 2048 → Fin 2048 → EReal) (bg bu bd : Fin 8 → Fin 2048 → EReal) (cf : Fin 2048 → Fin 8 → EReal)

/-- One unit's part of an expert's answer. -/
def unit (t n : Fin 2048) (e : Fin 8) (j : Fin 2048) : EReal :=
  act ((∑ k : Fin 2048, x t k * wg e k j : EReal) + bg e j : EReal) ((∑ k : Fin 2048, x t k * wu e k j : EReal) + bu e j : EReal) * wd e j n

/-- What a quarter of an expert adds. -/
def addend (t n : Fin 2048) (e : Fin 8) (k : Fin 4) : EReal :=
  cf t e * (∑ j : Fin 512, unit x wg wu wd bg bu t n e (quarter k j) + if k = 0 then bd e n else 0)

/-- The arrays the expert product is entered with. -/
structure Entered : Prop where
  hx : ∀ t k, V c main_v13 (ix2 t k) = x t k
  hg : ∀ e k j, V c main_v7 (ix3 e k j) = wg e k j
  hu : ∀ e k j, V c main_v8 (ix3 e k j) = wu e k j
  hd : ∀ e j n, V c main_v9 (ix3 e j n) = wd e j n
  hbg : ∀ e j, V c main_v15 (ix3 e 0 j) = bg e j
  hbu : ∀ e j, V c main_v17 (ix3 e 0 j) = bu e j
  hbd : ∀ e n, V c main_v18 (ix3 e 0 n) = bd e n
  hcf : ∀ t e, coef (V c main_arg5 (ix2 t 0)) (V c main_arg5 (ix2 t 1)) (fun k => V c main_arg6 (ix2 t k)) e = cf t e

variable (H : Entered V c x wg wu wd bg bu bd cf)
include H

/-- A point's first value, and what a later point makes of the sum it finds. -/
theorem point7 (t : Fin cfg7.N) (r : Fin 256) (n : Fin 2048) :
    firstAt V c t.val (ix2 r n) = addend x wg wu wd bg bu bd cf (tokenOf t r) n (expertOf t) (quarterOf t)
      ∧ ∀ g, nextAt V c t.val g (ix2 r n) = (g (ix2 r n) : EReal) + addend x wg wu wd bg bu bd cf (tokenOf t r) n (expertOf t) (quarterOf t) := by
  obtain ⟨b0, b1, b2, b3, b4, b5, b6, b7, b8, h0, h1, h2, h3, h4, h5, h6, h7, h8, hf, hn⟩ := values7 V c t
  have ht : t.val < 256 := t.isLt
  have e0 : (grid7.coords t 0).val = (expertOf t).val := (coord7_0 t).trans (by show t.val / 32 % 8 = t.val / 32; omega)
  have e1 : (grid7.coords t 1).val = (quarterOf t).val := coord7_1 t
  have a0 (k : Fin 2048) : b0 (ix2 r k) = x (tokenOf t r) k := (h0 _).trans ((congrArg (V c main_v13) (emb7_0 t r k)).trans (H.hx _ _))
  have a1 (k : Fin 2048) (j : Fin 512) : b1 (ix3 0 k j) = wg (expertOf t) k (quarter (quarterOf t) j) := (h1 _).trans ((congrArg (V c main_v7) (emb7_1 t k j)).trans (H.hg _ _ _))
  have a2 (k : Fin 2048) (j : Fin 512) : b2 (ix3 0 k j) = wu (expertOf t) k (quarter (quarterOf t) j) := (h2 _).trans ((congrArg (V c main_v8) (emb7_2 t k j)).trans (H.hu _ _ _))
  have a3 (j : Fin 512) : b3 (ix3 0 j n) = wd (expertOf t) (quarter (quarterOf t) j) n := (h3 _).trans ((congrArg (V c main_v9) (emb7_3 t j n)).trans (H.hd _ _ _))
  have a4 (j : Fin 512) : b4 (ix3 0 0 j) = bg (expertOf t) (quarter (quarterOf t) j) := (h4 _).trans ((congrArg (V c main_v15) (emb7_4 t j)).trans (H.hbg _ _))
  have a5 (j : Fin 512) : b5 (ix3 0 0 j) = bu (expertOf t) (quarter (quarterOf t) j) := (h5 _).trans ((congrArg (V c main_v17) (emb7_5 t j)).trans (H.hbu _ _))
  have a6 : b6 (ix3 0 0 n) = bd (expertOf t) n := (h6 _).trans ((congrArg (V c main_v18) (emb7_6 t n)).trans (H.hbd _ _))
  have a7 (k : Fin 2) : b7 (ix2 r k) = V c main_arg5 (ix2 (tokenOf t r) k) := (h7 _).trans (congrArg (V c main_arg5) (emb7_7 t r k))
  have a8 (k : Fin 8) : b8 (ix2 r k) = V c main_arg6 (ix2 (tokenOf t r) k) := (h8 _).trans (congrArg (V c main_arg6) (emb7_8 t r k))
  have key : moeFirst (grid7.coords t) b0 b1 b2 b3 b4 b5 b6 b7 b8 (ix2 r n) = addend x wg wu wd bg bu bd cf (tokenOf t r) n (expertOf t) (quarterOf t) := by
    refine (moeFirst_at _ _ _ e0 e1 b0 b1 b2 b3 b4 b5 b6 b7 b8 r n).trans ?_
    unfold addend unit
    simp only [a0, a1, a2, a3, a4, a5, a6, a7, a8]
    exact congrArg (· * _) (H.hcf _ _)
  exact ⟨(congrFun hf _).trans key, fun g => (congrFun (hn g) _).trans ((moeNext_at _ b0 b1 b2 b3 b4 b5 b6 b7 b8 g _).trans (congrArg (_ + ·) key))⟩

/-- The running sum of a row block, its `q`-th visit in. -/
theorem sums_at (s : Fin 8) (r : Fin 256) (n : Fin 2048) (q : ℕ) (hq : q < 32) :
    sums V c (s.val + 8 * q) (ix2 r n) = ∑ p ∈ Finset.range (q + 1), (firstAt V c (s.val + 8 * p) (ix2 r n) : EReal) := by
  induction q with
  | zero =>
    rw [Finset.sum_range_one]
    exact congrFun (stacked_start _ _ _ (by have := s.isLt; omega)) _
  | succ q ih =>
    have hs := s.isLt
    have hN : s.val + 8 * (q + 1) < cfg7.N := by show _ < 256; omega
    have hp := point7 V c x wg wu wd bg bu bd cf H ⟨s.val + 8 * (q + 1), hN⟩ r n
    refine (congrFun (stacked_next (firstAt V c) (nextAt V c) (s.val + 8 * (q + 1)) (by omega)) (ix2 r n)).trans ?_
    refine (hp.2 _).trans ?_
    rw [Finset.sum_range_succ, ← ih (by omega)]
    have e : s.val + 8 * (q + 1) - 8 = s.val + 8 * q := by omega
    exact congrArg₂ (· + ·) (congrArg (fun z => stacked (firstAt V c) (nextAt V c) z (ix2 r n)) e) hp.1.symm

/-- The array at the end. -/
theorem layer7 (hc : ∀ t e, Real (cf t e)) (hd : ∀ e j n, Real (wd e j n)) (t n : Fin 2048) :
    (dat7 V c).arrAt 9 cfg7.N (ix2 t n : S2048x2048.Idx) = layer x wg wu wd bg bu bd cf t n := by
  obtain ⟨s, r, e⟩ : ∃ (s : Fin 8) (r : Fin 256), t.val = 256 * s.val + r.val := ⟨⟨t.val / 256, by omega⟩, ⟨t.val % 256, by omega⟩, by show t.val = 256 * (t.val / 256) + t.val % 256; omega⟩
  have hs := s.isLt
  have et : t = ⟨256 * s.val + r.val, by omega⟩ := Fin.ext e
  rw [et]
  refine (last7 V c s r n (by omega)).trans ?_
  rw [show 248 + s.val = s.val + 8 * 31 by omega]
  refine (sums_at V c x wg wu wd bg bu bd cf H s r n 31 (by omega)).trans ?_
  rw [Finset.sum_range]
  have hp (p : Fin 32) : (firstAt V c (s.val + 8 * p.val) (ix2 r n) : EReal)
      = addend x wg wu wd bg bu bd cf ⟨256 * s.val + r.val, by omega⟩ n ⟨p.val / 4, by omega⟩ ⟨p.val % 4, by omega⟩ := by
    have hN : s.val + 8 * p.val < cfg7.N := by show _ < 256; omega
    refine (point7 V c x wg wu wd bg bu bd cf H ⟨s.val + 8 * p.val, hN⟩ r n).1.trans ?_
    have q1 : tokenOf ⟨s.val + 8 * p.val, hN⟩ r = ⟨256 * s.val + r.val, by omega⟩ := Fin.ext (by show 256 * ((s.val + 8 * p.val) % 8) + r.val = 256 * s.val + r.val; omega)
    have q2 : expertOf ⟨s.val + 8 * p.val, hN⟩ = ⟨p.val / 4, by omega⟩ := Fin.ext (by show (s.val + 8 * p.val) / 32 = p.val / 4; omega)
    have q3 : quarterOf ⟨s.val + 8 * p.val, hN⟩ = ⟨p.val % 4, by omega⟩ := Fin.ext (by show (s.val + 8 * p.val) / 8 % 4 = p.val % 4; omega)
    rw [q1, q2, q3]
  refine (Finset.sum_congr rfl fun p _ => hp p).trans ?_
  generalize (⟨256 * s.val + r.val, _⟩ : Fin 2048) = t'
  refine (Fin.sum_mul_add_fin 8 4 (fun p : Fin 32 => addend x wg wu wd bg bu bd cf t' n ⟨p.val / 4, by omega⟩ ⟨p.val % 4, by omega⟩)).symm.trans ?_
  refine Finset.sum_congr rfl fun e _ => ?_
  refine Eq.trans (Finset.sum_congr rfl fun k _ => ?_) (by_quarters (hc t' e) (fun j => unit x wg wu wd bg bu t' n e j) (fun j => (act_real _ _).mul (hd e j n)) (bd e n))
  have he := e.isLt
  have hk := k.isLt
  have q1 : (⟨(e.val * 4 + k.val) / 4, by omega⟩ : Fin 8) = e := Fin.ext (by show (e.val * 4 + k.val) / 4 = e.val; omega)
  have q2 : (⟨(e.val * 4 + k.val) % 4, by omega⟩ : Fin 4) = k := Fin.ext (by show (e.val * 4 + k.val) % 4 = k.val; omega)
  show addend x wg wu wd bg bu bd cf t' n ⟨(e.val * 4 + k.val) / 4, by omega⟩ ⟨(e.val * 4 + k.val) % 4, by omega⟩ = _
  rw [q1, q2]
  rfl

end Cert.KernelIdeal.Whole
-- ==== Proof.KernelChain.lean ====
/- What the kernel's expert product is entered with, array by array, of the numbers the program is given. -/
module

public import proofs.«01_k».proof.Proof.Spec
public import proofs.«01_k».proof.Proof.IdealRun

@[expose] public section

set_option maxRecDepth 16384

noncomputable section

namespace Cert.KernelIdeal.Whole

open Cert.KernelIdeal Cert.KernelIdeal.Gen Idealize.ShloMosaic Idealize.ShloMosaic.ValueIdx Idealize.ShloMosaic.TcCoe Idealize.ShloMosaic.Tactic Cert.Meet Cert.Whole

variable (m : (ℓ : Loc nD τ sig) → Buf (Elt Ideal) ℓ) (c : Dev nD)

/-- The numbers the program is given. -/
abbrev given0 : (⟨S2048x2048, .f32⟩ : BufTy).Contents (Elt Ideal) := m ((c.tc : Thread nD τ).loc main_arg0)
abbrev given1 : (⟨S8x2048x4096, .f32⟩ : BufTy).Contents (Elt Ideal) := m ((c.tc : Thread nD τ).loc main_arg1)
abbrev given2 : (⟨S8x4096, .f32⟩ : BufTy).Contents (Elt Ideal) := m ((c.tc : Thread nD τ).loc main_arg2)
abbrev given3 : (⟨S8x2048x2048, .f32⟩ : BufTy).Contents (Elt Ideal) := m ((c.tc : Thread nD τ).loc main_arg3)
abbrev given4 : (⟨S8x2048, .f32⟩ : BufTy).Contents (Elt Ideal) := m ((c.tc : Thread nD τ).loc main_arg4)

/-! The maxima. -/

theorem at1_v0 (i : S8x8x128.Idx) : W1 m c (Proc.devRef .tc main_v0) i = most1 (given1 m c) (i 0) :=
  congrFun ((leave_arr cfg0 c (W0 m c) (dat0 (atRefs (W0 m)) c) launch0.win 1).trans (amax0 (atRefs (W0 m)) c)) i

theorem at1_arg3 : W1 m c (Proc.devRef .tc main_arg3) = given3 m c := W1_of m c main_arg3 (by decide +kernel)

theorem at2_v1 (i : S8x8x128.Idx) : W2 m c (Proc.devRef .tc main_v1) i = most3 (given3 m c) (i 0) := by
  refine (congrFun ((leave_arr cfg1 c (W1 m c) (dat1 (atRefs (W1 m)) c) launch1.win 1).trans (amax1 (atRefs (W1 m)) c)) i).trans ?_
  have e : atRefs (W1 m) c main_arg3 = given3 m c := at1_arg3 m c
  rw [e]
  rfl

theorem at2_arg0 : W2 m c (Proc.devRef .tc main_arg0) = given0 m c :=
  (W2_of m c main_arg0 (by decide +kernel)).trans (W1_of m c main_arg0 (by decide +kernel))

theorem at3_v3 : W3 m c (Proc.devRef .tc main_v3)
    = broadcastInDim S1x2048x2048 ![1, 2] bcast_S2048x2048_S1x2048x2048_1_2 (transpose S2048x2048 [1, 0] (W2 m c (Proc.devRef .tc main_arg0)) transposes_S2048x2048_S2048x2048_1_0) := by
  unfold W3
  simp only [hostOps2]
  after_results_simp <;> rfl

theorem flipped (A0 : (⟨S2048x2048, .f32⟩ : BufTy).Contents (Elt Ideal)) :
    (broadcastInDim S1x2048x2048 ![1, 2] bcast_S2048x2048_S1x2048x2048_1_2 (transpose S2048x2048 [1, 0] A0 transposes_S2048x2048_S2048x2048_1_0)
      : (⟨S1x2048x2048, .f32⟩ : BufTy).Contents (Elt Ideal)) = tokensOf A0 := by
  funext i
  refine Eq.trans (congrArg (transpose S2048x2048 [1, 0] A0 transposes_S2048x2048_S2048x2048_1_0) (a₂ := ix2 (i 1) (i 2)) ?_) ?_
  · funext b; fin_cases b <;> rfl
  · exact transpose_apply (s := S2048x2048) _ _ _ _ (ix2 (i 2) (i 1)) (by intro b; fin_cases b <;> rfl)

theorem at3_v3' : W3 m c (Proc.devRef .tc main_v3) = tokensOf (given0 m c) := by
  rw [at3_v3, at2_arg0]
  exact flipped _

theorem at4_v4 (i : S1x8x128.Idx) : W4 m c (Proc.devRef .tc main_v4) i = most0 (given0 m c) (i 0) := by
  refine (congrFun ((leave_arr cfg2 c (W3 m c) (dat2 (atRefs (W3 m)) c) launch2.win 1).trans (amax2 (atRefs (W3 m)) c)) i).trans ?_
  have e : atRefs (W3 m) c main_v3 = tokensOf (given0 m c) := at3_v3' m c
  rw [e]
  rfl

/-! The quantised weights and activations. -/

theorem at4_arg1 : W4 m c (Proc.devRef .tc main_arg1) = given1 m c :=
  (W4_of m c main_arg1 (by decide +kernel)).trans ((W3_of m c main_arg1 (by decide +kernel)).trans ((W2_of m c main_arg1 (by decide +kernel)).trans (W1_of m c main_arg1 (by decide +kernel))))

theorem at5_v5 : W5 m c (Proc.devRef .tc main_v5)
    = Host.slice S8x2048x2048 ![0, 0, 0] ![1, 1, 2] (W4 m c (Proc.devRef .tc main_arg1)) slicesBy_S8x2048x4096_S8x2048x2048_0s1_0s1_0s2 := by
  unfold W5
  simp only [hostOps3]
  after_results_simp <;> rfl
theorem at5_v6 : W5 m c (Proc.devRef .tc main_v6)
    = Host.slice S8x2048x2048 ![0, 0, 1] ![1, 1, 2] (W4 m c (Proc.devRef .tc main_arg1)) slicesBy_S8x2048x4096_S8x2048x2048_0s1_0s1_1s2 := by
  unfold W5
  simp only [hostOps3]
  after_results_simp <;> rfl

theorem evens (A1 : (⟨S8x2048x4096, .f32⟩ : BufTy).Contents (Elt Ideal)) :
    Host.slice S8x2048x2048 ![0, 0, 0] ![1, 1, 2] A1 slicesBy_S8x2048x4096_S8x2048x2048_0s1_0s1_0s2 = gateOf A1 := by
  funext i
  refine congrArg A1 ?_
  funext b
  fin_cases b <;> refine Fin.ext ?_
  · show 0 + 1 * (i 0).val = (i 0).val; omega
  · show 0 + 1 * (i 1).val = (i 1).val; omega
  · show 0 + 2 * (i 2).val = 2 * (i 2).val; omega
theorem odds (A1 : (⟨S8x2048x4096, .f32⟩ : BufTy).Contents (Elt Ideal)) :
    Host.slice S8x2048x2048 ![0, 0, 1] ![1, 1, 2] A1 slicesBy_S8x2048x4096_S8x2048x2048_0s1_0s1_1s2 = upOf A1 := by
  funext i
  refine congrArg A1 ?_
  funext b
  fin_cases b <;> refine Fin.ext ?_
  · show 0 + 1 * (i 0).val = (i 0).val; omega
  · show 0 + 1 * (i 1).val = (i 1).val; omega
  · show 1 + 2 * (i 2).val = 2 * (i 2).val + 1; omega

theorem at5_v5' : W5 m c (Proc.devRef .tc main_v5) = gateOf (given1 m c) := by
  rw [at5_v5, at4_arg1]; exact evens _
theorem at5_v6' : W5 m c (Proc.devRef .tc main_v6) = upOf (given1 m c) := by
  rw [at5_v6, at4_arg1]; exact odds _

theorem at5_v0 (i : S8x8x128.Idx) : W5 m c (Proc.devRef .tc main_v0) i = most1 (given1 m c) (i 0) :=
  (congrFun ((W5_of m c main_v0 (by decide +kernel)).trans ((W4_of m c main_v0 (by decide +kernel)).trans ((W3_of m c main_v0 (by decide +kernel)).trans (W2_of m c main_v0 (by decide +kernel))))) i).trans (at1_v0 m c i)

theorem at6_v7 : W6 m c (Proc.devRef .tc main_v7) = fakeStack (gateOf (given1 m c)) (most1 (given1 m c)) :=
  ((leave_arr cfg3 c (W5 m c) (dat3 (atRefs (W5 m)) c) launch3.win 2).trans (quantised3 (atRefs (W5 m)) c _ (at5_v0 m c))).trans
    (congrArg (fun a => fakeStack a (most1 (given1 m c))) (at5_v5' m c))

theorem at6_v6 : W6 m c (Proc.devRef .tc main_v6) = upOf (given1 m c) := (W6_of m c main_v6 (by decide +kernel)).trans (at5_v6' m c)
theorem at6_v0 (i : S8x8x128.Idx) : W6 m c (Proc.devRef .tc main_v0) i = most1 (given1 m c) (i 0) :=
  (congrFun (W6_of m c main_v0 (by decide +kernel)) i).trans (at5_v0 m c i)

theorem at7_v8 : W7 m c (Proc.devRef .tc main_v8) = fakeStack (upOf (given1 m c)) (most1 (given1 m c)) :=
  ((leave_arr cfg4 c (W6 m c) (dat4 (atRefs (W6 m)) c) launch4.win 2).trans (quantised4 (atRefs (W6 m)) c _ (at6_v0 m c))).trans
    (congrArg (fun a => fakeStack a (most1 (given1 m c))) (at6_v6 m c))

theorem at7_v1 (i : S8x8x128.Idx) : W7 m c (Proc.devRef .tc main_v1) i = most3 (given3 m c) (i 0) :=
  (congrFun ((W7_of m c main_v1 (by decide +kernel)).trans ((W6_of m c main_v1 (by decide +kernel)).trans ((W5_of m c main_v1 (by decide +kernel)).trans ((W4_of m c main_v1 (by decide +kernel)).trans (W3_of m c main_v1 (by decide +kernel)))))) i).trans (at2_v1 m c i)
theorem at7_arg3 : W7 m c (Proc.devRef .tc main_arg3) = given3 m c :=
  (W7_of m c main_arg3 (by decide +kernel)).trans ((W6_of m c main_arg3 (by decide +kernel)).trans ((W5_of m c main_arg3 (by decide +kernel)).trans ((W4_of m c main_arg3 (by decide +kernel)).trans ((W3_of m c main_arg3 (by decide +kernel)).trans ((W2_of m c main_arg3 (by decide +kernel)).trans (at1_arg3 m c))))))

theorem at8_v9 : W8 m c (Proc.devRef .tc main_v9) = fakeStack (given3 m c) (most3 (given3 m c)) :=
  ((leave_arr cfg5 c (W7 m c) (dat5 (atRefs (W7 m)) c) launch5.win 2).trans (quantised5 (atRefs (W7 m)) c _ (at7_v1 m c))).trans
    (congrArg (fun a => fakeStack a (most3 (given3 m c))) (at7_arg3 m c))

theorem at8_v2 : W8 m c (Proc.devRef .tc main_v2) = transpose S2048x2048 [1, 0] (W2 m c (Proc.devRef .tc main_arg0)) transposes_S2048x2048_S2048x2048_1_0 := by
  refine (W8_of m c main_v2 (by decide +kernel)).trans ((W7_of m c main_v2 (by decide +kernel)).trans ((W6_of m c main_v2 (by decide +kernel)).trans ((W5_of m c main_v2 (by decide +kernel)).trans ((W4_of m c main_v2 (by decide +kernel)).trans ?_))))
  unfold W3
  simp only [hostOps2]
  after_results_simp <;> rfl

theorem at9_v10 : W9 m c (Proc.devRef .tc main_v10) = tokensOf (given0 m c) := by
  have e : W9 m c (Proc.devRef .tc main_v10) = broadcastInDim S1x2048x2048 ![1, 2] bcast_S2048x2048_S1x2048x2048_1_2 (W8 m c (Proc.devRef .tc main_v2)) := by
    unfold W9
    simp only [hostOps6]
    after_results_simp <;> rfl
  rw [e, at8_v2, at2_arg0]
  exact flipped _

theorem at9_v4 (i : S1x8x128.Idx) : W9 m c (Proc.devRef .tc main_v4) i = most0 (given0 m c) (i 0) :=
  (congrFun ((W9_of m c main_v4 (by decide +kernel)).trans ((W8_of m c main_v4 (by decide +kernel)).trans ((W7_of m c main_v4 (by decide +kernel)).trans ((W6_of m c main_v4 (by decide +kernel)).trans (W5_of m c main_v4 (by decide +kernel)))))) i).trans (at4_v4 m c i)

theorem at10_v11 : W10 m c (Proc.devRef .tc main_v11) = fakeStack (tokensOf (given0 m c)) (most0 (given0 m c)) :=
  ((leave_arr cfg6 c (W9 m c) (dat6 (atRefs (W9 m)) c) launch6.win 2).trans (quantised6 (atRefs (W9 m)) c _ (at9_v4 m c))).trans
    (congrArg (fun a => fakeStack a (most0 (given0 m c))) (at9_v10 m c))

/-! What the product is entered with. -/

theorem at11_v7 : W11 m c (Proc.devRef .tc main_v7) = fakeStack (gateOf (given1 m c)) (most1 (given1 m c)) :=
  (W11_of m c main_v7 (by decide +kernel)).trans ((W10_of m c main_v7 (by decide +kernel)).trans ((W9_of m c main_v7 (by decide +kernel)).trans ((W8_of m c main_v7 (by decide +kernel)).trans ((W7_of m c main_v7 (by decide +kernel)).trans (at6_v7 m c)))))
theorem at11_v8 : W11 m c (Proc.devRef .tc main_v8) = fakeStack (upOf (given1 m c)) (most1 (given1 m c)) :=
  (W11_of m c main_v8 (by decide +kernel)).trans ((W10_of m c main_v8 (by decide +kernel)).trans ((W9_of m c main_v8 (by decide +kernel)).trans ((W8_of m c main_v8 (by decide +kernel)).trans (at7_v8 m c))))
theorem at11_v9 : W11 m c (Proc.devRef .tc main_v9) = fakeStack (given3 m c) (most3 (given3 m c)) :=
  (W11_of m c main_v9 (by decide +kernel)).trans ((W10_of m c main_v9 (by decide +kernel)).trans ((W9_of m c main_v9 (by decide +kernel)).trans (at8_v9 m c)))

theorem at11_v13 (t k : Fin 2048) : W11 m c (Proc.devRef .tc main_v13) (ix2 t k) = fakeAt (tokensOf (given0 m c)) (most0 (given0 m c) 0) 0 k t := by
  have e : W11 m c (Proc.devRef .tc main_v13) = transpose S2048x2048 [1, 0] (shapeCast S2048x2048 (W10 m c (Proc.devRef .tc main_v11)) shapeCasts_S1x2048x2048_S2048x2048) transposes_S2048x2048_S2048x2048_1_0 := by
    unfold W11
    simp only [hostOps7]
    after_results_simp <;> rfl
  rw [e]
  refine (transpose_apply (s := S2048x2048) _ _ _ _ (ix2 k t) (by intro b; fin_cases b <;> rfl)).trans ?_
  refine (shapeCast_apply _ _ _ (ix3 0 k t) (by
    rewrite [Shape.rowMajor_val_three, Shape.rowMajor_val_two]
    show (0 * 2048 + k.val) * 2048 + t.val = k.val * 2048 + t.val
    omega)).trans ?_
  rw [at10_v11]
  exact (fakeStack_at _ _ 0 k t _ rfl rfl rfl).symm

theorem arg2_at10 : W10 m c (Proc.devRef .tc main_arg2) = given2 m c :=
  (W11_of m c main_arg2 (by decide +kernel)).symm.trans (W11_arg m c main_arg2 (by decide +kernel))
theorem arg4_at10 : W10 m c (Proc.devRef .tc main_arg4) = given4 m c :=
  (W11_of m c main_arg4 (by decide +kernel)).symm.trans (W11_arg m c main_arg4 (by decide +kernel))

theorem at11_v15 (e : Fin 8) (j : Fin 2048) : W11 m c (Proc.devRef .tc main_v15) (ix3 e 0 j) = given2 m c (ix2 e ⟨2 * j.val, by have := j.isLt; omega⟩) := by
  have h : W11 m c (Proc.devRef .tc main_v15) = shapeCast S8x1x2048 (Host.slice S8x2048 ![0, 0] ![1, 2] (W10 m c (Proc.devRef .tc main_arg2)) slicesBy_S8x4096_S8x2048_0s1_0s2) shapeCasts_S8x2048_S8x1x2048 := by
    unfold W11
    simp only [hostOps7]
    after_results_simp <;> rfl
  rw [h, arg2_at10]
  refine (shapeCast_apply _ _ _ (ix2 e j) (by
    rewrite [Shape.rowMajor_val_three, Shape.rowMajor_val_two]
    show e.val * 2048 + j.val = (e.val * 1 + 0) * 2048 + j.val
    omega)).trans ?_
  refine congrArg (given2 m c) ?_
  funext b
  fin_cases b <;> refine Fin.ext ?_
  · show 0 + 1 * e.val = e.val; omega
  · show 0 + 2 * j.val = 2 * j.val; omega
theorem at11_v17 (e : Fin 8) (j : Fin 2048) : W11 m c (Proc.devRef .tc main_v17) (ix3 e 0 j) = given2 m c (ix2 e ⟨2 * j.val + 1, by have := j.isLt; omega⟩) := by
  have h : W11 m c (Proc.devRef .tc main_v17) = shapeCast S8x1x2048 (Host.slice S8x2048 ![0, 1] ![1, 2] (W10 m c (Proc.devRef .tc main_arg2)) slicesBy_S8x4096_S8x2048_0s1_1s2) shapeCasts_S8x2048_S8x1x2048 := by
    unfold W11
    simp only [hostOps7]
    after_results_simp <;> rfl
  rw [h, arg2_at10]
  refine (shapeCast_apply _ _ _ (ix2 e j) (by
    rewrite [Shape.rowMajor_val_three, Shape.rowMajor_val_two]
    show e.val * 2048 + j.val = (e.val * 1 + 0) * 2048 + j.val
    omega)).trans ?_
  refine congrArg (given2 m c) ?_
  funext b
  fin_cases b <;> refine Fin.ext ?_
  · show 0 + 1 * e.val = e.val; omega
  · show 1 + 2 * j.val = 2 * j.val + 1; omega
theorem at11_v18 (e : Fin 8) (j : Fin 2048) : W11 m c (Proc.devRef .tc main_v18) (ix3 e 0 j) = given4 m c (ix2 e j) := by
  have h : W11 m c (Proc.devRef .tc main_v18) = shapeCast S8x1x2048 (W10 m c (Proc.devRef .tc main_arg4)) shapeCasts_S8x2048_S8x1x2048 := by
    unfold W11
    simp only [hostOps7]
    after_results_simp <;> rfl
  rw [h, arg4_at10]
  exact shapeCast_apply _ _ _ (ix2 e j) (by
    rewrite [Shape.rowMajor_val_three, Shape.rowMajor_val_two]
    show e.val * 2048 + j.val = (e.val * 1 + 0) * 2048 + j.val
    omega)

end Cert.KernelIdeal.Whole
-- ==== Proof.KernelAnswer.lean ====
/- The kernel's result: the answer. -/
module

public import proofs.«01_k».proof.Proof.Answer
public import proofs.«01_k».proof.Proof.MoeValue
public import proofs.«01_k».proof.Proof.KernelChain

@[expose] public section

set_option maxRecDepth 16384

noncomputable section

namespace Cert.KernelIdeal.Whole

open Cert.KernelIdeal Cert.KernelIdeal.Gen Idealize.ShloMosaic Idealize.ShloMosaic.ValueIdx Idealize.ShloMosaic.TcCoe Cert.Meet Cert.Whole

variable (m : (ℓ : Loc nD τ sig) → Buf (Elt Ideal) ℓ) (c : Dev nD)

abbrev given5 : (⟨S2048x2, .i32⟩ : BufTy).Contents (Elt Ideal) := m ((c.tc : Thread nD τ).loc main_arg5)
abbrev given6 : (⟨S2048x8, .f32⟩ : BufTy).Contents (Elt Ideal) := m ((c.tc : Thread nD τ).loc main_arg6)

theorem at11_arg5 : W11 m c (Proc.devRef .tc main_arg5) = given5 m c := W11_arg m c main_arg5 (by decide +kernel)
theorem at11_arg6 : W11 m c (Proc.devRef .tc main_arg6) = given6 m c := W11_arg m c main_arg6 (by decide +kernel)

theorem fakeStack_ix {P : ℕ} (a : (⟨3, ![P, 2048, 2048]⟩ : Shape).Idx → EReal) (M : Fin P → EReal) (e : Fin P) (r n : Fin 2048) :
    fakeStack a M (ix3 e r n) = fakeAt a (M e) e r n := (fakeStack_at a M e r n (ix3 e r n) rfl rfl rfl).symm

theorem entered : Entered (atRefs (W11 m)) c (tokens (given0 m c)) (gates (given1 m c)) (ups (given1 m c)) (downs (given3 m c))
    (gateBias (given2 m c)) (upBias (given2 m c)) (downBias (given4 m c)) (route (given5 m c) (given6 m c)) where
  hx t k := at11_v13 m c t k
  hg e k j := (congrFun (at11_v7 m c) _).trans (fakeStack_ix _ _ e k j)
  hu e k j := (congrFun (at11_v8 m c) _).trans (fakeStack_ix _ _ e k j)
  hd e j n := (congrFun (at11_v9 m c) _).trans (fakeStack_ix _ _ e j n)
  hbg e j := at11_v15 m c e j
  hbu e j := at11_v17 m c e j
  hbd e n := at11_v18 m c e n
  hcf t e := by
    have e5 : atRefs (W11 m) c main_arg5 = given5 m c := at11_arg5 m c
    have e6 : atRefs (W11 m) c main_arg6 = given6 m c := at11_arg6 m c
    rw [e5, e6]

/-- The result the kernel leaves. -/
theorem result_eq (h3 : ∀ i, Real (given3 m c i)) (h6 : ∀ i, Real (given6 m c i)) :
    W12 m c (Proc.devRef .tc main_v19) = answer (given0 m c) (given1 m c) (given2 m c) (given3 m c) (given4 m c) (given5 m c) (given6 m c) := by
  refine (leave_arr cfg7 c (W11 m c) (dat7 (atRefs (W11 m)) c) launch7.win 9).trans ?_
  funext i
  have e : i = (ix2 (i 0) (i 1) : S2048x2048.Idx) := by
    funext a
    fin_cases a <;> rfl
  refine (congrArg _ e).trans ?_
  exact layer7 (atRefs (W11 m)) c _ _ _ _ _ _ _ _ (entered m c) (fun t e => route_real _ _ h6 t e) (fun e j n => downs_real _ h3 e j n) (i 0) (i 1)

end Cert.KernelIdeal.Whole
-- ==== Proof.RefQuant.lean ====
/- The reference's dequantised tensors at an index. -/
module

public import proofs.«01_k».proof.Proof.Scalars
public import proofs.«01_k».proof.Proof.Gen.ReferenceIdeal.Read
public import Idealize.ShloMosaic.Lib.ValueIdx

@[expose] public section

set_option maxRecDepth 16384

noncomputable section

namespace Cert.ReferenceIdeal.Whole

open Cert.ReferenceIdeal Cert.ReferenceIdeal.Gen Cert.ReferenceIdeal.Read Idealize.ShloMosaic Idealize.ShloMosaic.ValueIdx Cert.Meet

/-- A dequantised number by the reference's operations, its block's raw scale `pre` given. -/
def refFake (gs am pre t : E) : E :=
  Scalar.select (FloatOps.cmpf .ole am (lit 0x00000000#32)) (lit 0x00000000#32)
    (FloatOps.hostDivf (FloatOps.mulf (FloatOps.mulf
      (levelUp (FloatOps.minimumf (FloatOps.maximumf (FloatOps.hostAbsf (FloatOps.hostDivf (FloatOps.mulf t gs) (blockScale pre)))
        (lit 0x00000000#32)) (lit 0x40C00000#32)))
      (FloatOps.hostUnary .sign (FloatOps.hostDivf (FloatOps.mulf t gs) (blockScale pre))))
      (blockScale pre)) gs)

theorem refFake_eq (gs am t : E) : refFake gs am (rawScale gs am) t = fake gs am t := by
  have hs (y : E) : FloatOps.hostUnary .sign y = sgn y := (Ideal.jnp_sign_eq_sign_f32 y).symm
  have hm (y : E) : FloatOps.minimumf (FloatOps.maximumf (FloatOps.hostAbsf y) (lit 0x00000000#32)) (lit 0x40C00000#32) = mag y :=
    (min_comm (α := EReal) _ _).trans (congrArg (min (α := EReal) _) (max_comm (α := EReal) _ _))
  unfold refFake fake
  rw [hs, hm, levelUp_eq]
  rfl

/-- The dequantised numbers of tensor 1. -/
theorem dequantised1 (r0 : (⟨S8x4096x128, .f32⟩ : BufTy).Contents (Elt Ideal)) (e0 : (⟨S8x4096x2048, .f32⟩ : BufTy).Contents (Elt Ideal))
    (e1 : (⟨S8x1x1, .f32⟩ : BufTy).Contents (Elt Ideal)) (e2 : (⟨S8x4096x128, .f32⟩ : BufTy).Contents (Elt Ideal))
    (h : ∀ i, r0 i = rawScale (e1 (ix3 (i 0) 0 0)) (e2 i)) (i : S8x4096x128x16.Idx) :
    val_main_v93 (F := Ideal) r0 e0 e1 e2 i = fake (e1 (ix3 (i 0) 0 0)) (e2 (ix3 (i 0) (i 1) (i 2))) (e0 (idx_main_v37 i)) := by
  have a1 : idx_main_v38 (idx_main_v44 i) = ix3 (i 0) 0 0 := by funext a; fin_cases a <;> first | rfl | exact Subsingleton.elim (α := Fin 1) _ _
  have a2 : idx_main_v43 (idx_main_v46 i) = ix3 (i 0) (i 1) (i 2) := by funext a; fin_cases a <;> first | rfl | exact Subsingleton.elim (α := Fin 1) _ _
  have a3 : idx_main_v88 (idx_main_v91 i) = ix3 (i 0) (i 1) (i 2) := by funext a; fin_cases a <;> first | rfl | exact Subsingleton.elim (α := Fin 1) _ _
  simp only [val_main_v37_apply, val_main_v38_apply, val_main_cst_11_apply, val_main_v39_apply, val_main_v40_apply, val_main_cst_12_apply, val_main_v41_apply, val_main_v42_apply, val_main_v43_apply, val_main_v44_apply, val_main_v45_apply, val_main_v46_apply, val_main_v47_apply, val_main_v48_apply, val_main_v49_apply, val_main_cst_13_apply, val_main_v50_apply, val_main_v51_apply, val_main_cst_14_apply, val_main_v52_apply, val_main_v53_apply, val_main_cst_15_apply, val_main_v54_apply, val_main_cst_16_apply, val_main_v55_apply, val_main_v56_apply, val_main_cst_17_apply, val_main_v57_apply, val_main_v58_apply, val_main_cst_18_apply, val_main_v59_apply, val_main_v60_apply, val_main_cst_19_apply, val_main_v61_apply, val_main_v62_apply, val_main_cst_20_apply, val_main_v63_apply, val_main_v64_apply, val_main_cst_21_apply, val_main_v65_apply, val_main_v66_apply, val_main_cst_22_apply, val_main_v67_apply, val_main_v68_apply, val_main_cst_23_apply, val_main_v69_apply, val_main_v70_apply, val_main_cst_24_apply, val_main_v71_apply, val_main_v72_apply, val_main_cst_25_apply, val_main_v73_apply, val_main_v74_apply, val_main_cst_26_apply, val_main_v75_apply, val_main_v76_apply, val_main_cst_27_apply, val_main_v77_apply, val_main_v78_apply, val_main_cst_28_apply, val_main_v79_apply, val_main_v80_apply, val_main_cst_29_apply, val_main_v81_apply, val_main_v82_apply, val_main_v83_apply, val_main_v84_apply, val_main_v85_apply, val_main_v86_apply, val_main_v87_apply, val_main_v88_apply, val_main_cst_30_apply, val_main_v89_apply, val_main_v90_apply, val_main_v91_apply, val_main_cst_31_apply, val_main_v92_apply, val_main_v93_apply]
  have e : r0 (ix3 (i 0) (i 1) (i 2)) = _ := h (ix3 (i 0) (i 1) (i 2))
  refine Eq.trans ?_ ((congrArg (refFake _ _ · _) e).trans (refFake_eq _ _ _))
  have X := congr (congr (congrArg₂ refFake (congrArg e1 a1) (congrArg e2 a3)) (congrArg r0 a2)) (rfl : e0 (idx_main_v37 i) = e0 (idx_main_v37 i))
  refine Eq.trans ?_ X
  rfl

/-- Tensor 1 after its quantisation, at an index. -/
theorem restored1 (r0 : (⟨S8x4096x128, .f32⟩ : BufTy).Contents (Elt Ideal)) (e0 : (⟨S8x4096x2048, .f32⟩ : BufTy).Contents (Elt Ideal))
    (e1 : (⟨S8x1x1, .f32⟩ : BufTy).Contents (Elt Ideal)) (e2 : (⟨S8x4096x128, .f32⟩ : BufTy).Contents (Elt Ideal))
    (h : ∀ i, r0 i = rawScale (e1 (ix3 (i 0) 0 0)) (e2 i)) (e : Fin 8) (j : Fin 4096) (k : Fin 2048) (hr : Real (e0 (ix3 e j k)))
    : val_main_v96 (F := Ideal) r0 e0 e1 e2 (ix3 e j k)
      = fake (e1 (ix3 e 0 0)) (e2 (ix3 e j ⟨k.val / 16, by have := k.isLt; omega⟩)) (e0 (ix3 e j k)) := by
  have he := e.isLt
  have hj := j.isLt
  have hk := k.isLt
  have a0 : idx_main_v94 (ix3 e j k) = ix4 e j ⟨k.val / 16, by omega⟩ ⟨k.val % 16, by omega⟩ := by
    funext a
    fin_cases a <;> refine Fin.ext ?_
    · show ((e.val * 4096 + j.val) * 2048 + k.val) / 8388608 = e.val; omega
    · show ((e.val * 4096 + j.val) * 2048 + k.val) / 2048 % 4096 = j.val; omega
    · show ((e.val * 4096 + j.val) * 2048 + k.val) / 16 % 128 = k.val / 16; omega
    · show ((e.val * 4096 + j.val) * 2048 + k.val) % 16 = k.val % 16; omega
  have a1 : idx_main_v37 (ix4 e j ⟨k.val / 16, by omega⟩ ⟨k.val % 16, by omega⟩) = ix3 e j k := by
    funext a
    fin_cases a <;> refine Fin.ext ?_
    · show (((e.val * 4096 + j.val) * 128 + k.val / 16) * 16 + k.val % 16) / 8388608 = e.val; omega
    · show (((e.val * 4096 + j.val) * 128 + k.val / 16) * 16 + k.val % 16) / 2048 % 4096 = j.val; omega
    · show (((e.val * 4096 + j.val) * 128 + k.val / 16) * 16 + k.val % 16) % 2048 = k.val; omega
  rw [val_main_v96_apply, val_main_v95_apply, val_main_v94_apply, dequantised1 _ _ _ _ h, a0, a1]
  exact add_sub_of_real hr _

/-- The dequantised numbers of tensor 2. -/
theorem dequantised2 (r1 : (⟨S8x2048x128, .f32⟩ : BufTy).Contents (Elt Ideal)) (e3 : (⟨S8x2048x2048, .f32⟩ : BufTy).Contents (Elt Ideal))
    (e4 : (⟨S8x1x1, .f32⟩ : BufTy).Contents (Elt Ideal)) (e5 : (⟨S8x2048x128, .f32⟩ : BufTy).Contents (Elt Ideal))
    (h : ∀ i, r1 i = rawScale (e4 (ix3 (i 0) 0 0)) (e5 i)) (i : S8x2048x128x16.Idx) :
    val_main_v153 (F := Ideal) r1 e3 e4 e5 i = fake (e4 (ix3 (i 0) 0 0)) (e5 (ix3 (i 0) (i 1) (i 2))) (e3 (idx_main_v97 i)) := by
  have a1 : idx_main_v98 (idx_main_v104 i) = ix3 (i 0) 0 0 := by funext a; fin_cases a <;> first | rfl | exact Subsingleton.elim (α := Fin 1) _ _
  have a2 : idx_main_v103 (idx_main_v106 i) = ix3 (i 0) (i 1) (i 2) := by funext a; fin_cases a <;> first | rfl | exact Subsingleton.elim (α := Fin 1) _ _
  have a3 : idx_main_v148 (idx_main_v151 i) = ix3 (i 0) (i 1) (i 2) := by funext a; fin_cases a <;> first | rfl | exact Subsingleton.elim (α := Fin 1) _ _
  simp only [val_main_v97_apply, val_main_v98_apply, val_main_cst_32_apply, val_main_v99_apply, val_main_v100_apply, val_main_cst_33_apply, val_main_v101_apply, val_main_v102_apply, val_main_v103_apply, val_main_v104_apply, val_main_v105_apply, val_main_v106_apply, val_main_v107_apply, val_main_v108_apply, val_main_v109_apply, val_main_cst_34_apply, val_main_v110_apply, val_main_v111_apply, val_main_cst_35_apply, val_main_v112_apply, val_main_v113_apply, val_main_cst_36_apply, val_main_v114_apply, val_main_cst_37_apply, val_main_v115_apply, val_main_v116_apply, val_main_cst_38_apply, val_main_v117_apply, val_main_v118_apply, val_main_cst_39_apply, val_main_v119_apply, val_main_v120_apply, val_main_cst_40_apply, val_main_v121_apply, val_main_v122_apply, val_main_cst_41_apply, val_main_v123_apply, val_main_v124_apply, val_main_cst_42_apply, val_main_v125_apply, val_main_v126_apply, val_main_cst_43_apply, val_main_v127_apply, val_main_v128_apply, val_main_cst_44_apply, val_main_v129_apply, val_main_v130_apply, val_main_cst_45_apply, val_main_v131_apply, val_main_v132_apply, val_main_cst_46_apply, val_main_v133_apply, val_main_v134_apply, val_main_cst_47_apply, val_main_v135_apply, val_main_v136_apply, val_main_cst_48_apply, val_main_v137_apply, val_main_v138_apply, val_main_cst_49_apply, val_main_v139_apply, val_main_v140_apply, val_main_cst_50_apply, val_main_v141_apply, val_main_v142_apply, val_main_v143_apply, val_main_v144_apply, val_main_v145_apply, val_main_v146_apply, val_main_v147_apply, val_main_v148_apply, val_main_cst_51_apply, val_main_v149_apply, val_main_v150_apply, val_main_v151_apply, val_main_cst_52_apply, val_main_v152_apply, val_main_v153_apply]
  have e : r1 (ix3 (i 0) (i 1) (i 2)) = _ := h (ix3 (i 0) (i 1) (i 2))
  refine Eq.trans ?_ ((congrArg (refFake _ _ · _) e).trans (refFake_eq _ _ _))
  have X := congr (congr (congrArg₂ refFake (congrArg e4 a1) (congrArg e5 a3)) (congrArg r1 a2)) (rfl : e3 (idx_main_v97 i) = e3 (idx_main_v97 i))
  refine Eq.trans ?_ X
  rfl

/-- Tensor 2 after its quantisation, at an index. -/
theorem restored2 (r1 : (⟨S8x2048x128, .f32⟩ : BufTy).Contents (Elt Ideal)) (e3 : (⟨S8x2048x2048, .f32⟩ : BufTy).Contents (Elt Ideal))
    (e4 : (⟨S8x1x1, .f32⟩ : BufTy).Contents (Elt Ideal)) (e5 : (⟨S8x2048x128, .f32⟩ : BufTy).Contents (Elt Ideal))
    (h : ∀ i, r1 i = rawScale (e4 (ix3 (i 0) 0 0)) (e5 i)) (e : Fin 8) (j : Fin 2048) (k : Fin 2048) (hr : Real (e3 (ix3 e j k)))
    : val_main_v156 (F := Ideal) r1 e3 e4 e5 (ix3 e j k)
      = fake (e4 (ix3 e 0 0)) (e5 (ix3 e j ⟨k.val / 16, by have := k.isLt; omega⟩)) (e3 (ix3 e j k)) := by
  have he := e.isLt
  have hj := j.isLt
  have hk := k.isLt
  have a0 : idx_main_v154 (ix3 e j k) = ix4 e j ⟨k.val / 16, by omega⟩ ⟨k.val % 16, by omega⟩ := by
    funext a
    fin_cases a <;> refine Fin.ext ?_
    · show ((e.val * 2048 + j.val) * 2048 + k.val) / 4194304 = e.val; omega
    · show ((e.val * 2048 + j.val) * 2048 + k.val) / 2048 % 2048 = j.val; omega
    · show ((e.val * 2048 + j.val) * 2048 + k.val) / 16 % 128 = k.val / 16; omega
    · show ((e.val * 2048 + j.val) * 2048 + k.val) % 16 = k.val % 16; omega
  have a1 : idx_main_v97 (ix4 e j ⟨k.val / 16, by omega⟩ ⟨k.val % 16, by omega⟩) = ix3 e j k := by
    funext a
    fin_cases a <;> refine Fin.ext ?_
    · show (((e.val * 2048 + j.val) * 128 + k.val / 16) * 16 + k.val % 16) / 4194304 = e.val; omega
    · show (((e.val * 2048 + j.val) * 128 + k.val / 16) * 16 + k.val % 16) / 2048 % 2048 = j.val; omega
    · show (((e.val * 2048 + j.val) * 128 + k.val / 16) * 16 + k.val % 16) % 2048 = k.val; omega
  rw [val_main_v156_apply, val_main_v155_apply, val_main_v154_apply, dequantised2 _ _ _ _ h, a0, a1]
  exact add_sub_of_real hr _

/-- The dequantised numbers of tensor 3. -/
theorem dequantised3 (r2 : (⟨S1x2048x128, .f32⟩ : BufTy).Contents (Elt Ideal)) (e6 : (⟨S1x2048x2048, .f32⟩ : BufTy).Contents (Elt Ideal))
    (e7 : (⟨S1x1x1, .f32⟩ : BufTy).Contents (Elt Ideal)) (e8 : (⟨S1x2048x128, .f32⟩ : BufTy).Contents (Elt Ideal))
    (h : ∀ i, r2 i = rawScale (e7 (ix3 (i 0) 0 0)) (e8 i)) (i : S1x2048x128x16.Idx) :
    val_main_v213 (F := Ideal) r2 e6 e7 e8 i = fake (e7 (ix3 (i 0) 0 0)) (e8 (ix3 (i 0) (i 1) (i 2))) (e6 (idx_main_v157 i)) := by
  have a1 : idx_main_v158 (idx_main_v164 i) = ix3 (i 0) 0 0 := by funext a; fin_cases a <;> first | rfl | exact Subsingleton.elim (α := Fin 1) _ _
  have a2 : idx_main_v163 (idx_main_v166 i) = ix3 (i 0) (i 1) (i 2) := by funext a; fin_cases a <;> first | rfl | exact Subsingleton.elim (α := Fin 1) _ _
  have a3 : idx_main_v208 (idx_main_v211 i) = ix3 (i 0) (i 1) (i 2) := by funext a; fin_cases a <;> first | rfl | exact Subsingleton.elim (α := Fin 1) _ _
  simp only [val_main_v157_apply, val_main_v158_apply, val_main_cst_53_apply, val_main_v159_apply, val_main_v160_apply, val_main_cst_54_apply, val_main_v161_apply, val_main_v162_apply, val_main_v163_apply, val_main_v164_apply, val_main_v165_apply, val_main_v166_apply, val_main_v167_apply, val_main_v168_apply, val_main_v169_apply, val_main_cst_55_apply, val_main_v170_apply, val_main_v171_apply, val_main_cst_56_apply, val_main_v172_apply, val_main_v173_apply, val_main_cst_57_apply, val_main_v174_apply, val_main_cst_58_apply, val_main_v175_apply, val_main_v176_apply, val_main_cst_59_apply, val_main_v177_apply, val_main_v178_apply, val_main_cst_60_apply, val_main_v179_apply, val_main_v180_apply, val_main_cst_61_apply, val_main_v181_apply, val_main_v182_apply, val_main_cst_62_apply, val_main_v183_apply, val_main_v184_apply, val_main_cst_63_apply, val_main_v185_apply, val_main_v186_apply, val_main_cst_64_apply, val_main_v187_apply, val_main_v188_apply, val_main_cst_65_apply, val_main_v189_apply, val_main_v190_apply, val_main_cst_66_apply, val_main_v191_apply, val_main_v192_apply, val_main_cst_67_apply, val_main_v193_apply, val_main_v194_apply, val_main_cst_68_apply, val_main_v195_apply, val_main_v196_apply, val_main_cst_69_apply, val_main_v197_apply, val_main_v198_apply, val_main_cst_70_apply, val_main_v199_apply, val_main_v200_apply, val_main_cst_71_apply, val_main_v201_apply, val_main_v202_apply, val_main_v203_apply, val_main_v204_apply, val_main_v205_apply, val_main_v206_apply, val_main_v207_apply, val_main_v208_apply, val_main_cst_72_apply, val_main_v209_apply, val_main_v210_apply, val_main_v211_apply, val_main_cst_73_apply, val_main_v212_apply, val_main_v213_apply]
  have e : r2 (ix3 (i 0) (i 1) (i 2)) = _ := h (ix3 (i 0) (i 1) (i 2))
  refine Eq.trans ?_ ((congrArg (refFake _ _ · _) e).trans (refFake_eq _ _ _))
  have X := congr (congr (congrArg₂ refFake (congrArg e7 a1) (congrArg e8 a3)) (congrArg r2 a2)) (rfl : e6 (idx_main_v157 i) = e6 (idx_main_v157 i))
  refine Eq.trans ?_ X
  rfl

/-- Tensor 3 after its quantisation, at an index. -/
theorem restored3 (r2 : (⟨S1x2048x128, .f32⟩ : BufTy).Contents (Elt Ideal)) (e6 : (⟨S1x2048x2048, .f32⟩ : BufTy).Contents (Elt Ideal))
    (e7 : (⟨S1x1x1, .f32⟩ : BufTy).Contents (Elt Ideal)) (e8 : (⟨S1x2048x128, .f32⟩ : BufTy).Contents (Elt Ideal))
    (h : ∀ i, r2 i = rawScale (e7 (ix3 (i 0) 0 0)) (e8 i)) (e : Fin 1) (j : Fin 2048) (k : Fin 2048) (hr : Real (e6 (ix3 e j k)))
    : val_main_v216 (F := Ideal) r2 e6 e7 e8 (ix3 e j k)
      = fake (e7 (ix3 e 0 0)) (e8 (ix3 e j ⟨k.val / 16, by have := k.isLt; omega⟩)) (e6 (ix3 e j k)) := by
  have he := e.isLt
  have hj := j.isLt
  have hk := k.isLt
  have a0 : idx_main_v214 (ix3 e j k) = ix4 e j ⟨k.val / 16, by omega⟩ ⟨k.val % 16, by omega⟩ := by
    funext a
    fin_cases a <;> refine Fin.ext ?_
    · show (0 : ℕ) = e.val; omega
    · show ((e.val * 2048 + j.val) * 2048 + k.val) / 2048 % 2048 = j.val; omega
    · show ((e.val * 2048 + j.val) * 2048 + k.val) / 16 % 128 = k.val / 16; omega
    · show ((e.val * 2048 + j.val) * 2048 + k.val) % 16 = k.val % 16; omega
  have a1 : idx_main_v157 (ix4 e j ⟨k.val / 16, by omega⟩ ⟨k.val % 16, by omega⟩) = ix3 e j k := by
    funext a
    fin_cases a <;> refine Fin.ext ?_
    · show (0 : ℕ) = e.val; omega
    · show (((e.val * 2048 + j.val) * 128 + k.val / 16) * 16 + k.val % 16) / 2048 % 2048 = j.val; omega
    · show (((e.val * 2048 + j.val) * 128 + k.val / 16) * 16 + k.val % 16) % 2048 = k.val; omega
  rw [val_main_v216_apply, val_main_v215_apply, val_main_v214_apply, dequantised3 _ _ _ _ h, a0, a1]
  exact add_sub_of_real hr _

end Cert.ReferenceIdeal.Whole
-- ==== Proof.RefInputs.lean ====
/- The reference's scales and block maxima at an index, from its arguments. -/
module

public import proofs.«01_k».proof.Proof.RefQuant
public import proofs.«01_k».proof.Proof.KernelReads
public import Idealize.ShloMosaic.Lib.KernelVsHost

@[expose] public section

set_option maxRecDepth 16384

noncomputable section

namespace Cert.ReferenceIdeal.Whole

open Cert.ReferenceIdeal Cert.ReferenceIdeal.Gen Cert.ReferenceIdeal.Read Idealize.ShloMosaic Idealize.ShloMosaic.ValueIdx Cert.Meet
open Cert.KernelIdeal.Whole (supAbs supAbs_le)

/-- A maximum of magnitudes over some axes is the largest magnitude of any family of the same numbers. -/
theorem hostMax {s t : Shape} {axes : List (Fin s.rank)} (x : FVec Ideal s .f32) (h : s.ReducesTo axes t) (h' : s.Reduces axes t) (j : t.Idx)
    {ι : Type} (g : ι → E) (hto : ∀ i, h'.drop i = j → ∃ b, x i = g b) (hfrom : ∀ b, ∃ i, h'.drop i = j ∧ x i = g b) :
    Host.reduce FloatOps.maximumf (Host.absf x) (constant S_ .f32 0xFF800000#32) h h_S_ j = supAbs g := by
  have e := congrFun (hostReduce_maximumf_eq_multiReduction (φ := .f32) (Host.absf x) 0xFF800000#32 h h_S_ h' (.inl rfl) rfl) j
  refine e.trans ?_
  refine eq_of_forall_ge_iff (α := EReal) fun b => ?_
  refine (iff_of_eq (congrArg (fun q : EReal => q ≤ b) (multiReduction_maximumf_eq_fold (F := Ideal) (φ := .f32) (Host.absf x) 0xFF800000#32 h' (.inl rfl) rfl j))).trans ?_
  refine (fold_max_le _ _ b).trans ?_
  rw [supAbs_le]
  constructor
  · intro H q
    obtain ⟨i, hi, e⟩ := hfrom q
    rw [← e]
    exact H i (Finset.mem_filter.mpr ⟨Finset.mem_univ _, hi⟩)
  · intro H i hi
    obtain ⟨q, e⟩ := hto i (Finset.mem_filter.mp hi).2
    show FloatOps.absf (F := Ideal) (φ := .f32) (x i) ≤ b
    rw [e]
    exact H q

theorem red12 : S8x4096x2048.Reduces [1, 2] S8 := by decide
theorem red12b : S8x2048x2048.Reduces [1, 2] S8 := by decide
theorem red12c : S1x2048x2048.Reduces [1, 2] S1 := by decide
theorem red3 : S8x4096x128x16.Reduces [3] S8x4096x128 := by decide
theorem red3b : S8x2048x128x16.Reduces [3] S8x2048x128 := by decide
theorem red3c : S1x2048x128x16.Reduces [3] S1x2048x128 := by decide

theorem drop12 (i : S8x4096x2048.Idx) : red12.drop i = ix1 (i 0) := by
  funext a; fin_cases a; rfl
theorem drop3 (i : S8x4096x128x16.Idx) : red3.drop i = ix3 (i 0) (i 1) (i 2) := by
  funext a; fin_cases a <;> rfl

theorem scale8 (red : (⟨S8, .f32⟩ : BufTy).Contents (Elt Ideal)) (e : Fin 8) :
    Host.divf (broadcastInDim S8x1x1 ![] bcast_S_S8x1x1 (constant S_ .f32 0x45280000#32)) (maximumf (broadcastInDim S8x1x1 ![0] bcast_S8_S8x1x1_0 red)
      (broadcastInDim S8x1x1 ![] bcast_S_S8x1x1 (constant S_ .f32 0x2B8CBCCC#32))) (ix3 e 0 0) = tensorScale (red (ix1 e)) := by
  have a : broadcastInDim S8x1x1 ![0] bcast_S8_S8x1x1_0 red (ix3 e 0 0) = red (ix1 e) :=
    congrArg red (by funext b; fin_cases b; rfl)
  exact congrArg (fun q : E => FloatOps.divf (lit 0x45280000#32) (FloatOps.maximumf q (lit 0x2B8CBCCC#32))) a

/-- The gate-and-up weights as the reference lays them out: the odd columns as rows first, then the even ones. -/
abbrev W13 (A1 : (⟨S8x2048x4096, .f32⟩ : BufTy).Contents (Elt Ideal)) : (⟨S8x4096x2048, .f32⟩ : BufTy).Contents (Elt Ideal) :=
  transpose S8x4096x2048 [0, 2, 1] (concatenate S8x2048x4096 2 [⟨S8x2048x2048, (Host.slice S8x2048x2048 ![0, 0, 1] ![1, 1, 2] A1 slicesBy_S8x2048x4096_S8x2048x2048_0s1_0s1_1s2)⟩, ⟨S8x2048x2048, (Host.slice S8x2048x2048 ![0, 0, 0] ![1, 1, 2] A1 slicesBy_S8x2048x4096_S8x2048x2048_0s1_0s1_0s2)⟩] concatenates_S8x2048x2048_S8x2048x2048_S8x2048x4096_d2) transposes_S8x2048x4096_S8x4096x2048_0_2_1

theorem W13_up (A1 : (⟨S8x2048x4096, .f32⟩ : BufTy).Contents (Elt Ideal)) (e : Fin 8) (j k : Fin 2048) :
    W13 A1 (ix3 e ⟨j.val, by have := j.isLt; omega⟩ k) = A1 (ix3 e k ⟨2 * j.val + 1, by have := j.isLt; omega⟩) := by
  have hj := j.isLt
  refine (transpose_apply (s := S8x2048x4096) _ _ _ _ (ix3 e k ⟨j.val, by omega⟩) (by intro b; fin_cases b <;> rfl)).trans ?_
  refine (concatenate_pair_apply_left (t := S8x2048x4096) (s₁ := S8x2048x2048) (s₂ := S8x2048x2048) 2 _ _ _ _ rfl (ix3 e k j) (by intro b; fin_cases b <;> rfl)).trans ?_
  refine congrArg A1 ?_
  funext b
  fin_cases b <;> refine Fin.ext ?_
  · show 0 + 1 * e.val = e.val; omega
  · show 0 + 1 * k.val = k.val; omega
  · show 1 + 2 * j.val = 2 * j.val + 1; omega

theorem W13_gate (A1 : (⟨S8x2048x4096, .f32⟩ : BufTy).Contents (Elt Ideal)) (e : Fin 8) (j k : Fin 2048) :
    W13 A1 (ix3 e ⟨2048 + j.val, by have := j.isLt; omega⟩ k) = A1 (ix3 e k ⟨2 * j.val, by have := j.isLt; omega⟩) := by
  have hj := j.isLt
  refine (transpose_apply (s := S8x2048x4096) _ _ _ _ (ix3 e k ⟨2048 + j.val, by omega⟩) (by intro b; fin_cases b <;> rfl)).trans ?_
  refine (concatenate_pair_apply_right (t := S8x2048x4096) (s₁ := S8x2048x2048) (s₂ := S8x2048x2048) 2 _ _ _ _ rfl rfl (ix3 e k j) (by intro b hb; fin_cases b <;> first | rfl | exact absurd rfl hb)
    (by show j.val + 2048 = 2048 + j.val; omega)).trans ?_
  refine congrArg A1 ?_
  funext b
  fin_cases b <;> refine Fin.ext ?_
  · show 0 + 1 * e.val = e.val; omega
  · show 0 + 1 * k.val = k.val; omega
  · show 0 + 2 * j.val = 2 * j.val; omega

theorem drop12b (i : S8x2048x2048.Idx) : red12b.drop i = ix1 (i 0) := by
  funext a; fin_cases a; rfl
theorem drop12c (i : S1x2048x2048.Idx) : red12c.drop i = ix1 (i 0) := by
  funext a; fin_cases a; rfl
theorem drop3b (i : S8x2048x128x16.Idx) : red3b.drop i = ix3 (i 0) (i 1) (i 2) := by
  funext a; fin_cases a <;> rfl
theorem drop3c (i : S1x2048x128x16.Idx) : red3c.drop i = ix3 (i 0) (i 1) (i 2) := by
  funext a; fin_cases a <;> rfl

theorem ix3_eta {a b c : ℕ} (i : (⟨3, ![a, b, c]⟩ : Shape).Idx) : i = ix3 (i 0) (i 1) (i 2) := by
  funext x; fin_cases x <;> rfl
theorem ix4_eta {a b c d : ℕ} (i : (⟨4, ![a, b, c, d]⟩ : Shape).Idx) : i = ix4 (i 0) (i 1) (i 2) (i 3) := by
  funext x; fin_cases x <;> rfl

/-- The largest magnitude of an expert's matrix, laid out any way. -/
theorem amaxW13 (A1 : (⟨S8x2048x4096, .f32⟩ : BufTy).Contents (Elt Ideal)) (e : Fin 8) :
    Host.reduce FloatOps.maximumf (Host.absf (W13 A1)) (constant S_ .f32 0xFF800000#32) reducesTo_S8x4096x2048_S8_d1_2 h_S_ (ix1 e)
      = supAbs fun p : Fin 2048 × Fin 4096 => A1 (ix3 e p.1 p.2) := by
  refine hostMax (W13 A1) _ red12 (ix1 e) (fun p : Fin 2048 × Fin 4096 => A1 (ix3 e p.1 p.2)) (fun i hi => ?_) (fun p => ?_)
  · have he : i 0 = e := congrFun ((drop12 i).symm.trans hi) 0
    have h1 : (i 1).val < 4096 := (i 1).isLt
    rw [ix3_eta i, he]
    by_cases hlt : (i 1).val < 2048
    · refine ⟨(i 2, ⟨2 * (i 1).val + 1, by omega⟩), ?_⟩
      exact W13_up A1 e ⟨(i 1).val, hlt⟩ (i 2)
    · refine ⟨(i 2, ⟨2 * ((i 1).val - 2048), by omega⟩), ?_⟩
      refine Eq.trans (congrArg (fun q : Fin 4096 => W13 A1 (ix3 e q (i 2))) (Fin.ext ?_)) (W13_gate A1 e ⟨(i 1).val - 2048, by omega⟩ (i 2))
      show (i 1).val = 2048 + ((i 1).val - 2048)
      omega
  · obtain ⟨k, l⟩ := p
    have hl := l.isLt
    by_cases hodd : l.val % 2 = 1
    · refine ⟨ix3 e ⟨l.val / 2, by omega⟩ k, drop12 _, ?_⟩
      refine (W13_up A1 e ⟨l.val / 2, by omega⟩ k).trans (congrArg (fun q => A1 (ix3 e k q)) (Fin.ext ?_))
      show 2 * (l.val / 2) + 1 = l.val
      omega
    · refine ⟨ix3 e ⟨2048 + l.val / 2, by omega⟩ k, drop12 _, ?_⟩
      refine (W13_gate A1 e ⟨l.val / 2, by omega⟩ k).trans (congrArg (fun q => A1 (ix3 e k q)) (Fin.ext ?_))
      show 2 * (l.val / 2) = l.val
      omega

/-- A row's block of sixteen. -/
abbrev sixteen (b : Fin 128) (t : Fin 16) : Fin 2048 := ⟨16 * b.val + t.val, by have := b.isLt; have := t.isLt; omega⟩

theorem blocks1 (x : (⟨S8x4096x2048, .f32⟩ : BufTy).Contents (Elt Ideal)) (e : Fin 8) (j : Fin 4096) (b : Fin 128) :
    Host.reduce FloatOps.maximumf (Host.absf (shapeCast S8x4096x128x16 x shapeCasts_S8x4096x2048_S8x4096x128x16)) (constant S_ .f32 0xFF800000#32) reducesTo_S8x4096x128x16_S8x4096x128_d3 h_S_ (ix3 e j b)
      = supAbs fun t : Fin 16 => x (ix3 e j (sixteen b t)) := by
  have key (t : Fin 16) : shapeCast S8x4096x128x16 x shapeCasts_S8x4096x2048_S8x4096x128x16 (ix4 e j b t) = x (ix3 e j (sixteen b t)) :=
    shapeCast_apply x _ _ _ (by
      rewrite [Shape.rowMajor_val_three, Shape.rowMajor_val_four]
      show (e.val * 4096 + j.val) * 2048 + (16 * b.val + t.val) = ((e.val * 4096 + j.val) * 128 + b.val) * 16 + t.val
      omega)
  refine hostMax _ _ red3 (ix3 e j b) (fun t : Fin 16 => x (ix3 e j (sixteen b t))) (fun i hi => ?_) (fun t => ⟨ix4 e j b t, drop3 _, key t⟩)
  have h := (drop3 i).symm.trans hi
  have h0 : i 0 = e := congrFun h 0
  have h1 : i 1 = j := congrFun h 1
  have h2 : i 2 = b := congrFun h 2
  refine ⟨i 3, ?_⟩
  rw [ix4_eta i, h0, h1, h2]
  exact key (i 3)

/-- The down weights as the reference lays them out. -/
abbrev W2 (A3 : (⟨S8x2048x2048, .f32⟩ : BufTy).Contents (Elt Ideal)) : (⟨S8x2048x2048, .f32⟩ : BufTy).Contents (Elt Ideal) :=
  transpose S8x2048x2048 [0, 2, 1] A3 transposes_S8x2048x2048_S8x2048x2048_0_2_1

theorem W2_at (A3 : (⟨S8x2048x2048, .f32⟩ : BufTy).Contents (Elt Ideal)) (e : Fin 8) (j k : Fin 2048) : W2 A3 (ix3 e j k) = A3 (ix3 e k j) :=
  transpose_apply (s := S8x2048x2048) _ _ _ _ (ix3 e k j) (by intro b; fin_cases b <;> rfl)

/-- The activations as the reference lays them out. -/
abbrev X1 (A0 : (⟨S2048x2048, .f32⟩ : BufTy).Contents (Elt Ideal)) : (⟨S1x2048x2048, .f32⟩ : BufTy).Contents (Elt Ideal) :=
  broadcastInDim S1x2048x2048 ![1, 2] bcast_S2048x2048_S1x2048x2048_1_2 A0

theorem X1_at (A0 : (⟨S2048x2048, .f32⟩ : BufTy).Contents (Elt Ideal)) (e : Fin 1) (j k : Fin 2048) : X1 A0 (ix3 e j k) = A0 (ix2 j k) :=
  congrArg A0 (by funext b; fin_cases b <;> rfl)

theorem amaxW2 (A3 : (⟨S8x2048x2048, .f32⟩ : BufTy).Contents (Elt Ideal)) (e : Fin 8) :
    Host.reduce FloatOps.maximumf (Host.absf (W2 A3)) (constant S_ .f32 0xFF800000#32) reducesTo_S8x2048x2048_S8_d1_2 h_S_ (ix1 e)
      = supAbs fun p : Fin 2048 × Fin 2048 => A3 (ix3 e p.1 p.2) := by
  refine hostMax (W2 A3) _ red12b (ix1 e) (fun p : Fin 2048 × Fin 2048 => A3 (ix3 e p.1 p.2)) (fun i hi => ?_) (fun p => ?_)
  · have he : i 0 = e := congrFun ((drop12b i).symm.trans hi) 0
    rw [ix3_eta i, he]
    exact ⟨(i 2, i 1), W2_at A3 e (i 1) (i 2)⟩
  · exact ⟨ix3 e p.2 p.1, drop12b _, W2_at A3 e p.2 p.1⟩

theorem amaxX1 (A0 : (⟨S2048x2048, .f32⟩ : BufTy).Contents (Elt Ideal)) (e : Fin 1) :
    Host.reduce FloatOps.maximumf (Host.absf (X1 A0)) (constant S_ .f32 0xFF800000#32) reducesTo_S1x2048x2048_S1_d1_2 h_S_ (ix1 e)
      = supAbs fun p : Fin 2048 × Fin 2048 => A0 (ix2 p.2 p.1) := by
  refine hostMax (X1 A0) _ red12c (ix1 e) (fun p : Fin 2048 × Fin 2048 => A0 (ix2 p.2 p.1)) (fun i hi => ?_) (fun p => ?_)
  · rw [ix3_eta i]
    exact ⟨(i 2, i 1), X1_at A0 (i 0) (i 1) (i 2)⟩
  · exact ⟨ix3 e p.2 p.1, drop12c _, X1_at A0 e p.2 p.1⟩

theorem blocks2 (x : (⟨S8x2048x2048, .f32⟩ : BufTy).Contents (Elt Ideal)) (e : Fin 8) (j : Fin 2048) (b : Fin 128) :
    Host.reduce FloatOps.maximumf (Host.absf (shapeCast S8x2048x128x16 x shapeCasts_S8x2048x2048_S8x2048x128x16)) (constant S_ .f32 0xFF800000#32) reducesTo_S8x2048x128x16_S8x2048x128_d3 h_S_ (ix3 e j b)
      = supAbs fun t : Fin 16 => x (ix3 e j (sixteen b t)) := by
  have key (t : Fin 16) : shapeCast S8x2048x128x16 x shapeCasts_S8x2048x2048_S8x2048x128x16 (ix4 e j b t) = x (ix3 e j (sixteen b t)) :=
    shapeCast_apply x _ _ _ (by
      rewrite [Shape.rowMajor_val_three, Shape.rowMajor_val_four]
      show (e.val * 2048 + j.val) * 2048 + (16 * b.val + t.val) = ((e.val * 2048 + j.val) * 128 + b.val) * 16 + t.val
      omega)
  refine hostMax _ _ red3b (ix3 e j b) (fun t : Fin 16 => x (ix3 e j (sixteen b t))) (fun i hi => ?_) (fun t => ⟨ix4 e j b t, drop3b _, key t⟩)
  have h := (drop3b i).symm.trans hi
  have h0 : i 0 = e := congrFun h 0
  have h1 : i 1 = j := congrFun h 1
  have h2 : i 2 = b := congrFun h 2
  refine ⟨i 3, ?_⟩
  rw [ix4_eta i, h0, h1, h2]
  exact key (i 3)

theorem blocks3 (x : (⟨S1x2048x2048, .f32⟩ : BufTy).Contents (Elt Ideal)) (e : Fin 1) (j : Fin 2048) (b : Fin 128) :
    Host.reduce FloatOps.maximumf (Host.absf (shapeCast S1x2048x128x16 x shapeCasts_S1x2048x2048_S1x2048x128x16)) (constant S_ .f32 0xFF800000#32) reducesTo_S1x2048x128x16_S1x2048x128_d3 h_S_ (ix3 e j b)
      = supAbs fun t : Fin 16 => x (ix3 e j (sixteen b t)) := by
  have key (t : Fin 16) : shapeCast S1x2048x128x16 x shapeCasts_S1x2048x2048_S1x2048x128x16 (ix4 e j b t) = x (ix3 e j (sixteen b t)) :=
    shapeCast_apply x _ _ _ (by
      rewrite [Shape.rowMajor_val_three, Shape.rowMajor_val_four]
      show (e.val * 2048 + j.val) * 2048 + (16 * b.val + t.val) = ((e.val * 2048 + j.val) * 128 + b.val) * 16 + t.val
      omega)
  refine hostMax _ _ red3c (ix3 e j b) (fun t : Fin 16 => x (ix3 e j (sixteen b t))) (fun i hi => ?_) (fun t => ⟨ix4 e j b t, drop3c _, key t⟩)
  have h := (drop3c i).symm.trans hi
  have h0 : i 0 = e := congrFun h 0
  have h1 : i 1 = j := congrFun h 1
  have h2 : i 2 = b := congrFun h 2
  refine ⟨i 3, ?_⟩
  rw [ix4_eta i, h0, h1, h2]
  exact key (i 3)

theorem scale1 (red : (⟨S1, .f32⟩ : BufTy).Contents (Elt Ideal)) (e : Fin 1) :
    Host.divf (broadcastInDim S1x1x1 ![] bcast_S_S1x1x1 (constant S_ .f32 0x45280000#32)) (maximumf (broadcastInDim S1x1x1 ![0] bcast_S1_S1x1x1_0 red)
      (broadcastInDim S1x1x1 ![] bcast_S_S1x1x1 (constant S_ .f32 0x2B8CBCCC#32))) (ix3 e 0 0) = tensorScale (red (ix1 e)) := by
  have a : broadcastInDim S1x1x1 ![0] bcast_S1_S1x1x1_0 red (ix3 e 0 0) = red (ix1 e) :=
    congrArg red (by funext b; fin_cases b; exact Subsingleton.elim (α := Fin 1) _ _)
  exact congrArg (fun q : E => FloatOps.divf (lit 0x45280000#32) (FloatOps.maximumf q (lit 0x2B8CBCCC#32))) a

end Cert.ReferenceIdeal.Whole
-- ==== Proof.RefRegion.lean ====
/- The raw block scales the reference's first call leaves, at an index. -/
module

public import proofs.«01_k».proof.Proof.RefInputs
public import Idealize.ShloMosaic.Lib.Pipeline.ValueKit.Geometry
public import Idealize.ShloMosaic.Lib.Pipeline.ValueKit.Basic

@[expose] public section

set_option maxRecDepth 16384

noncomputable section

namespace Cert.ReferenceIdeal.Whole

open Cert.ReferenceIdeal Cert.ReferenceIdeal.Gen Cert.ReferenceIdeal.Read Idealize.ShloMosaic Idealize.ShloMosaic.ValueIdx Idealize.ShloMosaic.TcCoe Cert.Meet

/-- What the body stores, whole pieces loaded whole. -/
theorem out6_eq {F : FTy → Type} [FloatOps F] (x0 x1 x2 x3 x4 x5) : out0_6 (F := F) x0 x1 x2 x3 x4 x5 = k0_pay2 x0 x1 := by
  unfold out0_6
  rw [View.canon_cons_unit_lit _ _ _ (by decide), View.ld_unit_lit _ _ (by decide), View.ld_unit_lit _ _ (by decide)]
theorem out7_eq {F : FTy → Type} [FloatOps F] (x0 x1 x2 x3 x4 x5) : out0_7 (F := F) x0 x1 x2 x3 x4 x5 = k0_pay3 x2 x3 := by
  unfold out0_7
  rw [View.canon_cons_unit_lit _ _ _ (by decide), View.ld_unit_lit _ _ (by decide), View.ld_unit_lit _ _ (by decide)]
theorem out8_eq {F : FTy → Type} [FloatOps F] (x0 x1 x2 x3 x4 x5) : out0_8 (F := F) x0 x1 x2 x3 x4 x5 = k0_pay1 (k0_pay4 x4 x5) := by
  unfold out0_8
  rw [View.canon_cons_unit_lit _ _ _ (by decide), View.ld_unit_lit _ _ (by decide), View.ld_unit_lit _ _ (by decide)]

section
variable {F : FTy → Type} [FloatOps F] (m : (ℓ : Loc nD τ sig) → Buf (Elt F) ℓ) (c : Dev nD)

theorem read0 (t : Fin cfg0.N) (A : Vec F S8x4096x128 .f32) : ((cfg0.win 0).blk t).view.read (Elt F) A = A :=
  funext fun y => congrArg A (funext fun a => Fin.ext (Pipeline.Window.rect_emb_val_of_index_zero win0_0 t a rfl y))
theorem block0 (t : Fin cfg0.N) : iblk m c 0 t = V m c main_v29 := by
  unfold iblk
  exact read0 t (V m c main_v29)
theorem read1 (t : Fin cfg0.N) (A : Vec F S8x1x1 .f32) : ((cfg0.win 1).blk t).view.read (Elt F) A = A :=
  funext fun y => congrArg A (funext fun a => Fin.ext (Pipeline.Window.rect_emb_val_of_index_zero win0_1 t a rfl y))
theorem block1 (t : Fin cfg0.N) : iblk m c 1 t = V m c main_v12 := by
  unfold iblk
  exact read1 t (V m c main_v12)
theorem read2 (t : Fin cfg0.N) (A : Vec F S8x2048x128 .f32) : ((cfg0.win 2).blk t).view.read (Elt F) A = A :=
  funext fun y => congrArg A (funext fun a => Fin.ext (Pipeline.Window.rect_emb_val_of_index_zero win0_2 t a rfl y))
theorem block2 (t : Fin cfg0.N) : iblk m c 2 t = V m c main_v32 := by
  unfold iblk
  exact read2 t (V m c main_v32)
theorem read3 (t : Fin cfg0.N) (A : Vec F S8x1x1 .f32) : ((cfg0.win 3).blk t).view.read (Elt F) A = A :=
  funext fun y => congrArg A (funext fun a => Fin.ext (Pipeline.Window.rect_emb_val_of_index_zero win0_3 t a rfl y))
theorem block3 (t : Fin cfg0.N) : iblk m c 3 t = V m c main_v19 := by
  unfold iblk
  exact read3 t (V m c main_v19)
theorem read4 (t : Fin cfg0.N) (A : Vec F S1x2048x128 .f32) : ((cfg0.win 4).blk t).view.read (Elt F) A = A :=
  funext fun y => congrArg A (funext fun a => Fin.ext (Pipeline.Window.rect_emb_val_of_index_zero win0_4 t a rfl y))
theorem block4 (t : Fin cfg0.N) : iblk m c 4 t = V m c main_v35 := by
  unfold iblk
  exact read4 t (V m c main_v35)
theorem read5 (t : Fin cfg0.N) (A : Vec F S1x1x1 .f32) : ((cfg0.win 5).blk t).view.read (Elt F) A = A :=
  funext fun y => congrArg A (funext fun a => Fin.ext (Pipeline.Window.rect_emb_val_of_index_zero win0_5 t a rfl y))
theorem block5 (t : Fin cfg0.N) : iblk m c 5 t = V m c main_v26 := by
  unfold iblk
  exact read5 t (V m c main_v26)

theorem region6 : (Gen.dats m 0 c).arrAt 6 cfg0.N = k0_pay2 (V m c main_v29) (V m c main_v12) := by
  refine (Gen.dats m 0 c).arrAt_eq_of_covers 6 _ (by decide +kernel) fun t hf y => ?_
  refine (cast_eq _ _).trans ?_
  have e : ((cfg0.win 6).blk t).view.emb y = (cfg0.win 6).xinj (cfg0.grid.coords t) y :=
    funext fun a => Fin.ext (Pipeline.Window.rect_emb_val_of_index_zero win0_6 t a rfl y)
  rw [after0_6 m c t, out6_eq, block0, block1]
  exact congrArg _ e.symm

theorem region7 : (Gen.dats m 0 c).arrAt 7 cfg0.N = k0_pay3 (V m c main_v32) (V m c main_v19) := by
  refine (Gen.dats m 0 c).arrAt_eq_of_covers 7 _ (by decide +kernel) fun t hf y => ?_
  refine (cast_eq _ _).trans ?_
  have e : ((cfg0.win 7).blk t).view.emb y = (cfg0.win 7).xinj (cfg0.grid.coords t) y :=
    funext fun a => Fin.ext (Pipeline.Window.rect_emb_val_of_index_zero win0_7 t a rfl y)
  rw [after0_7 m c t, out7_eq, block2, block3]
  exact congrArg _ e.symm

theorem region8 : (Gen.dats m 0 c).arrAt 8 cfg0.N = k0_pay1 (k0_pay4 (V m c main_v35) (V m c main_v26)) := by
  refine (Gen.dats m 0 c).arrAt_eq_of_covers 8 _ (by decide +kernel) fun t hf y => ?_
  refine (cast_eq _ _).trans ?_
  have e : ((cfg0.win 8).blk t).view.emb y = (cfg0.win 8).xinj (cfg0.grid.coords t) y :=
    funext fun a => Fin.ext (Pipeline.Window.rect_emb_val_of_index_zero win0_8 t a rfl y)
  rw [after0_8 m c t, out8_eq, block4, block5]
  exact congrArg _ e.symm

end

theorem raw1 (v0 : Vec Ideal S8x4096x128 .f32) (v4 : Vec Ideal S8x1x1 .f32) (i : S8x4096x128.Idx) :
    k0_pay2 v0 v4 i = rawScale (v4 (ix3 (i 0) 0 0)) (v0 i) := by
  unfold k0_pay2
  simp only [shapeCast_self]
  have e : broadcastTo S8x4096x128 v4 broadcasts_S8x1x1_S8x4096x128 i = v4 (ix3 (i 0) 0 0) :=
    broadcastTo_apply _ _ _ _ (by intro a; fin_cases a <;> rfl)
  exact congrArg (fun q : E => FloatOps.mulf (FloatOps.divf (v0 i) (lit 0x40C00000#32)) q) e

theorem raw2 (v0 : Vec Ideal S8x2048x128 .f32) (v4 : Vec Ideal S8x1x1 .f32) (i : S8x2048x128.Idx) :
    k0_pay3 v0 v4 i = rawScale (v4 (ix3 (i 0) 0 0)) (v0 i) := by
  unfold k0_pay3
  simp only [shapeCast_self]
  have e : broadcastTo S8x2048x128 v4 broadcasts_S8x1x1_S8x2048x128 i = v4 (ix3 (i 0) 0 0) :=
    broadcastTo_apply _ _ _ _ (by intro a; fin_cases a <;> rfl)
  exact congrArg (fun q : E => FloatOps.mulf (FloatOps.divf (v0 i) (lit 0x40C00000#32)) q) e

theorem raw3 (v0 : Vec Ideal S1x2048x128 .f32) (v4 : Vec Ideal S1x1x1 .f32) (i : S1x2048x128.Idx) :
    k0_pay1 (k0_pay4 v0 v4) i = rawScale (v4 (ix3 (i 0) 0 0)) (v0 i) := by
  unfold k0_pay1 k0_pay4
  simp only [shapeCast_self]
  have e : broadcastTo S1x2048x128 v4 broadcasts_S1x1x1_S1x2048x128 i = v4 (ix3 (i 0) 0 0) :=
    broadcastTo_apply _ _ _ _ (by intro a; fin_cases a <;> first | rfl | (have h0 : (i 0).val < 1 := (i 0).isLt; show (i 0).val = 0; omega))
  exact congrArg (fun q : E => FloatOps.mulf (FloatOps.divf (v0 i) (lit 0x40C00000#32)) q) e

end Cert.ReferenceIdeal.Whole
-- ==== Proof.RefWeights.lean ====
/- The reference's quantised operands at an index, as one function of its arguments. -/
module

public import proofs.«01_k».proof.Proof.RefRegion
public import proofs.«01_k».proof.Proof.Spec
public import proofs.«01_k».proof.Proof.Gen.ReferenceIdeal.Run

@[expose] public section

set_option maxRecDepth 16384

noncomputable section

namespace Cert.ReferenceIdeal.Whole

open Cert.ReferenceIdeal Cert.ReferenceIdeal.Gen Cert.ReferenceIdeal.Read Cert.ReferenceIdeal.Value Idealize.ShloMosaic Idealize.ShloMosaic.ValueIdx Idealize.ShloMosaic.TcCoe Cert.Meet
open Cert.KernelIdeal.Whole (supAbs rowOf fakeAt)

variable (m : (ℓ : Loc nD τ sig) → Buf (Elt Ideal) ℓ) (c : Dev nD)

/-- The numbers the program is given. -/
abbrev given0 : (⟨S2048x2048, .f32⟩ : BufTy).Contents (Elt Ideal) := m ((c.tc : Thread nD τ).loc main_arg0)
abbrev given1 : (⟨S8x2048x4096, .f32⟩ : BufTy).Contents (Elt Ideal) := m ((c.tc : Thread nD τ).loc main_arg1)
abbrev given3 : (⟨S8x2048x2048, .f32⟩ : BufTy).Contents (Elt Ideal) := m ((c.tc : Thread nD τ).loc main_arg3)
/-- What the reference keeps in one of its arrays. -/
abbrev kept (b : Ref sig .tc) : Buf (Elt Ideal) ((c : Thread nD τ).loc b) := exitV m c (Proc.devRef .tc b)

theorem kept12 (e : Fin 8) : kept m c main_v12 (ix3 e 0 0) = tensorScale (most1 (given1 m c) e) :=
  ((congrFun (exit_main_v12 m c) _).trans (scale8 _ e)).trans (congrArg tensorScale (amaxW13 (given1 m c) e))
theorem kept19 (e : Fin 8) : kept m c main_v19 (ix3 e 0 0) = tensorScale (most3 (given3 m c) e) :=
  ((congrFun (exit_main_v19 m c) _).trans (scale8 _ e)).trans (congrArg tensorScale (amaxW2 (given3 m c) e))
theorem kept26 (e : Fin 1) : kept m c main_v26 (ix3 e 0 0) = tensorScale (most0 (given0 m c) e) :=
  ((congrFun (exit_main_v26 m c) _).trans (scale1 _ e)).trans (congrArg tensorScale (amaxX1 (given0 m c) e))

theorem kept29 (e : Fin 8) (j : Fin 4096) (b : Fin 128) :
    kept m c main_v29 (ix3 e j b) = supAbs fun t : Fin 16 => W13 (given1 m c) (ix3 e j (sixteen b t)) :=
  (congrFun (exit_main_v29 m c) _).trans (blocks1 (W13 (given1 m c)) e j b)
theorem kept32 (e : Fin 8) (j : Fin 2048) (b : Fin 128) :
    kept m c main_v32 (ix3 e j b) = supAbs fun t : Fin 16 => W2 (given3 m c) (ix3 e j (sixteen b t)) :=
  (congrFun (exit_main_v32 m c) _).trans (blocks2 (W2 (given3 m c)) e j b)
theorem kept35 (e : Fin 1) (j : Fin 2048) (b : Fin 128) :
    kept m c main_v35 (ix3 e j b) = supAbs fun t : Fin 16 => X1 (given0 m c) (ix3 e j (sixteen b t)) :=
  (congrFun (exit_main_v35 m c) _).trans (blocks3 (X1 (given0 m c)) e j b)

/-- An input of the first call is not written by it. -/
theorem same (w : Fin cfg0.W) (h : (cfg0.win w).isOut = false) : exitV m c (Proc.devRef .tc (Pipeline.arrRef spec0 w)) = V m c (Pipeline.arrRef spec0 w) :=
  (Pipeline.withArrays_arr spec0 Gen.launch0.win.arr_inj c (Gen.V0 m c) _ w).trans (((Gen.dats m 0 c).arrAt_in w h _).trans (Gen.A_eq m c w))

theorem kept36_0 (i : S8x4096x128.Idx) : kept m c main_v36_0 i = rawScale (kept m c main_v12 (ix3 (i 0) 0 0)) (kept m c main_v29 i) := by
  refine (congrFun ((exit_main_v36_0 m c).trans (region6 m c)) i).trans ((raw1 _ _ i).trans ?_)
  exact congrArg₂ rawScale (congrFun (same m c 1 rfl).symm _) (congrFun (same m c 0 rfl).symm _)
theorem kept36_1 (i : S8x2048x128.Idx) : kept m c main_v36_1 i = rawScale (kept m c main_v19 (ix3 (i 0) 0 0)) (kept m c main_v32 i) := by
  refine (congrFun ((exit_main_v36_1 m c).trans (region7 m c)) i).trans ((raw2 _ _ i).trans ?_)
  exact congrArg₂ rawScale (congrFun (same m c 3 rfl).symm _) (congrFun (same m c 2 rfl).symm _)
theorem kept36_2 (i : S1x2048x128.Idx) : kept m c main_v36_2 i = rawScale (kept m c main_v26 (ix3 (i 0) 0 0)) (kept m c main_v35 i) := by
  refine (congrFun ((exit_main_v36_2 m c).trans (region8 m c)) i).trans ((raw3 _ _ i).trans ?_)
  exact congrArg₂ rawScale (congrFun (same m c 5 rfl).symm _) (congrFun (same m c 4 rfl).symm _)

theorem fakeAt_of {P : ℕ} (a : (⟨3, ![P, 2048, 2048]⟩ : Shape).Idx → E) (M : E) (e : Fin P) (r n : Fin 2048) (g s t : E)
    (hg : g = tensorScale M) (hs : s = supAbs fun k : Fin 16 => a (ix3 e (sixteen ⟨r.val / 16, by have := r.isLt; omega⟩ k) n)) (ht : t = a (ix3 e r n)) :
    fake g s t = fakeAt a M e r n := by
  subst hg hs ht
  unfold fakeAt
  have h (k : Fin 16) : sixteen ⟨r.val / 16, by have := r.isLt; omega⟩ k = rowOf (N := 128) r k := Fin.ext (by simp only [rowOf]; try omega)
  simp only [h]

/-- The gate weights. -/
theorem gate_at (h1 : ∀ i, Real (given1 m c i)) (e : Fin 8) (j k : Fin 2048) :
    val_main_v96 (F := Ideal) (kept m c main_v36_0) (kept m c main_v3) (kept m c main_v12) (kept m c main_v29) (ix3 e ⟨2048 + j.val, by have := j.isLt; omega⟩ k)
      = fakeAt (gateOf (given1 m c)) (most1 (given1 m c) e) e k j := by
  have e3 (k : Fin 2048) : kept m c main_v3 (ix3 e ⟨2048 + j.val, by have := j.isLt; omega⟩ k) = gateOf (given1 m c) (ix3 e k j) :=
    (congrFun (exit_main_v3 m c) _).trans (W13_gate (given1 m c) e j k)
  refine (restored1 _ _ _ _ (kept36_0 m c) e _ k (by rw [e3 k]; exact h1 _)).trans ?_
  refine fakeAt_of _ _ _ _ _ _ _ _ (kept12 m c e) ((kept29 m c e _ _).trans ?_) (e3 k)
  exact congrArg supAbs (funext fun t => W13_gate (given1 m c) e j _)

/-- The up weights. -/
theorem up_at (h1 : ∀ i, Real (given1 m c i)) (e : Fin 8) (j k : Fin 2048) :
    val_main_v96 (F := Ideal) (kept m c main_v36_0) (kept m c main_v3) (kept m c main_v12) (kept m c main_v29) (ix3 e ⟨j.val, by have := j.isLt; omega⟩ k)
      = fakeAt (upOf (given1 m c)) (most1 (given1 m c) e) e k j := by
  have e3 (k : Fin 2048) : kept m c main_v3 (ix3 e ⟨j.val, by have := j.isLt; omega⟩ k) = upOf (given1 m c) (ix3 e k j) :=
    (congrFun (exit_main_v3 m c) _).trans (W13_up (given1 m c) e j k)
  refine (restored1 _ _ _ _ (kept36_0 m c) e _ k (by rw [e3 k]; exact h1 _)).trans ?_
  refine fakeAt_of _ _ _ _ _ _ _ _ (kept12 m c e) ((kept29 m c e _ _).trans ?_) (e3 k)
  exact congrArg supAbs (funext fun t => W13_up (given1 m c) e j _)

/-- The down weights. -/
theorem down_at (h3 : ∀ i, Real (given3 m c i)) (e : Fin 8) (j k : Fin 2048) :
    val_main_v156 (F := Ideal) (kept m c main_v36_1) (kept m c main_v4) (kept m c main_v19) (kept m c main_v32) (ix3 e j k)
      = fakeAt (given3 m c) (most3 (given3 m c) e) e k j := by
  have e3 (k : Fin 2048) : kept m c main_v4 (ix3 e j k) = given3 m c (ix3 e k j) :=
    (congrFun (exit_main_v4 m c) _).trans (W2_at (given3 m c) e j k)
  refine (restored2 _ _ _ _ (kept36_1 m c) e _ k (by rw [e3 k]; exact h3 _)).trans ?_
  refine fakeAt_of _ _ _ _ _ _ _ _ (kept19 m c e) ((kept32 m c e _ _).trans ?_) (e3 k)
  exact congrArg supAbs (funext fun t => W2_at (given3 m c) e j _)

/-- The activations. -/
theorem tokens_at (h0 : ∀ i, Real (given0 m c i)) (e : Fin 1) (j k : Fin 2048) :
    val_main_v216 (F := Ideal) (kept m c main_v36_2) (kept m c main_v5) (kept m c main_v26) (kept m c main_v35) (ix3 e j k)
      = fakeAt (tokensOf (given0 m c)) (most0 (given0 m c) e) e k j := by
  have e3 (k : Fin 2048) : kept m c main_v5 (ix3 e j k) = tokensOf (given0 m c) (ix3 e k j) :=
    (congrFun (exit_main_v5 m c) _).trans (X1_at (given0 m c) e j k)
  refine (restored3 _ _ _ _ (kept36_2 m c) e _ k (by rw [e3 k]; exact h0 _)).trans ?_
  refine fakeAt_of _ _ _ _ _ _ _ _ (kept26 m c e) ((kept35 m c e _ _).trans ?_) (e3 k)
  exact congrArg supAbs (funext fun t => X1_at (given0 m c) e j _)

end Cert.ReferenceIdeal.Whole
-- ==== Proof.RefLayer.lean ====
/- The reference's expert layer at an index. -/
module

public import proofs.«01_k».proof.Proof.RefWeights
public import proofs.«01_k».proof.Proof.Layer

@[expose] public section

set_option maxRecDepth 16384

noncomputable section

namespace Cert.ReferenceIdeal.Whole

open Cert.ReferenceIdeal Cert.ReferenceIdeal.Gen Cert.ReferenceIdeal.Read Cert.ReferenceIdeal.Value Idealize.ShloMosaic Idealize.ShloMosaic.ValueIdx Idealize.ShloMosaic.TcCoe Cert.Meet
open Cert.KernelIdeal.Whole (supAbs rowOf fakeAt)

theorem biasGate_at (x2 : (⟨S8x4096, .f32⟩ : BufTy).Contents (Elt Ideal)) (e : Fin 8) (t j : Fin 2048) :
    val_main_v252 (F := Ideal) x2 (ix3 e t j) = x2 (ix2 e ⟨2 * j.val, by have := j.isLt; omega⟩) := by
  rw [val_main_v252_apply, val_main_v251_apply]
  unfold val_main_v218
  refine congrArg x2 (funext fun a => Fin.ext ?_)
  fin_cases a
  · show 0 + 1 * e.val = e.val; omega
  · show 0 + 2 * j.val = 2 * j.val; omega

theorem biasUp_at (x2 : (⟨S8x4096, .f32⟩ : BufTy).Contents (Elt Ideal)) (e : Fin 8) (t j : Fin 2048) :
    val_main_v257 (F := Ideal) x2 (ix3 e t j) = x2 (ix2 e ⟨2 * j.val + 1, by have := j.isLt; omega⟩) := by
  rw [val_main_v257_apply, val_main_v256_apply]
  unfold val_main_v219
  refine congrArg x2 (funext fun a => Fin.ext ?_)
  fin_cases a
  · show 0 + 1 * e.val = e.val; omega
  · show 1 + 2 * j.val = 2 * j.val + 1; omega

theorem flat_at (t k : Fin 2048) : idx_main_v217 (ix2 t k) = ix3 (0 : Fin 1) t k := by
  have := t.isLt
  have := k.isLt
  funext a
  fin_cases a
  · rfl
  · refine Fin.ext ?_
    show (t.val * 2048 + k.val) / 2048 % 2048 = t.val
    omega
  · refine Fin.ext ?_
    show (t.val * 2048 + k.val) % 2048 = k.val
    omega

section
variable (x2 : (⟨S8x4096, .f32⟩ : BufTy).Contents (Elt Ideal)) (x4 : (⟨S8x2048, .f32⟩ : BufTy).Contents (Elt Ideal)) (x5 : (⟨S2048x2, .i32⟩ : BufTy).Contents (Elt Ideal)) (x6 : (⟨S2048x8, .f32⟩ : BufTy).Contents (Elt Ideal)) (r0 : (⟨S8x4096x128, .f32⟩ : BufTy).Contents (Elt Ideal)) (r1 : (⟨S8x2048x128, .f32⟩ : BufTy).Contents (Elt Ideal)) (r2 : (⟨S1x2048x128, .f32⟩ : BufTy).Contents (Elt Ideal)) (e0 : (⟨S8x4096x2048, .f32⟩ : BufTy).Contents (Elt Ideal)) (e1 : (⟨S8x1x1, .f32⟩ : BufTy).Contents (Elt Ideal)) (e2 : (⟨S8x4096x128, .f32⟩ : BufTy).Contents (Elt Ideal)) (e3 : (⟨S8x2048x2048, .f32⟩ : BufTy).Contents (Elt Ideal)) (e4 : (⟨S8x1x1, .f32⟩ : BufTy).Contents (Elt Ideal)) (e5 : (⟨S8x2048x128, .f32⟩ : BufTy).Contents (Elt Ideal)) (e6 : (⟨S1x2048x2048, .f32⟩ : BufTy).Contents (Elt Ideal)) (e7 : (⟨S1x1x1, .f32⟩ : BufTy).Contents (Elt Ideal)) (e8 : (⟨S1x2048x128, .f32⟩ : BufTy).Contents (Elt Ideal))
variable (x : Fin 2048 → Fin 2048 → E) (wg wu wd : Fin 8 → Fin 2048 → Fin 2048 → E)

theorem gateSum_at (hx : ∀ (e : Fin 1) t k, val_main_v216 (F := Ideal) r2 e6 e7 e8 (ix3 e t k) = x t k)
    (hg : ∀ e (j k : Fin 2048), val_main_v96 (F := Ideal) r0 e0 e1 e2 (ix3 e ⟨2048 + j.val, by have := j.isLt; omega⟩ k) = wg e k j) (e : Fin 8) (t j : Fin 2048) :
    val_main_v250 (F := Ideal) r0 r2 e0 e1 e2 e6 e7 e8 (ix3 e t j) = ∑ k : Fin 2048, (x t k * wg e k j : EReal) := by
  rw [val_main_v250_apply, val_main_v249_apply]
  refine Finset.sum_congr rfl fun k _ => ?_
  rw [val_main_v221_apply, val_main_v217_apply]
  have h1 : idx_main_v221 (lidx_main_v249 (idx_main_v250 (ix3 e t j)) k) = ix3 e ⟨2048 + j.val, by have := j.isLt; omega⟩ k := by
    funext a; fin_cases a <;> first | rfl | (apply Fin.ext; simp; done) | (apply Fin.ext; show _ + _ = _; omega)
  have h2 : idx_main_v217 (ridx_main_v249 (idx_main_v250 (ix3 e t j)) k) = ix3 (0 : Fin 1) t k :=
    (congrArg idx_main_v217 (by funext a; fin_cases a <;> rfl : ridx_main_v249 (idx_main_v250 (ix3 e t j)) k = ix2 t k)).trans (flat_at t k)
  rw [h1, h2, hx, hg]
  exact mul_comm (G := EReal) _ _

theorem upSum_at (hx : ∀ (e : Fin 1) t k, val_main_v216 (F := Ideal) r2 e6 e7 e8 (ix3 e t k) = x t k)
    (hu : ∀ e (j k : Fin 2048), val_main_v96 (F := Ideal) r0 e0 e1 e2 (ix3 e ⟨j.val, by have := j.isLt; omega⟩ k) = wu e k j) (e : Fin 8) (t j : Fin 2048) :
    val_main_v255 (F := Ideal) r0 r2 e0 e1 e2 e6 e7 e8 (ix3 e t j) = ∑ k : Fin 2048, (x t k * wu e k j : EReal) := by
  rw [val_main_v255_apply, val_main_v254_apply]
  refine Finset.sum_congr rfl fun k _ => ?_
  rw [val_main_v220_apply, val_main_v217_apply]
  have h1 : idx_main_v220 (lidx_main_v254 (idx_main_v255 (ix3 e t j)) k) = ix3 e ⟨j.val, by have := j.isLt; omega⟩ k := by
    funext a; fin_cases a <;> first | rfl | (apply Fin.ext; simp; done) | (apply Fin.ext; show _ + _ = _; omega)
  have h2 : idx_main_v217 (ridx_main_v254 (idx_main_v255 (ix3 e t j)) k) = ix3 (0 : Fin 1) t k :=
    (congrArg idx_main_v217 (by funext a; fin_cases a <;> rfl : ridx_main_v254 (idx_main_v255 (ix3 e t j)) k = ix2 t k)).trans (flat_at t k)
  rw [h1, h2, hx, hu]
  exact mul_comm (G := EReal) _ _

theorem act_at (e : Fin 8) (t j : Fin 2048) :
    val_main_v276 (F := Ideal) x2 r0 r2 e0 e1 e2 e6 e7 e8 (ix3 e t j)
      = act ((val_main_v250 (F := Ideal) r0 r2 e0 e1 e2 e6 e7 e8 (ix3 e t j) + x2 (ix2 e ⟨2 * j.val, by have := j.isLt; omega⟩) : EReal))
          ((val_main_v255 (F := Ideal) r0 r2 e0 e1 e2 e6 e7 e8 (ix3 e t j) + x2 (ix2 e ⟨2 * j.val + 1, by have := j.isLt; omega⟩) : EReal)) := by
  rw [← actOut_eq, val_main_v276_apply, val_main_v275_apply, val_main_v264_apply, val_main_v262_apply, val_main_v258_apply, val_main_v273_apply, val_main_v272_apply,
    val_main_v270_apply, val_main_v268_apply, val_main_v267_apply, val_main_v266_apply, val_main_v260_apply, val_main_v253_apply,
    val_main_v259_apply, val_main_v261_apply, val_main_v263_apply, val_main_v265_apply, val_main_v269_apply, val_main_v271_apply, val_main_v274_apply,
    biasGate_at, biasUp_at]
  generalize val_main_v250 (F := Ideal) r0 r2 e0 e1 e2 e6 e7 e8 (ix3 e t j) = a
  generalize val_main_v255 (F := Ideal) r0 r2 e0 e1 e2 e6 e7 e8 (ix3 e t j) = b
  rfl

/-- The result, from the quantised operands and the coefficients. -/
theorem layer_at (cf : Fin 2048 → Fin 8 → E)
    (hx : ∀ (e : Fin 1) t k, val_main_v216 (F := Ideal) r2 e6 e7 e8 (ix3 e t k) = x t k)
    (hg : ∀ e (j k : Fin 2048), val_main_v96 (F := Ideal) r0 e0 e1 e2 (ix3 e ⟨2048 + j.val, by have := j.isLt; omega⟩ k) = wg e k j)
    (hu : ∀ e (j k : Fin 2048), val_main_v96 (F := Ideal) r0 e0 e1 e2 (ix3 e ⟨j.val, by have := j.isLt; omega⟩ k) = wu e k j)
    (hd : ∀ e (j k : Fin 2048), val_main_v156 (F := Ideal) r1 e3 e4 e5 (ix3 e j k) = wd e k j)
    (hc : ∀ t e, val_main_v248 (F := Ideal) x5 x6 (ix2 t e) = cf t e) (t n : Fin 2048) :
    val_main_v285 (F := Ideal) x2 x4 x5 x6 r0 r1 r2 e0 e1 e2 e3 e4 e5 e6 e7 e8 (ix2 t n)
      = layer x wg wu wd (fun e j => x2 (ix2 e ⟨2 * j.val, by have := j.isLt; omega⟩)) (fun e j => x2 (ix2 e ⟨2 * j.val + 1, by have := j.isLt; omega⟩))
          (fun e n => x4 (ix2 e n)) cf t n := by
  rw [val_main_v285_apply]
  have hz : (val_main_cst_88 (F := Ideal)) (Shape.Idx.first h_S_) = (0 : EReal) := lit_zero
  refine (congrArg (· + _) hz).trans ((zero_add _).trans ?_)
  unfold layer
  refine Finset.sum_congr rfl fun e _ => ?_
  have hi : idx_main_v285 (ix2 t n) e = ix3 e t n := by funext a; fin_cases a <;> rfl
  rw [hi, val_main_v284_apply, val_main_v283_apply, val_main_v282_apply, val_main_v281_apply, val_main_v280_apply, val_main_v277_apply,
    val_main_v279_apply, val_main_v278_apply]
  have h1 : idx_main_v281 (idx_main_v282 (idx_main_v283 (ix3 e t n))) = ix2 t e := by funext a; fin_cases a <;> rfl
  have h2 : idx_main_v278 (idx_main_v279 (ix3 e t n)) = ix2 e n := by funext a; fin_cases a <;> rfl
  rw [h1, h2, hc]
  refine congrArg (fun v : EReal => cf t e * (v + x4 (ix2 e n))) (Finset.sum_congr rfl fun j _ => ?_)
  have h3 : lidx_main_v277 (ix3 e t n) j = ix3 e t j := by funext a; fin_cases a <;> rfl
  have h4 : ridx_main_v277 (ix3 e t n) j = ix3 e n j := by funext a; fin_cases a <;> rfl
  rw [h3, h4, hd, act_at, gateSum_at r0 r2 e0 e1 e2 e6 e7 e8 x wg hx hg, upSum_at r0 r2 e0 e1 e2 e6 e7 e8 x wu hx hu]
end

end Cert.ReferenceIdeal.Whole
-- ==== Proof.RefRouting.lean ====
/- The reference's coefficients at an index. -/
module

public import proofs.«01_k».proof.Proof.Routing
public import proofs.«01_k».proof.Proof.Gen.ReferenceIdeal.Read
public import Idealize.ShloMosaic.Lib.Routing.OpsPair
public import Idealize.ShloMosaic.Lib.ReduceAll

@[expose] public section

set_option maxRecDepth 16384

noncomputable section

namespace Cert.ReferenceIdeal.Whole

open Cert.ReferenceIdeal Cert.ReferenceIdeal.Gen Cert.ReferenceIdeal.Read Idealize.ShloMosaic Idealize.ShloMosaic.ValueIdx Idealize.ShloMosaic.TcCoe Cert.Meet

variable (x5 : (⟨S2048x2, .i32⟩ : BufTy).Contents (Elt Ideal)) (x6 : (⟨S2048x8, .f32⟩ : BufTy).Contents (Elt Ideal))

theorem clipped_at (i : S2048x2.Idx) : val_main_v227 (F := Ideal) x5 i = clip (x5 i) := by
  rw [val_main_v227_apply, val_main_v225_apply, val_main_v224_apply, val_main_v226_apply]
  exact (clip_cases (x5 i)).2

theorem clip_toInt (w : BitVec 32) : (clip w).toInt = ((col w).val : Int) := by
  have := (clip_cases w).1
  rw [BitVec.toInt_eq_toNat_cond, if_pos (by omega)]; rfl

/-- A clipped word is not below nought, so the wrap leaves it. -/
theorem unwrapped (w a : BitVec 32) : Scalar.select (IntOp.cmpi .slt (clip w) 0#32) a (clip w) = clip w := by
  have h : IntOp.cmpi .slt (clip w) 0#32 = 0#1 := by
    have := clip_toInt w
    have h0 : (0#32 : BitVec 32).toInt = 0 := by decide
    have : ¬ (clip w).toInt < 0 := by omega
    simp [IntOp.cmpi, BitVec.slt, h0, this]
  rw [h]; exact if_neg (by decide)

theorem wrappedA_at (i : S2048x2.Idx) : val_main_call0_v4 (F := Ideal) x5 i = clip (x5 i) := by
  rw [val_main_call0_v4_apply, val_main_call0_v1_apply, val_main_call0_v0_apply, clipped_at]
  exact unwrapped _ _

theorem wrappedB_at (i : S2048x2.Idx) : val_main_v243 (F := Ideal) x5 i = clip (x5 i) := by
  rw [val_main_v243_apply, val_main_v240_apply, val_main_v239_apply, clipped_at]
  exact unwrapped _ _

theorem start_at (i : S2048x2x1.Idx) : val_main_call0_v5 (F := Ideal) x5 i = clip (x5 (idx_main_call0_v5 i)) := by
  rw [val_main_call0_v5_apply, wrappedA_at]

theorem start_at' (t : Fin 2048) (b : Fin 2) (z : Fin 1) : val_main_call0_v5 (F := Ideal) x5 (ix3 t b z) = clip (x5 (ix2 t b)) := by
  rw [start_at]
  refine congrArg (fun i => clip (x5 i)) ?_
  have := t.isLt
  have := b.isLt
  have := z.isLt
  funext a
  fin_cases a
  · refine Fin.ext ?_
    show ((t.val * 2 + b.val) * 1 + z.val) / 2 = t.val
    omega
  · refine Fin.ext ?_
    show ((t.val * 2 + b.val) * 1 + z.val) % 2 = b.val
    omega

theorem inside_at (i : S2048x2.Idx) : val_main_call0_v12 (F := Ideal) x5 i = 1#1 := by
  unfold val_main_call0_v12
  refine Host.reduce_andi_one _ _ _ _ _ rfl fun j => ?_
  rw [val_main_call0_v11_apply, val_main_call0_v7_apply, val_main_call0_v10_apply, start_at, val_main_call0_v6_apply, val_main_call0_v9_apply, val_main_call0_v8_apply]
  have h := clip_toInt (x5 (idx_main_call0_v5 j))
  have hl := (col (x5 (idx_main_call0_v5 j))).isLt
  generalize clip (x5 (idx_main_call0_v5 j)) = w at h
  have h0 : (0#32 : BitVec 32).toInt = 0 := by decide
  have h7 : (7#32 : BitVec 32).toInt = 7 := by decide
  have e1 : IntOp.cmpi .sge w 0#32 = 1#1 := by
    have : (0 : Int) ≤ w.toInt := by omega
    simp [IntOp.cmpi, BitVec.sle, h0, this]
  have e2 : IntOp.cmpi .sle w 7#32 = 1#1 := by
    have : w.toInt ≤ 7 := by omega
    simp [IntOp.cmpi, BitVec.sle, h7, this]
  show IntOp.andi (IntOp.cmpi .sge w 0#32) (IntOp.cmpi .sle w 7#32) = 1#1
  rw [e1, e2]; rfl

/-- The weight a token's word picks. -/
theorem gathered_at (t : Fin 2048) (b : Fin 2) : val_main_call0_v13 (F := Ideal) x5 x6 (ix2 t b) = x6 (ix2 t (col (x5 (ix2 t b)))) := by
  unfold val_main_call0_v13
  have hs := start_at' x5 t b 0
  generalize val_main_call0_v5 (F := Ideal) x5 = idx at hs
  unfold Host.gather
  refine congrArg x6 (funext fun a => Fin.ext ?_)
  show gather_S2048x8_S2048x2x1_S2048x2_n_1_0_0_1_2_11.start (ix2 t b) idx a + gather_S2048x8_S2048x2x1_S2048x2_n_1_0_0_1_2_11.batchCoord (ix2 t b) a
    + gather_S2048x8_S2048x2x1_S2048x2_n_1_0_0_1_2_11.offCoord (ix2 t b) a = _
  have h01 : a = 0 ∨ a = 1 := by
    match a with
    | ⟨0, _⟩ => exact Or.inl rfl
    | ⟨1, _⟩ => exact Or.inr rfl
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl)), Nat.zero_add, Nat.add_zero]
    unfold GatherDims.batchCoord
    rw [dif_pos (show (0 : Fin 2) ∈ gather_S2048x8_S2048x2x1_S2048x2_n_1_0_0_1_2_11.operandBatchingDims from List.mem_singleton.mpr rfl)]
    rfl
  · rw [GatherDims.batchCoord_eq_zero _ _ _ (show (1 : Fin 2) ∉ gather_S2048x8_S2048x2x1_S2048x2_n_1_0_0_1_2_11.operandBatchingDims by decide),
      GatherDims.offCoord_eq_zero _ _ _ (fun h => ((GatherDims.mem_sKept _ _).mp h).1 (List.mem_singleton.mpr rfl)), Nat.add_zero]
    unfold GatherDims.start
    rw [dif_pos (show (1 : Fin 2) ∈ gather_S2048x8_S2048x2x1_S2048x2_n_1_0_0_1_2_11.startIndexMap from List.mem_singleton.mpr rfl)]
    have hsi : gather_S2048x8_S2048x2x1_S2048x2_n_1_0_0_1_2_11.siIdx (ix2 t b) ⟨List.idxOf (1 : Fin 2) gather_S2048x8_S2048x2x1_S2048x2_n_1_0_0_1_2_11.startIndexMap,
        List.idxOf_lt_length_iff.2 (List.mem_singleton.mpr rfl)⟩ = ix3 t b 0 := by
      funext b'
      refine Fin.ext ?_
      match b' with
      | ⟨0, _⟩ => rfl
      | ⟨1, _⟩ => rfl
      | ⟨2, _⟩ => rfl
    rw [hsi, hs, clip_toInt]
    show min ((col (x5 (ix2 t b))).val : Int).toNat (8 - 1) = (col (x5 (ix2 t b))).val
    have := (col (x5 (ix2 t b))).isLt
    omega

/-- What a token's word adds to its expert's coefficient. -/
theorem update_at (t : Fin 2048) (b : Fin 2) : val_main_v230 (F := Ideal) x5 x6 (ix2 t b)
    = (if (x5 (ix2 t b)).toInt < 8 then x6 (ix2 t (col (x5 (ix2 t b)))) else 0 : EReal) := by
  rw [val_main_v230_apply, val_main_v228_apply, val_main_v229_apply, inside_at, gathered_at, val_main_v223_apply, val_main_v222_apply]
  generalize x6 (ix2 t (col (x5 (ix2 t b)))) = v
  have h8 : (8#32 : BitVec 32).toInt = 8 := by decide
  show (v : EReal) * ((((IntOp.cmpi .slt (x5 (ix2 t b)) 8#32).toNat : ℕ) : ℝ) : EReal) = _
  by_cases h : (x5 (ix2 t b)).toInt < 8
  · have e : IntOp.cmpi .slt (x5 (ix2 t b)) 8#32 = 1#1 := by simp [IntOp.cmpi, BitVec.slt, h8, h]
    rw [e, if_pos h]; simp
  · have e : IntOp.cmpi .slt (x5 (ix2 t b)) 8#32 = 0#1 := by simp [IntOp.cmpi, BitVec.slt, h8, h]
    rw [e, if_neg h]; simp

theorem rowWord_at (t : Fin 2048) (b : Fin 2) : (val_main_v247 (F := Ideal) x5 (ix3 t b 0)).toInt = t.val := by
  have h : val_main_v247 (F := Ideal) x5 (ix3 t b 0) = val_main_v245 (F := Ideal) (ix3 t b 0) := by
    unfold val_main_v247
    exact concatenate_pair_apply_left (t := S2048x2x2) (s₁ := S2048x2x1) (s₂ := S2048x2x1) 2 _ _ _ _ rfl (ix3 t b 0) (by intro a; fin_cases a <;> rfl)
  rw [h, val_main_v245_apply, val_main_v244_apply, val_main_v238_apply, val_main_v235_apply, val_main_v233_apply, val_main_v232_apply, val_main_v234_apply]
  have ht := t.isLt
  have hi : (BitVec.ofNat 32 t.val).toInt = t.val := by
    rw [BitVec.toInt_eq_toNat_cond, BitVec.toNat_ofNat, Nat.mod_eq_of_lt (by omega), if_pos (by omega)]
  have h0 : (0#32 : BitVec 32).toInt = 0 := by decide
  have e : IntOp.cmpi .slt (BitVec.ofNat 32 t.val) 0#32 = 0#1 := by
    have : ¬ (BitVec.ofNat 32 t.val).toInt < 0 := by omega
    simp only [IntOp.cmpi, BitVec.slt, h0, decide_eq_false this]; rfl
  refine Eq.trans ?_ hi
  show (Scalar.select (IntOp.cmpi .slt (BitVec.ofNat 32 t.val) 0#32) _ (BitVec.ofNat 32 t.val)).toInt = _
  rw [e]
  exact congrArg BitVec.toInt (if_neg (by decide))

theorem colWord_at (t : Fin 2048) (b : Fin 2) : (val_main_v247 (F := Ideal) x5 (ix3 t b 1)).toInt = (col (x5 (ix2 t b))).val := by
  have h : val_main_v247 (F := Ideal) x5 (ix3 t b 1) = val_main_v246 (F := Ideal) x5 (ix3 t b 0) := by
    unfold val_main_v247
    exact concatenate_pair_apply_right (t := S2048x2x2) (s₁ := S2048x2x1) (s₂ := S2048x2x1) 2 _ _ _ _ rfl rfl (ix3 t b 0) (by intro a ha; fin_cases a <;> first | rfl | exact absurd rfl ha) rfl
  rw [h, val_main_v246_apply, wrappedB_at, clip_toInt]
  have : idx_main_v246 (ix3 t b 0) = ix2 t b := by funext a; fin_cases a <;> rfl
  rw [this]

/-- The scatter of two words a token onto rows of eight experts. -/
theorem scattered (idx : IVec S2048x2x2 32) (upd : S2048x2.Idx → EReal) (hr : ∀ t b, (idx (ix3 t b 0)).toInt = t.val) (cl : Fin 2048 → Fin 2 → Fin 8)
    (hc : ∀ t b, (idx (ix3 t b 1)).toInt = (cl t b).val) (t : Fin 2048) (e : Fin 8) :
    ∑ j ∈ Finset.univ.filter (fun j => scatter_S2048x8_S2048x2x2_S2048x2_n_01_01_2.resultIdx? j idx = some (ix2 t e)), upd j
      = (if cl t 0 = e then upd (ix2 t 0) else 0) + (if cl t 1 = e then upd (ix2 t 1) else 0) := by
  have hl (t' : Fin 2048) (b : Fin 2) : scatter_S2048x8_S2048x2x2_S2048x2_n_01_01_2.resultIdx? (ix2 t' b) idx = some (ix2 t e) ↔ t' = t ∧ cl t' b = e := by
    rw [Routing.scatter_lands2 scatter_S2048x8_S2048x2x2_S2048x2_n_01_01_2 rfl rfl rfl idx t' b t e, hr, hc]
    constructor
    · rintro ⟨h1, h2⟩; exact ⟨Fin.ext (by omega), Fin.ext (by omega)⟩
    · rintro ⟨rfl, rfl⟩; exact ⟨rfl, rfl⟩
  have hinj : Function.Injective (fun b : Fin 2 => (ix2 t b : S2048x2.Idx)) := fun b b' h => congrFun h 1
  have hf : Finset.univ.filter (fun j => scatter_S2048x8_S2048x2x2_S2048x2_n_01_01_2.resultIdx? j idx = some (ix2 t e))
      = (Finset.univ.filter (fun b : Fin 2 => cl t b = e)).map ⟨fun b => (ix2 t b : S2048x2.Idx), hinj⟩ := by
    ext j
    rw [Finset.mem_filter, Finset.mem_map]
    have hj : j = ix2 (j 0) (j 1) := by funext a; fin_cases a <;> rfl
    constructor
    · rintro ⟨-, h⟩
      rw [hj] at h
      obtain ⟨h1, h2⟩ := (hl (j 0) (j 1)).mp h
      refine ⟨j 1, Finset.mem_filter.mpr ⟨Finset.mem_univ _, h1 ▸ h2⟩, ?_⟩
      show ix2 t (j 1) = j
      rw [← h1]; exact hj.symm
    · rintro ⟨b, hb, rfl⟩
      exact ⟨Finset.mem_univ _, (hl t b).mpr ⟨rfl, (Finset.mem_filter.mp hb).2⟩⟩
  rw [hf, Finset.sum_map, Finset.sum_filter, Fin.sum_univ_two]
  rfl

theorem coef_at (t : Fin 2048) (e : Fin 8) : val_main_v248 (F := Ideal) x5 x6 (ix2 t e) = coef (x5 (ix2 t 0)) (x5 (ix2 t 1)) (fun k => x6 (ix2 t k)) e := by
  unfold val_main_v248
  have hz : val_main_v231 (F := Ideal) (ix2 t e) = (0 : EReal) := lit_zero
  have hs := scattered (val_main_v247 (F := Ideal) x5) (val_main_v230 (F := Ideal) x5 x6) (rowWord_at x5) (fun t b => col (x5 (ix2 t b))) (colWord_at x5) t e
  generalize val_main_v231 (F := Ideal) = base at hz
  generalize val_main_v247 (F := Ideal) x5 = idx at hs
  have hu := update_at x5 x6 t
  generalize val_main_v230 (F := Ideal) x5 x6 = upd at hs hu
  show (base (ix2 t e) + ∑ j ∈ Finset.univ.filter (fun j => scatter_S2048x8_S2048x2x2_S2048x2_n_01_01_2.resultIdx? j idx = some (ix2 t e)), upd j : EReal) = _
  rw [hz, zero_add, hs, hu, hu]
  have hsl (b : Fin 2) : (if col (x5 (ix2 t b)) = e then (if (x5 (ix2 t b)).toInt < 8 then x6 (ix2 t (col (x5 (ix2 t b)))) else 0 : EReal) else 0)
      = slot (x5 (ix2 t b)) (fun k => x6 (ix2 t k)) e := by
    unfold slot
    by_cases h1 : col (x5 (ix2 t b)) = e
    · by_cases h2 : (x5 (ix2 t b)).toInt < 8
      · rw [if_pos h1, if_pos h2, if_pos ⟨h1, h2⟩, h1]
      · rw [if_pos h1, if_neg h2, if_neg (fun hh => h2 hh.2)]
    · rw [if_neg h1, if_neg (fun hh => h1 hh.1)]
  exact congrArg₂ (fun a b : EReal => a + b) (hsl 0) (hsl 1)

end Cert.ReferenceIdeal.Whole
-- ==== Proof.RefAnswer.lean ====
/- The reference's result: the answer. -/
module

public import proofs.«01_k».proof.Proof.Answer
public import proofs.«01_k».proof.Proof.RefLayer
public import proofs.«01_k».proof.Proof.RefRouting
public import proofs.«01_k».proof.Proof.RefWeights

@[expose] public section

set_option maxRecDepth 16384

noncomputable section

namespace Cert.ReferenceIdeal.Whole

open Cert.ReferenceIdeal Cert.ReferenceIdeal.Gen Cert.ReferenceIdeal.Read Cert.ReferenceIdeal.Value Idealize.ShloMosaic Idealize.ShloMosaic.ValueIdx Idealize.ShloMosaic.TcCoe Cert.Meet

variable (m : (ℓ : Loc nD τ sig) → Buf (Elt Ideal) ℓ) (c : Dev nD)

abbrev given2 : (⟨S8x4096, .f32⟩ : BufTy).Contents (Elt Ideal) := m ((c.tc : Thread nD τ).loc main_arg2)
abbrev given4 : (⟨S8x2048, .f32⟩ : BufTy).Contents (Elt Ideal) := m ((c.tc : Thread nD τ).loc main_arg4)
abbrev given5 : (⟨S2048x2, .i32⟩ : BufTy).Contents (Elt Ideal) := m ((c.tc : Thread nD τ).loc main_arg5)
abbrev given6 : (⟨S2048x8, .f32⟩ : BufTy).Contents (Elt Ideal) := m ((c.tc : Thread nD τ).loc main_arg6)

/-- The result the reference leaves. -/
theorem result_eq (h0 : ∀ i, Real (given0 m c i)) (h1 : ∀ i, Real (given1 m c i)) (h3 : ∀ i, Real (given3 m c i)) :
    Host.reduceAdd (res_main_v284 (exitV m c)) (constant S_ .f32 0x00000000#32) reducesTo_S8x2048x2048_S2048x2048_d0 h_S_
      = answer (given0 m c) (given1 m c) (given2 m c) (given3 m c) (given4 m c) (given5 m c) (given6 m c) := by
  refine (val_main_v285_eq (exitV m c)).trans ?_
  rw [exit_main_arg2 m c, exit_main_arg4 m c, exit_main_arg5 m c, exit_main_arg6 m c]
  funext i
  have e : i = (ix2 (i 0) (i 1) : S2048x2048.Idx) := by
    funext a
    fin_cases a <;> rfl
  refine (congrArg _ e).trans ?_
  refine layer_at (given2 m c) (given4 m c) (given5 m c) (given6 m c) (kept m c main_v36_0) (kept m c main_v36_1) (kept m c main_v36_2) (kept m c main_v3) (kept m c main_v12) (kept m c main_v29)
    (kept m c main_v4) (kept m c main_v19) (kept m c main_v32) (kept m c main_v5) (kept m c main_v26) (kept m c main_v35)
    (tokens (given0 m c)) (gates (given1 m c)) (ups (given1 m c)) (downs (given3 m c)) (route (given5 m c) (given6 m c))
    (fun e t k => ?_) (fun e j k => gate_at m c h1 e j k) (fun e j k => up_at m c h1 e j k) (fun e j k => down_at m c h3 e j k) (fun t e => coef_at _ _ t e) (i 0) (i 1)
  have e0 : e = 0 := Subsingleton.elim (α := Fin 1) _ _
  subst e0
  exact tokens_at m c h0 0 t k

end Cert.ReferenceIdeal.Whole
-- ==== Proof.lean ====
/- The certificate: the kernel as printed, its reading over the extended reals and the reference run, leave their arguments
   unchanged and every counter at zero; the reading changes the kernel only where the sign is taken; and on finite arguments the
   reading and the reference end with the same result. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Regions
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Regions
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Run
public import proofs.«01_k».proof.Proof.Gen.ReferenceIdeal.Read
public import proofs.«01_k».proof.Proof.IdealRun
public import proofs.«01_k».proof.Proof.BitsRun
public import proofs.«01_k».proof.Proof.KernelAnswer
public import proofs.«01_k».proof.Proof.RefAnswer
public import Idealize.ShloMosaic.Adequacy
public import Idealize.ShloMosaic.Init

@[expose] public section

noncomputable section

namespace Cert.Proof

open Idealize.ShloMosaic Idealize.ShloMosaic.TcCoe Idealize.SL.Sem Cert.Meet

/-- The kernel as printed runs and leaves its arguments. -/
theorem frame_Kernel : Cert.quiescent_Kernel := fun m g _ =>
  (θ_run (Cert.Kernel.defs (F := Bits)) _ _).mono (fun r h => ⟨fun c => Cert.Kernel.Whole.kept m r.2 h.1 c, h.2⟩)
    (Cert.Kernel.Whole.run (F := Bits) m g)

/-- Its reading over the extended reals runs and leaves its arguments. -/
theorem frame_KernelIdeal : Cert.quiescent_KernelIdeal := fun m g _ =>
  (θ_run (Cert.KernelIdeal.defs (F := Ideal)) _ _).mono (fun r h => ⟨fun c => Cert.KernelIdeal.Whole.kept m r.2 h.1 c, h.2⟩)
    (Cert.KernelIdeal.Whole.run (F := Ideal) m g)

/-- The shape relations of the precondition. -/
theorem facts_Pre_finite : Cert.Pre_finite.Facts where
  bcast_S_S2048x2048 := by decide
  bcast_S_S8x2048x4096 := by decide
  bcast_S_S8x2048x2048 := by decide
  bcast_S_S2048x8 := by decide

/-- Arguments of the precondition are real numbers. -/
theorem real_args [hp : Cert.Pre_finite.Facts] (a0 : FVec Ideal Cert.Pre_finite.S2048x2048 .f32) (a1 : FVec Ideal Cert.Pre_finite.S8x2048x4096 .f32)
    (a2 : FVec Ideal Cert.Pre_finite.S8x4096 .f32) (a3 : FVec Ideal Cert.Pre_finite.S8x2048x2048 .f32) (a4 : FVec Ideal Cert.Pre_finite.S8x2048 .f32)
    (a5 : IVec Cert.Pre_finite.S2048x2 32) (a6 : FVec Ideal Cert.Pre_finite.S2048x8 .f32)
    (h : (Cert.Pre_finite.fn (F := Ideal) a0 a1 a2 a3 a4 a5 a6).1 = (fun _ => 1#1) ∧ (Cert.Pre_finite.fn (F := Ideal) a0 a1 a2 a3 a4 a5 a6).2.1 = (fun _ => 1#1)
      ∧ (Cert.Pre_finite.fn (F := Ideal) a0 a1 a2 a3 a4 a5 a6).2.2.1 = (fun _ => 1#1) ∧ (Cert.Pre_finite.fn (F := Ideal) a0 a1 a2 a3 a4 a5 a6).2.2.2 = (fun _ => 1#1)) :
    (∀ i, Real (a0 i)) ∧ (∀ i, Real (a1 i)) ∧ (∀ i, Real (a3 i)) ∧ (∀ i, Real (a6 i)) :=
  ⟨fun i => real_of_abs (congrFun h.1 i), fun i => real_of_abs (congrFun h.2.1 i), fun i => real_of_abs (congrFun h.2.2.1 i), fun i => real_of_abs (congrFun h.2.2.2 i)⟩

/-- On finite arguments the two programs end with one result. -/
theorem algebraic : @Cert.algebraic_KernelIdeal_ReferenceIdeal_pre_finite Cert.KernelIdeal.Gen.facts Cert.ReferenceIdeal.Gen.facts facts_Pre_finite := by
  intro m g m' g' hpre hargs
  have hr (c : Dev Cert.KernelIdeal.nD) := @real_args facts_Pre_finite _ _ _ _ _ _ _ (hpre c)
  refine ⟨fun c => Cert.KernelIdeal.Whole.W12 m c (Proc.devRef .tc Cert.KernelIdeal.main_v19), ?_, ?_⟩
  · refine (θ_run (Cert.KernelIdeal.defs (F := Ideal)) _ _).mono (fun r h c => ⟨?_, Cert.KernelIdeal.Whole.kept m r.2 h.1 c⟩) (Cert.KernelIdeal.Whole.run (F := Ideal) m g)
    exact h.1 c _ (Cert.Whole.mem_uc Cert.KernelIdeal.main_v19 (by decide))
  · refine (θ_run (Cert.ReferenceIdeal.defs (F := Ideal)) _ _).mono (fun r h c => ⟨?_, (h c).2⟩) (Cert.ReferenceIdeal.Value.run (F := Ideal) m' g')
    obtain ⟨r0, r1, r3, r6⟩ := hr c
    obtain ⟨e0, e1, e2, e3, e4, e5, e6⟩ := hargs c
    refine (h c).1.trans ((Cert.ReferenceIdeal.Whole.result_eq m' c ?_ ?_ ?_).trans ?_)
    · intro i; exact (congrArg Real (congrFun e0 i)).mpr (r0 i)
    · intro i; exact (congrArg Real (congrFun e1 i)).mpr (r1 i)
    · intro i; exact (congrArg Real (congrFun e3 i)).mpr (r3 i)
    · refine Eq.trans ?_ (Cert.KernelIdeal.Whole.result_eq m c r3 r6).symm
      exact answer_congr e0 e1 e2 e3 e4 e5 e6

theorem claim : Cert.Claim :=
  ⟨Cert.Kernel.Gen.facts, Cert.KernelIdeal.Gen.facts, Cert.ReferenceIdeal.Gen.facts, facts_Pre_finite, frame_Kernel, frame_KernelIdeal,
    fun m g _ => frame_KernelIdeal m g trivial, fun m g _ => Cert.ReferenceIdeal.Gen.frame m g, fun m g _ => Cert.ReferenceIdeal.Gen.frame m g,
    IdealRules.sign_bit.statement Cert.KernelIdeal.S16x16x2048 .f32, algebraic⟩

end Cert.Proof

end
